-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_routing [hPre_finite_routing : Cert.Pre_finite_routing.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_routing.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_routing [hPre_finite_routing : Cert.Pre_finite_routing.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_routing.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_routing [hKernel2Ideal : Cert.Kernel2Ideal.Facts] [hPre_finite_routing : Cert.Pre_finite_routing.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_routing m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_routing [hReference2Ideal : Cert.Reference2Ideal.Facts] [hPre_finite_routing : Cert.Pre_finite_routing.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_routing m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_routing [hKernel2Ideal : Cert.Kernel2Ideal.Facts] [hReference2Ideal : Cert.Reference2Ideal.Facts] [hPre_finite_routing : Cert.Pre_finite_routing.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_routing m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_finite_routing : Cert.Pre_finite_routing.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_routing (hKernel2Ideal := hKernel2Ideal) (hPre_finite_routing := hPre_finite_routing)
    ∧ quiescent_Reference2Ideal (hReference2Ideal := hReference2Ideal)
    ∧ quiescent_Reference2Ideal_pre_finite_routing (hReference2Ideal := hReference2Ideal) (hPre_finite_routing := hPre_finite_routing)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_routing (hKernel2Ideal := hKernel2Ideal) (hReference2Ideal := hReference2Ideal) (hPre_finite_routing := hPre_finite_routing)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S2x16384x8x96 : Shape := ⟨4, ![2, 16384, 8, 96]⟩
abbrev S2x16384x8x64 : Shape := ⟨4, ![2, 16384, 8, 64]⟩
abbrev S_ : Shape := ⟨0, ![]⟩

class Facts : Prop where
  bcast_S_S2x16384x8x96 : S_.BroadcastsInDim S2x16384x8x96 (![] : Fin 0 → Fin S2x16384x8x96.rank)
  reducesTo_S2x16384x8x96_S_d0_1_2_3 : S2x16384x8x96.ReducesTo [0, 1, 2, 3] S_
  h_S_ : 0 < S_.numel

variable [Facts]

def fn {F : FTy → Type} [FloatOps F] (main_arg0 : FVec F S2x16384x8x96 .f32) (main_arg1 : FVec F S2x16384x8x96 .f32) (main_arg2 : FVec F S2x16384x8x64 .f32) : IVec S_ 1 :=
  let main_v0 : FVec F S2x16384x8x96 .f32 := Host.absf main_arg0
  let main_cst : FVec F S_ .f32 := constant S_ .f32 0x7F800000#32
  let main_v1 : FVec F S2x16384x8x96 .f32 := broadcastInDim S2x16384x8x96 ![] bcast_S_S2x16384x8x96 main_cst
  let main_v2 : IVec S2x16384x8x96 1 := cmpf .olt main_v0 main_v1
  let main_c : IVec S_ 1 := constantI S_ 1 1#1
  let main_v3 : IVec S_ 1 := (fun x v => Host.reduce IntOp.andi x v reducesTo_S2x16384x8x96_S_d0_1_2_3 h_S_) main_v2 main_c
  let main_v4 : FVec F S2x16384x8x96 .f32 := Host.absf main_arg1
  let main_cst_0 : FVec F S_ .f32 := constant S_ .f32 0x7F800000#32
  let main_v5 : FVec F S2x16384x8x96 .f32 := broadcastInDim S2x16384x8x96 ![] bcast_S_S2x16384x8x96 main_cst_0
  let main_v6 : IVec S2x16384x8x96 1 := cmpf .olt main_v4 main_v5
  let main_c_1 : IVec S_ 1 := constantI S_ 1 1#1
  let main_v7 : IVec S_ 1 := (fun x v => Host.reduce IntOp.andi x v reducesTo_S2x16384x8x96_S_d0_1_2_3 h_S_) main_v6 main_c_1
  let main_v8 : IVec S_ 1 := andi main_v3 main_v7
  main_v8
-- ==== Pre_finite_routing.lean ====
abbrev S2x16384x1024 : Shape := ⟨3, ![2, 16384, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x16384x1024 .f32) (main_arg1 : FVec F S1024x16 .f32) (main_arg2 : FVec F S16 .f32) (main_arg3 : FVec F S16x1024x512 .f32) (main_arg4 : FVec F S16x1024x512 .f32) (main_arg5 : FVec F S16x512x1024 .f32) (main_arg6 : FVec F S1024 .f32) (main_arg7 : FVec F S1024 .f32) : IVec S_ 1 :=
  let main_v0 : FVec F S1024x16 .f32 := Host.absf main_arg1
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_cst_0 : FVec F S_ .f32 := constant S_ .f32 0xFF800000#32
  let main_v4 : FVec F S16 .f32 := broadcastInDim S16 ![] bcast_S_S16 main_cst_0
  let main_v5 : IVec S16 1 := cmpf .ogt main_arg2 main_v4
  let main_c_1 : IVec S_ 1 := constantI S_ 1 1#1
  let main_v6 : IVec S_ 1 := (fun x v => Host.reduce IntOp.andi x v reducesTo_S16_S_d0 h_S_) main_v5 main_c_1
  let main_v7 : IVec S_ 1 := andi main_v3 main_v6
  main_v7
-- ==== Kernel.lean ====
abbrev S2x16384x8x96 : Shape := ⟨4, ![2, 16384, 8, 96]⟩
abbrev S2x16384x8x64 : Shape := ⟨4, ![2, 16384, 8, 64]⟩
abbrev S_ : Shape := ⟨0, ![]⟩
abbrev S2x8x16384x96 : Shape := ⟨4, ![2, 8, 16384, 96]⟩
abbrev S2x8x16384x128 : Shape := ⟨4, ![2, 8, 16384, 128]⟩
abbrev S2x32x512x8x64 : Shape := ⟨5, ![2, 32, 512, 8, 64]⟩
abbrev S2x8x32x64x512 : Shape := ⟨5, ![2, 8, 32, 64, 512]⟩
abbrev S2x8x32x16x512 : Shape := ⟨5, ![2, 8, 32, 16, 512]⟩
abbrev S2x8x32x80x512 : Shape := ⟨5, ![2, 8, 32, 80, 512]⟩
abbrev S2x16384x512 : Shape := ⟨3, ![2, 16384, 512]⟩
abbrev S1x4x512x128 : Shape := ⟨4, ![1, 4, 512, 128]⟩
abbrev S1x4x16384x128 : Shape := ⟨4, ![1, 4, 16384, 128]⟩
abbrev S1x4x32x80x512 : Shape := ⟨5, ![1, 4, 32, 80, 512]⟩
abbrev S1x512x256 : Shape := ⟨3, ![1, 512, 256]⟩
abbrev S4x1x512 : Shape := ⟨3, ![4, 1, 512]⟩
abbrev S4x80x512 : Shape := ⟨3, ![4, 80, 512]⟩
abbrev S4x512x512 : Shape := ⟨3, ![4, 512, 512]⟩
abbrev S1x512 : Shape := ⟨2, ![1, 512]⟩
abbrev S1x1x512 : Shape := ⟨3, ![1, 1, 512]⟩
abbrev S80x512 : Shape := ⟨2, ![80, 512]⟩
abbrev S1x80x512 : Shape := ⟨3, ![1, 80, 512]⟩
abbrev S1x1x512x128 : Shape := ⟨4, ![1, 1, 512, 128]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S1x1x1x80x512 : Shape := ⟨5, ![1, 1, 1, 80, 512]⟩
abbrev S64x512 : Shape := ⟨2, ![64, 512]⟩
abbrev S256x512 : Shape := ⟨2, ![256, 512]⟩
abbrev S512x256 : Shape := ⟨2, ![512, 256]⟩

abbrev nBuf : Space → Nat
  | .hbm => 27
  | .vmem => 9
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16384x8x96, .f32⟩
  | .hbm, ⟨9, _⟩ => ⟨S2x16384x8x96, .f32⟩
  | .hbm, ⟨10, _⟩ => ⟨S2x8x16384x96, .f32⟩
  | .hbm, ⟨11, _⟩ => ⟨S_, .i32⟩
  | .hbm, ⟨12, _⟩ => ⟨S_, .f32⟩
  | .hbm, ⟨13, _⟩ => ⟨S2x8x16384x128, .f32⟩
  | .hbm, ⟨14, _⟩ => ⟨S2x8x16384x128, .bf16⟩
  | .hbm, ⟨15, _⟩ => ⟨S2x8x16384x96, .f32⟩
  | .hbm, ⟨16, _⟩ => ⟨S_, .i32⟩
  | .hbm, ⟨17, _⟩ => ⟨S_, .f32⟩
  | .hbm, ⟨18, _⟩ => ⟨S2x8x16384x128, .f32⟩
  | .hbm, ⟨19, _⟩ => ⟨S2x8x16384x128, .bf16⟩
  | .hbm, ⟨20, _⟩ => ⟨S2x32x512x8x64, .f32⟩
  | .hbm, ⟨21, _⟩ => ⟨S2x8x32x64x512, .f32⟩
  | .hbm, ⟨22, _⟩ => ⟨S_, .f32⟩
  | .hbm, ⟨23, _⟩ => ⟨S2x8x32x16x512, .f32⟩
  | .hbm, ⟨24, _⟩ => ⟨S2x8x32x80x512, .f32⟩
  | .hbm, ⟨25, _⟩ => ⟨S2x8x32x80x512, .bf16⟩
  | .hbm, ⟨26, _⟩ => ⟨S2x16384x512, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x16384x128, .bf16⟩
  | .local _ .vmem, ⟨3, _⟩ => ⟨S1x4x32x80x512, .bf16⟩
  | .local _ .vmem, ⟨4, _⟩ => ⟨S1x512x256, .bf16⟩
  | .local _ .vmem, ⟨5, _⟩ => ⟨S1x512x256, .bf16⟩
  | .local _ .vmem, ⟨6, _⟩ => ⟨S4x1x512, .f32⟩
  | .local _ .vmem, ⟨7, _⟩ => ⟨S4x80x512, .f32⟩
  | .local _ .vmem, ⟨8, _⟩ => ⟨S4x512x512, .f32⟩
  | _, _ => ⟨S2x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 2, 32], ![false, false, false]⟩

def k0_mult1 : BitVec 32 :=
  let c0_i32 : BitVec 32 := 0#32
  c0_i32
@[reducible] def k0_t1_loop (i : grid0.Coords) : Scf.Loop 32 :=
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_46 : BitVec 32 := 1#32
  ⟨c0_i32_44, v63, c1_i32_46⟩
def k0_mult2 (i : grid0.Coords) (k0_t1 : Fin (k0_t1_loop i).trips) : BitVec 32 :=
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c512_i32_195 : BitVec 32 := 512#32
  let v273 : BitVec 32 := Scalar.muli v272 c512_i32_195
  v273
def k0_off1 (i : grid0.Coords) (k0_t1 : Fin (k0_t1_loop i).trips) : Fin 4 → Nat :=
  let c0_196 : Index := 0#32
  let c1_197 : Index := 1#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c512_i32_195 : BitVec 32 := 512#32
  let v273 : BitVec 32 := Scalar.muli v272 c512_i32_195
  let v274 : BitVec 32 := v273
  let v275 : Index := Scalar.indexCast v274
  let c0_198 : Index := 0#32
  ![0, 1, v275.toNat, 0]
def k0_off2 (i : grid0.Coords) (k0_t1 : Fin (k0_t1_loop i).trips) : Fin 5 → Nat :=
  let c0_217 : Index := 0#32
  let c0_218 : Index := 0#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let v300 : Index := Scalar.indexCast v272
  let c0_219 : Index := 0#32
  let c0_220 : Index := 0#32
  ![0, 0, v300.toNat, 0, 0]
def k0_mult3 (i : grid0.Coords) (k0_t1 : Fin (k0_t1_loop i).trips) : BitVec 32 :=
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c512_i32_228 : BitVec 32 := 512#32
  let v312 : BitVec 32 := Scalar.muli v272 c512_i32_228
  v312
def k0_off3 (i : grid0.Coords) (k0_t1 : Fin (k0_t1_loop i).trips) : Fin 4 → Nat :=
  let c0_229 : Index := 0#32
  let c2_230 : Index := 2#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c512_i32_228 : BitVec 32 := 512#32
  let v312 : BitVec 32 := Scalar.muli v272 c512_i32_228
  let v313 : BitVec 32 := v312
  let v314 : Index := Scalar.indexCast v313
  let c0_231 : Index := 0#32
  ![0, 2, v314.toNat, 0]
def k0_off4 (i : grid0.Coords) (k0_t1 : Fin (k0_t1_loop i).trips) : Fin 5 → Nat :=
  let c0_250 : Index := 0#32
  let c1_251 : Index := 1#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let v339 : Index := Scalar.indexCast v272
  let c0_252 : Index := 0#32
  let c0_253 : Index := 0#32
  ![0, 1, v339.toNat, 0, 0]
def k0_mult4 (i : grid0.Coords) (k0_t1 : Fin (k0_t1_loop i).trips) : BitVec 32 :=
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c512_i32_261 : BitVec 32 := 512#32
  let v351 : BitVec 32 := Scalar.muli v272 c512_i32_261
  v351
def k0_off5 (i : grid0.Coords) (k0_t1 : Fin (k0_t1_loop i).trips) : Fin 4 → Nat :=
  let c0_262 : Index := 0#32
  let c3_263 : Index := 3#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c512_i32_261 : BitVec 32 := 512#32
  let v351 : BitVec 32 := Scalar.muli v272 c512_i32_261
  let v352 : BitVec 32 := v351
  let v353 : Index := Scalar.indexCast v352
  let c0_264 : Index := 0#32
  ![0, 3, v353.toNat, 0]
def k0_off6 (i : grid0.Coords) (k0_t1 : Fin (k0_t1_loop i).trips) : Fin 5 → Nat :=
  let c0_283 : Index := 0#32
  let c2_284 : Index := 2#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let v378 : Index := Scalar.indexCast v272
  let c0_285 : Index := 0#32
  let c0_286 : Index := 0#32
  ![0, 2, v378.toNat, 0, 0]
def k0_mult5 (i : grid0.Coords) (k0_t1 : Fin (k0_t1_loop i).trips) : BitVec 32 :=
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c1_i32_294 : BitVec 32 := 1#32
  let v390 : BitVec 32 := Scalar.addi v272 c1_i32_294
  let c512_i32_295 : BitVec 32 := 512#32
  let v391 : BitVec 32 := Scalar.muli v390 c512_i32_295
  v391
def k0_off7 (i : grid0.Coords) (k0_t1 : Fin (k0_t1_loop i).trips) : Fin 4 → Nat :=
  let c0_296 : Index := 0#32
  let c0_297 : Index := 0#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let c1_i32_294 : BitVec 32 := 1#32
  let v390 : BitVec 32 := Scalar.addi v272 c1_i32_294
  let c512_i32_295 : BitVec 32 := 512#32
  let v391 : BitVec 32 := Scalar.muli v390 c512_i32_295
  let v392 : BitVec 32 := v391
  let v393 : Index := Scalar.indexCast v392
  let c0_298 : Index := 0#32
  ![0, 0, v393.toNat, 0]
def k0_off8 (i : grid0.Coords) (k0_t1 : Fin (k0_t1_loop i).trips) : Fin 5 → Nat :=
  let c0_317 : Index := 0#32
  let c3_318 : Index := 3#32
  let c2_i32_194 : BitVec 32 := 2#32
  let c0_i32_44 : BitVec 32 := 0#32
  let c1_i32_46 : BitVec 32 := 1#32
  let arg10 : BitVec 32 := Scf.iv c0_i32_44 c1_i32_46 k0_t1
  let v272 : BitVec 32 := Scalar.muli c2_i32_194 arg10
  let v418 : Index := Scalar.indexCast v272
  let c0_319 : Index := 0#32
  let c0_320 : Index := 0#32
  ![0, 3, v418.toNat, 0, 0]
def k0_mult6 (i : grid0.Coords) (k0_t1 : Fin (k0_t1_loop i).trips) : BitVec 32 :=
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c512_i32_330 : BitVec 32 := 512#32
  let v432 : BitVec 32 := Scalar.muli v431 c512_i32_330
  v432
def k0_off9 (i : grid0.Coords) (k0_t1 : Fin (k0_t1_loop i).trips) : Fin 4 → Nat :=
  let c0_331 : Index := 0#32
  let c1_332 : Index := 1#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c512_i32_330 : BitVec 32 := 512#32
  let v432 : BitVec 32 := Scalar.muli v431 c512_i32_330
  let v433 : BitVec 32 := v432
  let v434 : Index := Scalar.indexCast v433
  let c0_333 : Index := 0#32
  ![0, 1, v434.toNat, 0]
def k0_off10 (i : grid0.Coords) (k0_t1 : Fin (k0_t1_loop i).trips) : Fin 5 → Nat :=
  let c0_352 : Index := 0#32
  let c0_353 : Index := 0#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let v459 : Index := Scalar.indexCast v431
  let c0_354 : Index := 0#32
  let c0_355 : Index := 0#32
  ![0, 0, v459.toNat, 0, 0]
def k0_mult7 (i : grid0.Coords) (k0_t1 : Fin (k0_t1_loop i).trips) : BitVec 32 :=
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c512_i32_363 : BitVec 32 := 512#32
  let v471 : BitVec 32 := Scalar.muli v431 c512_i32_363
  v471
def k0_off11 (i : grid0.Coords) (k0_t1 : Fin (k0_t1_loop i).trips) : Fin 4 → Nat :=
  let c0_364 : Index := 0#32
  let c2_365 : Index := 2#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c512_i32_363 : BitVec 32 := 512#32
  let v471 : BitVec 32 := Scalar.muli v431 c512_i32_363
  let v472 : BitVec 32 := v471
  let v473 : Index := Scalar.indexCast v472
  let c0_366 : Index := 0#32
  ![0, 2, v473.toNat, 0]
def k0_off12 (i : grid0.Coords) (k0_t1 : Fin (k0_t1_loop i).trips) : Fin 5 → Nat :=
  let c0_385 : Index := 0#32
  let c1_386 : Index := 1#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let v498 : Index := Scalar.indexCast v431
  let c0_387 : Index := 0#32
  let c0_388 : Index := 0#32
  ![0, 1, v498.toNat, 0, 0]
def k0_mult8 (i : grid0.Coords) (k0_t1 : Fin (k0_t1_loop i).trips) : BitVec 32 :=
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c512_i32_396 : BitVec 32 := 512#32
  let v510 : BitVec 32 := Scalar.muli v431 c512_i32_396
  v510
def k0_off13 (i : grid0.Coords) (k0_t1 : Fin (k0_t1_loop i).trips) : Fin 4 → Nat :=
  let c0_397 : Index := 0#32
  let c3_398 : Index := 3#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c512_i32_396 : BitVec 32 := 512#32
  let v510 : BitVec 32 := Scalar.muli v431 c512_i32_396
  let v511 : BitVec 32 := v510
  let v512 : Index := Scalar.indexCast v511
  let c0_399 : Index := 0#32
  ![0, 3, v512.toNat, 0]
def k0_off14 (i : grid0.Coords) (k0_t1 : Fin (k0_t1_loop i).trips) : Fin 5 → Nat :=
  let c0_418 : Index := 0#32
  let c2_419 : Index := 2#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let v537 : Index := Scalar.indexCast v431
  let c0_420 : Index := 0#32
  let c0_421 : Index := 0#32
  ![0, 2, v537.toNat, 0, 0]
def k0_mult9 (i : grid0.Coords) (k0_t1 : Fin (k0_t1_loop i).trips) : BitVec 32 :=
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c1_i32_429 : BitVec 32 := 1#32
  let v549 : BitVec 32 := Scalar.addi v431 c1_i32_429
  let c512_i32_430 : BitVec 32 := 512#32
  let v550 : BitVec 32 := Scalar.muli v549 c512_i32_430
  v550
def k0_off15 (i : grid0.Coords) (k0_t1 : Fin (k0_t1_loop i).trips) : Fin 4 → Nat :=
  let c0_431 : Index := 0#32
  let c0_432 : Index := 0#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let c1_i32_429 : BitVec 32 := 1#32
  let v549 : BitVec 32 := Scalar.addi v431 c1_i32_429
  let c512_i32_430 : BitVec 32 := 512#32
  let v550 : BitVec 32 := Scalar.muli v549 c512_i32_430
  let v551 : BitVec 32 := v550
  let v552 : Index := Scalar.indexCast v551
  let c0_433 : Index := 0#32
  ![0, 0, v552.toNat, 0]
def k0_off16 (i : grid0.Coords) (k0_t1 : Fin (k0_t1_loop i).trips) : Fin 5 → Nat :=
  let c0_452 : Index := 0#32
  let c3_453 : Index := 3#32
  let c2_i32_328 : BitVec 32 := 2#32
  let c0_i32_44 : BitVec 32 := 0#32
  let c1_i32_46 : BitVec 32 := 1#32
  let arg10 : BitVec 32 := Scf.iv c0_i32_44 c1_i32_46 k0_t1
  let v430 : BitVec 32 := Scalar.muli c2_i32_328 arg10
  let c1_i32_329 : BitVec 32 := 1#32
  let v431 : BitVec 32 := Scalar.addi v430 c1_i32_329
  let v577 : Index := Scalar.indexCast v431
  let c0_454 : Index := 0#32
  let c0_455 : Index := 0#32
  ![0, 3, v577.toNat, 0, 0]
@[reducible] def k0_t2_loop (i : grid0.Coords) : Scf.Loop 32 :=
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let v60 : BitVec 32 := Scalar.addi c0_i32_44 v59
  let c1_i32_47 : BitVec 32 := 1#32
  ⟨v63, v60, c1_i32_47⟩
def k0_mult10 (i : grid0.Coords) (k0_t2 : Fin (k0_t2_loop i).trips) : BitVec 32 :=
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c512_i32_195 : BitVec 32 := 512#32
  let v273 : BitVec 32 := Scalar.muli v272 c512_i32_195
  v273
def k0_off17 (i : grid0.Coords) (k0_t2 : Fin (k0_t2_loop i).trips) : Fin 4 → Nat :=
  let c0_196 : Index := 0#32
  let c1_197 : Index := 1#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c512_i32_195 : BitVec 32 := 512#32
  let v273 : BitVec 32 := Scalar.muli v272 c512_i32_195
  let v274 : BitVec 32 := v273
  let v275 : Index := Scalar.indexCast v274
  let c0_198 : Index := 0#32
  ![0, 1, v275.toNat, 0]
def k0_off18 (i : grid0.Coords) (k0_t2 : Fin (k0_t2_loop i).trips) : Fin 5 → Nat :=
  let c0_217 : Index := 0#32
  let c0_218 : Index := 0#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let v300 : Index := Scalar.indexCast v272
  let c0_219 : Index := 0#32
  let c0_220 : Index := 0#32
  ![0, 0, v300.toNat, 0, 0]
def k0_mult11 (i : grid0.Coords) (k0_t2 : Fin (k0_t2_loop i).trips) : BitVec 32 :=
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c512_i32_228 : BitVec 32 := 512#32
  let v312 : BitVec 32 := Scalar.muli v272 c512_i32_228
  v312
def k0_off19 (i : grid0.Coords) (k0_t2 : Fin (k0_t2_loop i).trips) : Fin 4 → Nat :=
  let c0_229 : Index := 0#32
  let c2_230 : Index := 2#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c512_i32_228 : BitVec 32 := 512#32
  let v312 : BitVec 32 := Scalar.muli v272 c512_i32_228
  let v313 : BitVec 32 := v312
  let v314 : Index := Scalar.indexCast v313
  let c0_231 : Index := 0#32
  ![0, 2, v314.toNat, 0]
def k0_off20 (i : grid0.Coords) (k0_t2 : Fin (k0_t2_loop i).trips) : Fin 5 → Nat :=
  let c0_250 : Index := 0#32
  let c1_251 : Index := 1#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let v339 : Index := Scalar.indexCast v272
  let c0_252 : Index := 0#32
  let c0_253 : Index := 0#32
  ![0, 1, v339.toNat, 0, 0]
def k0_mult12 (i : grid0.Coords) (k0_t2 : Fin (k0_t2_loop i).trips) : BitVec 32 :=
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c512_i32_261 : BitVec 32 := 512#32
  let v351 : BitVec 32 := Scalar.muli v272 c512_i32_261
  v351
def k0_off21 (i : grid0.Coords) (k0_t2 : Fin (k0_t2_loop i).trips) : Fin 4 → Nat :=
  let c0_262 : Index := 0#32
  let c3_263 : Index := 3#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c512_i32_261 : BitVec 32 := 512#32
  let v351 : BitVec 32 := Scalar.muli v272 c512_i32_261
  let v352 : BitVec 32 := v351
  let v353 : Index := Scalar.indexCast v352
  let c0_264 : Index := 0#32
  ![0, 3, v353.toNat, 0]
def k0_off22 (i : grid0.Coords) (k0_t2 : Fin (k0_t2_loop i).trips) : Fin 5 → Nat :=
  let c0_283 : Index := 0#32
  let c2_284 : Index := 2#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let v378 : Index := Scalar.indexCast v272
  let c0_285 : Index := 0#32
  let c0_286 : Index := 0#32
  ![0, 2, v378.toNat, 0, 0]
def k0_mult13 (i : grid0.Coords) (k0_t2 : Fin (k0_t2_loop i).trips) : BitVec 32 :=
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c1_i32_294 : BitVec 32 := 1#32
  let v390 : BitVec 32 := Scalar.addi v272 c1_i32_294
  let c512_i32_295 : BitVec 32 := 512#32
  let v391 : BitVec 32 := Scalar.muli v390 c512_i32_295
  v391
def k0_off23 (i : grid0.Coords) (k0_t2 : Fin (k0_t2_loop i).trips) : Fin 4 → Nat :=
  let c0_296 : Index := 0#32
  let c0_297 : Index := 0#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let c1_i32_294 : BitVec 32 := 1#32
  let v390 : BitVec 32 := Scalar.addi v272 c1_i32_294
  let c512_i32_295 : BitVec 32 := 512#32
  let v391 : BitVec 32 := Scalar.muli v390 c512_i32_295
  let v392 : BitVec 32 := v391
  let v393 : Index := Scalar.indexCast v392
  let c0_298 : Index := 0#32
  ![0, 0, v393.toNat, 0]
def k0_off24 (i : grid0.Coords) (k0_t2 : Fin (k0_t2_loop i).trips) : Fin 5 → Nat :=
  let c0_317 : Index := 0#32
  let c3_318 : Index := 3#32
  let c2_i32_194 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v272 : BitVec 32 := Scalar.muli c2_i32_194 arg10
  let v418 : Index := Scalar.indexCast v272
  let c0_319 : Index := 0#32
  let c0_320 : Index := 0#32
  ![0, 3, v418.toNat, 0, 0]
def k0_mult14 (i : grid0.Coords) (k0_t2 : Fin (k0_t2_loop i).trips) : BitVec 32 :=
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c512_i32_330 : BitVec 32 := 512#32
  let v432 : BitVec 32 := Scalar.muli v431 c512_i32_330
  v432
def k0_off25 (i : grid0.Coords) (k0_t2 : Fin (k0_t2_loop i).trips) : Fin 4 → Nat :=
  let c0_331 : Index := 0#32
  let c1_332 : Index := 1#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c512_i32_330 : BitVec 32 := 512#32
  let v432 : BitVec 32 := Scalar.muli v431 c512_i32_330
  let v433 : BitVec 32 := v432
  let v434 : Index := Scalar.indexCast v433
  let c0_333 : Index := 0#32
  ![0, 1, v434.toNat, 0]
def k0_off26 (i : grid0.Coords) (k0_t2 : Fin (k0_t2_loop i).trips) : Fin 5 → Nat :=
  let c0_352 : Index := 0#32
  let c0_353 : Index := 0#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let v459 : Index := Scalar.indexCast v431
  let c0_354 : Index := 0#32
  let c0_355 : Index := 0#32
  ![0, 0, v459.toNat, 0, 0]
def k0_mult15 (i : grid0.Coords) (k0_t2 : Fin (k0_t2_loop i).trips) : BitVec 32 :=
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c512_i32_363 : BitVec 32 := 512#32
  let v471 : BitVec 32 := Scalar.muli v431 c512_i32_363
  v471
def k0_off27 (i : grid0.Coords) (k0_t2 : Fin (k0_t2_loop i).trips) : Fin 4 → Nat :=
  let c0_364 : Index := 0#32
  let c2_365 : Index := 2#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c512_i32_363 : BitVec 32 := 512#32
  let v471 : BitVec 32 := Scalar.muli v431 c512_i32_363
  let v472 : BitVec 32 := v471
  let v473 : Index := Scalar.indexCast v472
  let c0_366 : Index := 0#32
  ![0, 2, v473.toNat, 0]
def k0_off28 (i : grid0.Coords) (k0_t2 : Fin (k0_t2_loop i).trips) : Fin 5 → Nat :=
  let c0_385 : Index := 0#32
  let c1_386 : Index := 1#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let v498 : Index := Scalar.indexCast v431
  let c0_387 : Index := 0#32
  let c0_388 : Index := 0#32
  ![0, 1, v498.toNat, 0, 0]
def k0_mult16 (i : grid0.Coords) (k0_t2 : Fin (k0_t2_loop i).trips) : BitVec 32 :=
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c512_i32_396 : BitVec 32 := 512#32
  let v510 : BitVec 32 := Scalar.muli v431 c512_i32_396
  v510
def k0_off29 (i : grid0.Coords) (k0_t2 : Fin (k0_t2_loop i).trips) : Fin 4 → Nat :=
  let c0_397 : Index := 0#32
  let c3_398 : Index := 3#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c512_i32_396 : BitVec 32 := 512#32
  let v510 : BitVec 32 := Scalar.muli v431 c512_i32_396
  let v511 : BitVec 32 := v510
  let v512 : Index := Scalar.indexCast v511
  let c0_399 : Index := 0#32
  ![0, 3, v512.toNat, 0]
def k0_off30 (i : grid0.Coords) (k0_t2 : Fin (k0_t2_loop i).trips) : Fin 5 → Nat :=
  let c0_418 : Index := 0#32
  let c2_419 : Index := 2#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let v537 : Index := Scalar.indexCast v431
  let c0_420 : Index := 0#32
  let c0_421 : Index := 0#32
  ![0, 2, v537.toNat, 0, 0]
def k0_mult17 (i : grid0.Coords) (k0_t2 : Fin (k0_t2_loop i).trips) : BitVec 32 :=
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c1_i32_429 : BitVec 32 := 1#32
  let v549 : BitVec 32 := Scalar.addi v431 c1_i32_429
  let c512_i32_430 : BitVec 32 := 512#32
  let v550 : BitVec 32 := Scalar.muli v549 c512_i32_430
  v550
def k0_off31 (i : grid0.Coords) (k0_t2 : Fin (k0_t2_loop i).trips) : Fin 4 → Nat :=
  let c0_431 : Index := 0#32
  let c0_432 : Index := 0#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let c1_i32_429 : BitVec 32 := 1#32
  let v549 : BitVec 32 := Scalar.addi v431 c1_i32_429
  let c512_i32_430 : BitVec 32 := 512#32
  let v550 : BitVec 32 := Scalar.muli v549 c512_i32_430
  let v551 : BitVec 32 := v550
  let v552 : Index := Scalar.indexCast v551
  let c0_433 : Index := 0#32
  ![0, 0, v552.toNat, 0]
def k0_off32 (i : grid0.Coords) (k0_t2 : Fin (k0_t2_loop i).trips) : Fin 5 → Nat :=
  let c0_452 : Index := 0#32
  let c3_453 : Index := 3#32
  let c2_i32_328 : BitVec 32 := 2#32
  let c0_i32_44 : BitVec 32 := 0#32
  let arg2 : BitVec 32 := BitVec.ofNat 32 (i 2).val
  let c0_i32_38 : BitVec 32 := 0#32
  let v43 : BitVec 1 := Scalar.cmpi .sgt arg2 c0_i32_38
  let v44 : BitVec 32 := Scalar.extui v43
  let c0_i32_39 : BitVec 32 := 0#32
  let v45 : BitVec 1 := Scalar.cmpi .slt arg2 c0_i32_39
  let v46 : BitVec 32 := Scalar.extui v45
  let v47 : BitVec 32 := Scalar.subi v44 v46
  let c2_i32 : BitVec 32 := 2#32
  let c0_i32_40 : BitVec 32 := 0#32
  let v48 : BitVec 1 := Scalar.cmpi .sgt c2_i32 c0_i32_40
  let v49 : BitVec 32 := Scalar.extui v48
  let c0_i32_41 : BitVec 32 := 0#32
  let v50 : BitVec 1 := Scalar.cmpi .slt c2_i32 c0_i32_41
  let v51 : BitVec 32 := Scalar.extui v50
  let v52 : BitVec 32 := Scalar.subi v49 v51
  let v53 : BitVec 1 := Scalar.cmpi .ne v47 v52
  let v54 : BitVec 32 := Scalar.remsi arg2 c2_i32
  let c0_i32_42 : BitVec 32 := 0#32
  let v55 : BitVec 1 := Scalar.cmpi .ne v54 c0_i32_42
  let v56 : BitVec 1 := Scalar.andi v53 v55
  let v42 : BitVec 32 := Scalar.divsi arg2 c2_i32
  let c1_i32 : BitVec 32 := 1#32
  let v57 : BitVec 32 := Scalar.subi v42 c1_i32
  let v58 : BitVec 32 := Scalar.select v56 v57 v42
  let v59 : BitVec 32 := Scalar.subi v58 c0_i32_44
  let c1_i32_45 : BitVec 32 := 1#32
  let v61 : BitVec 32 := Scalar.divsi v59 c1_i32_45
  let v62 : BitVec 32 := Scalar.muli v61 c1_i32_45
  let v63 : BitVec 32 := Scalar.addi c0_i32_44 v62
  let c1_i32_47 : BitVec 32 := 1#32
  let arg10 : BitVec 32 := Scf.iv v63 c1_i32_47 k0_t2
  let v430 : BitVec 32 := Scalar.muli c2_i32_328 arg10
  let c1_i32_329 : BitVec 32 := 1#32
  let v431 : BitVec 32 := Scalar.addi v430 c1_i32_329
  let v577 : Index := Scalar.indexCast v431
  let c0_454 : Index := 0#32
  let c0_455 : Index := 0#32
  ![0, 3, v577.toNat, 0, 0]
def k0_cond1 (i : grid0.Coords) : BitVec 1 :=
  let arg2 : BitVec 32 := BitVec.ofNat 32 (i 2).val
  let c2_i32_48 : BitVec 32 := 2#32
  let c0_i32_49 : BitVec 32 := 0#32
  let v64 : BitVec 1 := Scalar.cmpi .eq c2_i32_48 c0_i32_49
  let c1_i32_50 : BitVec 32 := 1#32
  let v65 : BitVec 32 := Scalar.select v64 c1_i32_50 c2_i32_48
  let v66 : BitVec 32 := Scalar.remsi arg2 v65
  let c0_i32_52 : BitVec 32 := 0#32
  let v68 : BitVec 1 := Scalar.cmpi .slt v66 c0_i32_52
  let c0_i32_53 : BitVec 32 := 0#32
  let v69 : BitVec 1 := Scalar.cmpi .slt v65 c0_i32_53
  let v70 : BitVec 1 := Scalar.xori v68 v69
  let c0_i32_51 : BitVec 32 := 0#32
  let v67 : BitVec 1 := Scalar.cmpi .ne v66 c0_i32_51
  let v71 : BitVec 1 := Scalar.andi v70 v67
  let v72 : BitVec 32 := Scalar.addi v66 v65
  let v73 : BitVec 32 := Scalar.select v71 v72 v66
  let c1_i32_54 : BitVec 32 := 1#32
  let v74 : BitVec 1 := Scalar.cmpi .eq v73 c1_i32_54
  let v75 : BitVec 32 := Scalar.extui v74
  let c0_i32_55 : BitVec 32 := 0#32
  let v76 : BitVec 1 := Scalar.cmpi .ne v75 c0_i32_55
  v76

def k0_mult18 (i : grid0.Coords) : BitVec 32 :=
  let arg2 : BitVec 32 := BitVec.ofNat 32 (i 2).val
  let c1_i32_194 : BitVec 32 := 1#32
  let v272 : BitVec 32 := Scalar.subi arg2 c1_i32_194
  let c512_i32_195 : BitVec 32 := 512#32
  let v273 : BitVec 32 := Scalar.muli v272 c512_i32_195
  v273
def k0_off33 (i : grid0.Coords) : Fin 4 → Nat :=
  let c0_196 : Index := 0#32
  let c1_197 : Index := 1#32
  let arg2 : BitVec 32 := BitVec.ofNat 32 (i 2).val
  let c1_i32_194 : BitVec 32 := 1#32
  let v272 : BitVec 32 := Scalar.subi arg2 c1_i32_194
  let c512_i32_195 : BitVec 32 := 512#32
  let v273 : BitVec 32 := Scalar.muli v272 c512_i32_195
  let v274 : BitVec 32 := v273
  let v275 : Index := Scalar.indexCast v274
  let c0_198 : Index := 0#32
  ![0, 1, v275.toNat, 0]
def k0_off34 (i : grid0.Coords) : Fin 5 → Nat :=
  let c0_217 : Index := 0#32
  let c0_218 : Index := 0#32
  let arg2 : BitVec 32 := BitVec.ofNat 32 (i 2).val
  let c1_i32_194 : BitVec 32 := 1#32
  let v272 : BitVec 32 := Scalar.subi arg2 c1_i32_194
  let v300 : Index := Scalar.indexCast v272
  let c0_219 : Index := 0#32
  let c0_220 : Index := 0#32
  ![0, 0, v300.toNat, 0, 0]
def k0_mult19 (i : grid0.Coords) : BitVec 32 :=
  let arg2 : BitVec 32 := BitVec.ofNat 32 (i 2).val
  let c1_i32_194 : BitVec 32 := 1#32
  let v272 : BitVec 32 := Scalar.subi arg2 c1_i32_194
  let c512_i32_228 : BitVec 32 := 512#32
  let v312 : BitVec 32 := Scalar.muli v272 c512_i32_228
  v312
def k0_off35 (i : grid0.Coords) : Fin 4 → Nat :=
  let c0_229 : Index := 0#32
  let c2_230 : Index := 2#32
  let arg2 : BitVec 32 := BitVec.ofNat 32 (i 2).val
  let c1_i32_194 : BitVec 32 := 1#32
  let v272 : BitVec 32 := Scalar.subi arg2 c1_i32_194
  let c512_i32_228 : BitVec 32 := 512#32
  let v312 : BitVec 32 := Scalar.muli v272 c512_i32_228
  let v313 : BitVec 32 := v312
  let v314 : Index := Scalar.indexCast v313
  let c0_231 : Index := 0#32
  ![0, 2, v314.toNat, 0]
def k0_off36 (i : grid0.Coords) : Fin 5 → Nat :=
  let c0_250 : Index := 0#32
  let c1_251 : Index := 1#32
  let arg2 : BitVec 32 := BitVec.ofNat 32 (i 2).val
  let c1_i32_194 : BitVec 32 := 1#32
  let v272 : BitVec 32 := Scalar.subi arg2 c1_i32_194
  let v339 : Index := Scalar.indexCast v272
  let c0_252 : Index := 0#32
  let c0_253 : Index := 0#32
  ![0, 1, v339.toNat, 0, 0]
def k0_mult20 (i : grid0.Coords) : BitVec 32 :=
  let arg2 : BitVec 32 := BitVec.ofNat 32 (i 2).val
  let c1_i32_194 : BitVec 32 := 1#32
  let v272 : BitVec 32 := Scalar.subi arg2 c1_i32_194
  let c512_i32_261 : BitVec 32 := 512#32
  let v351 : BitVec 32 := Scalar.muli v272 c512_i32_261
  v351
def k0_off37 (i : grid0.Coords) : Fin 4 → Nat :=
  let c0_262 : Index := 0#32
  let c3_263 : Index := 3#32
  let arg2 : BitVec 32 := BitVec.ofNat 32 (i 2).val
  let c1_i32_194 : BitVec 32 := 1#32
  let v272 : BitVec 32 := Scalar.subi arg2 c1_i32_194
  let c512_i32_261 : BitVec 32 := 512#32
  let v351 : BitVec 32 := Scalar.muli v272 c512_i32_261
  let v352 : BitVec 32 := v351
  let v353 : Index := Scalar.indexCast v352
  let c0_264 : Index := 0#32
  ![0, 3, v353.toNat, 0]
def k0_off38 (i : grid0.Coords) : Fin 5 → Nat :=
  let c0_283 : Index := 0#32
  let c2_284 : Index := 2#32
  let arg2 : BitVec 32 := BitVec.ofNat 32 (i 2).val
  let c1_i32_194 : BitVec 32 := 1#32
  let v272 : BitVec 32 := Scalar.subi arg2 c1_i32_194
  let v378 : Index := Scalar.indexCast v272
  let c0_285 : Index := 0#32
  let c0_286 : Index := 0#32
  ![0, 2, v378.toNat, 0, 0]
def k0_mult21 (i : grid0.Coords) : BitVec 32 :=
  let arg2 : BitVec 32 := BitVec.ofNat 32 (i 2).val
  let c1_i32_194 : BitVec 32 := 1#32
  let v272 : BitVec 32 := Scalar.subi arg2 c1_i32_194
  let c1_i32_294 : BitVec 32 := 1#32
  let v390 : BitVec 32 := Scalar.addi v272 c1_i32_294
  let c512_i32_295 : BitVec 32 := 512#32
  let v391 : BitVec 32 := Scalar.muli v390 c512_i32_295
  v391
def k0_off39 (i : grid0.Coords) : Fin 4 → Nat :=
  let c0_296 : Index := 0#32
  let c0_297 : Index := 0#32
  let arg2 : BitVec 32 := BitVec.ofNat 32 (i 2).val
  let c1_i32_194 : BitVec 32 := 1#32
  let v272 : BitVec 32 := Scalar.subi arg2 c1_i32_194
  let c1_i32_294 : BitVec 32 := 1#32
  let v390 : BitVec 32 := Scalar.addi v272 c1_i32_294
  let c512_i32_295 : BitVec 32 := 512#32
  let v391 : BitVec 32 := Scalar.muli v390 c512_i32_295
  let v392 : BitVec 32 := v391
  let v393 : Index := Scalar.indexCast v392
  let c0_298 : Index := 0#32
  ![0, 0, v393.toNat, 0]
def k0_off40 (i : grid0.Coords) : Fin 5 → Nat :=
  let c0_317 : Index := 0#32
  let c3_318 : Index := 3#32
  let arg2 : BitVec 32 := BitVec.ofNat 32 (i 2).val
  let c1_i32_194 : BitVec 32 := 1#32
  let v272 : BitVec 32 := Scalar.subi arg2 c1_i32_194
  let v418 : Index := Scalar.indexCast v272
  let c0_319 : Index := 0#32
  let c0_320 : Index := 0#32
  ![0, 3, v418.toNat, 0, 0]
def k0_mult22 (i : grid0.Coords) : BitVec 32 :=
  let arg2 : BitVec 32 := BitVec.ofNat 32 (i 2).val
  let c512_i32 : BitVec 32 := 512#32
  let v77 : BitVec 32 := Scalar.muli arg2 c512_i32
  v77
def k0_off41 (i : grid0.Coords) : Fin 4 → Nat :=
  let c0_56 : Index := 0#32
  let c1_57 : Index := 1#32
  let arg2 : BitVec 32 := BitVec.ofNat 32 (i 2).val
  let c512_i32 : BitVec 32 := 512#32
  let v77 : BitVec 32 := Scalar.muli arg2 c512_i32
  let v78 : BitVec 32 := v77
  let v79 : Index := Scalar.indexCast v78
  let c0_58 : Index := 0#32
  ![0, 1, v79.toNat, 0]
def k0_off42 (i : grid0.Coords) : Fin 5 → Nat :=
  let c0_78 : Index := 0#32
  let c0_79 : Index := 0#32
  let arg2 : BitVec 32 := BitVec.ofNat 32 (i 2).val
  let v109 : Index := Scalar.indexCast arg2
  let c0_80 : Index := 0#32
  let c0_81 : Index := 0#32
  ![0, 0, v109.toNat, 0, 0]
def k0_mult23 (i : grid0.Coords) : BitVec 32 :=
  let arg2 : BitVec 32 := BitVec.ofNat 32 (i 2).val
  let c512_i32_89 : BitVec 32 := 512#32
  let v121 : BitVec 32 := Scalar.muli arg2 c512_i32_89
  v121
def k0_off43 (i : grid0.Coords) : Fin 4 → Nat :=
  let c0_90 : Index := 0#32
  let c2_91 : Index := 2#32
  let arg2 : BitVec 32 := BitVec.ofNat 32 (i 2).val
  let c512_i32_89 : BitVec 32 := 512#32
  let v121 : BitVec 32 := Scalar.muli arg2 c512_i32_89
  let v122 : BitVec 32 := v121
  let v123 : Index := Scalar.indexCast v122
  let c0_92 : Index := 0#32
  ![0, 2, v123.toNat, 0]
def k0_off44 (i : grid0.Coords) : Fin 5 → Nat :=
  let c0_112 : Index := 0#32
  let c1_113 : Index := 1#32
  let arg2 : BitVec 32 := BitVec.ofNat 32 (i 2).val
  let v153 : Index := Scalar.indexCast arg2
  let c0_114 : Index := 0#32
  let c0_115 : Index := 0#32
  ![0, 1, v153.toNat, 0, 0]
def k0_mult24 (i : grid0.Coords) : BitVec 32 :=
  let arg2 : BitVec 32 := BitVec.ofNat 32 (i 2).val
  let c512_i32_123 : BitVec 32 := 512#32
  let v165 : BitVec 32 := Scalar.muli arg2 c512_i32_123
  v165
def k0_off45 (i : grid0.Coords) : Fin 4 → Nat :=
  let c0_124 : Index := 0#32
  let c3_125 : Index := 3#32
  let arg2 : BitVec 32 := BitVec.ofNat 32 (i 2).val
  let c512_i32_123 : BitVec 32 := 512#32
  let v165 : BitVec 32 := Scalar.muli arg2 c512_i32_123
  let v166 : BitVec 32 := v165
  let v167 : Index := Scalar.indexCast v166
  let c0_126 : Index := 0#32
  ![0, 3, v167.toNat, 0]
def k0_off46 (i : grid0.Coords) : Fin 5 → Nat :=
  let c0_146 : Index := 0#32
  let c2_147 : Index := 2#32
  let arg2 : BitVec 32 := BitVec.ofNat 32 (i 2).val
  let v197 : Index := Scalar.indexCast arg2
  let c0_148 : Index := 0#32
  let c0_149 : Index := 0#32
  ![0, 2, v197.toNat, 0, 0]
def k0_off47 (i : grid0.Coords) : Fin 5 → Nat :=
  let c0_168 : Index := 0#32
  let c3_169 : Index := 3#32
  let arg2 : BitVec 32 := BitVec.ofNat 32 (i 2).val
  let v230 : Index := Scalar.indexCast arg2
  let c0_170 : Index := 0#32
  let c0_171 : Index := 0#32
  ![0, 3, v230.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4x32x80x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x8x96 : Shape := ⟨4, ![2, 16384, 8, 96]⟩
abbrev S2x16384x8x64 : Shape := ⟨4, ![2, 16384, 8, 64]⟩
abbrev S2x8x16384x16384 : Shape := ⟨4, ![2, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S2x8x16384x16384, .f32⟩
  | .hbm, ⟨4, _⟩ => ⟨S_, .f32⟩
  | .hbm, ⟨5, _⟩ => ⟨S_, .f32⟩
  | .hbm, ⟨6, _⟩ => ⟨S2x8x16384x16384, .f32⟩
  | .hbm, ⟨7, _⟩ => ⟨S2x8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S2x8x16384x16384, .i1⟩
  | .hbm, ⟨17, _⟩ => ⟨S2x8x16384x16384, .f32⟩
  | .hbm, ⟨18, _⟩ => ⟨S2x8x16384x16384, .f32⟩
  | .hbm, ⟨19, _⟩ => ⟨S_, .f32⟩
  | .hbm, ⟨20, _⟩ => ⟨S2x8x16384, .f32⟩
  | .hbm, ⟨21, _⟩ => ⟨S_, .f32⟩
  | .hbm, ⟨22, _⟩ => ⟨S2x8x16384, .f32⟩
  | .hbm, ⟨23, _⟩ => ⟨S2x8x16384, .f32⟩
  | .hbm, ⟨24, _⟩ => ⟨S2x8x16384x1, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S_, .f32⟩
  | .hbm, ⟨29, _⟩ => ⟨S2x8x16384, .f32⟩
  | .hbm, ⟨30, _⟩ => ⟨S2x8x16384x1, .f32⟩
  | .hbm, ⟨31, _⟩ => ⟨S2x8x16384x16384, .f32⟩
  | .hbm, ⟨32, _⟩ => ⟨S2x8x16384x16384, .f32⟩
  | .hbm, ⟨33, _⟩ => ⟨S2x8x64x16384, .f32⟩
  | .hbm, ⟨34, _⟩ => ⟨S2x16384x8x64, .f32⟩
  | .hbm, ⟨35, _⟩ => ⟨S2x16384x512, .f32⟩
  | .hbm, ⟨36, _⟩ => ⟨S2x16384x512, .bf16⟩
  | _, _ => ⟨S2x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S16x1024 : Shape := ⟨2, ![16, 1024]⟩
abbrev S16x1 : Shape := ⟨2, ![16, 1]⟩
abbrev S1x1024 : Shape := ⟨2, ![1, 1024]⟩
abbrev S1024x1024 : Shape := ⟨2, ![1024, 1024]⟩
abbrev S4x4x1024x512 : Shape := ⟨4, ![4, 4, 1024, 512]⟩
abbrev S4x4x512x1024 : Shape := ⟨4, ![4, 4, 512, 1024]⟩
abbrev S1x1024x1024 : Shape := ⟨3, ![1, 1024, 1024]⟩
abbrev S1x4x1024x512 : Shape := ⟨4, ![1, 4, 1024, 512]⟩
abbrev S1x4x512x1024 : Shape := ⟨4, ![1, 4, 512, 1024]⟩
abbrev S4x8x1024 : Shape := ⟨3, ![4, 8, 1024]⟩
abbrev S8x1024 : Shape := ⟨2, ![8, 1024]⟩
abbrev S4x1024 : Shape := ⟨2, ![4, 1024]⟩
abbrev S1x4x1024 : Shape := ⟨3, ![1, 4, 1024]⟩
abbrev S1x1 : Shape := ⟨2, ![1, 1]⟩
abbrev S8x8 : Shape := ⟨2, ![8, 8]⟩
abbrev S1024x8 : Shape := ⟨2, ![1024, 8]⟩
abbrev S1024x1 : Shape := ⟨2, ![1024, 1]⟩
abbrev S1x8x1024 : Shape := ⟨3, ![1, 8, 1024]⟩
abbrev S320x1 : Shape := ⟨2, ![320, 1]⟩
abbrev S320x1024 : Shape := ⟨2, ![320, 1024]⟩
abbrev S1x320 : Shape := ⟨2, ![1, 320]⟩
abbrev S1024x320 : Shape := ⟨2, ![1024, 320]⟩
abbrev S320x8 : Shape := ⟨2, ![320, 8]⟩
abbrev S1x1x1024x512 : Shape := ⟨4, ![1, 1, 1024, 512]⟩
abbrev S1024x512 : Shape := ⟨2, ![1024, 512]⟩
abbrev S320x512 : Shape := ⟨2, ![320, 512]⟩
abbrev S1x1x512x1024 : Shape := ⟨4, ![1, 1, 512, 1024]⟩
abbrev S512x1024 : Shape := ⟨2, ![512, 1024]⟩

abbrev nBuf : Space → Nat
  | .hbm => 24
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S1024x16, .f32⟩
  | .hbm, ⟨2, _⟩ => ⟨S16, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S16x1024, .f32⟩
  | .hbm, ⟨9, _⟩ => ⟨S16x1, .f32⟩
  | .hbm, ⟨10, _⟩ => ⟨S16x1024x512, .bf16⟩
  | .hbm, ⟨11, _⟩ => ⟨S16x1024x512, .bf16⟩
  | .hbm, ⟨12, _⟩ => ⟨S16x512x1024, .bf16⟩
  | .hbm, ⟨13, _⟩ => ⟨S1x1024, .f32⟩
  | .hbm, ⟨14, _⟩ => ⟨S1x1024, .f32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S1024x1024, .f32⟩
  | .hbm, ⟨19, _⟩ => ⟨S1024x1024, .bf16⟩
  | .hbm, ⟨20, _⟩ => ⟨S4x4x1024x512, .bf16⟩
  | .hbm, ⟨21, _⟩ => ⟨S4x4x1024x512, .bf16⟩
  | .hbm, ⟨22, _⟩ => ⟨S4x4x512x1024, .bf16⟩
  | .hbm, ⟨23, _⟩ => ⟨S2x16384x1024, .f32⟩
  | .local _ .vmem, ⟨0, _⟩ => ⟨S16x1024, .f32⟩
  | .local _ .vmem, ⟨1, _⟩ => ⟨S1x1024x1024, .f32⟩
  | .local _ .vmem, ⟨2, _⟩ => ⟨S1024x1024, .bf16⟩
  | .local _ .vmem, ⟨3, _⟩ => ⟨S16x1, .f32⟩
  | .local _ .vmem, ⟨4, _⟩ => ⟨S1x4x1024x512, .bf16⟩
  | .local _ .vmem, ⟨5, _⟩ => ⟨S1x4x1024x512, .bf16⟩
  | .local _ .vmem, ⟨6, _⟩ => ⟨S1x4x1024x512, .bf16⟩
  | .local _ .vmem, ⟨7, _⟩ => ⟨S1x4x1024x512, .bf16⟩
  | .local _ .vmem, ⟨8, _⟩ => ⟨S1x4x512x1024, .bf16⟩
  | .local _ .vmem, ⟨9, _⟩ => ⟨S1x4x512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .bf16⟩
  | .local _ .vmem, ⟨15, _⟩ => ⟨S4x8x1024, .f32⟩
  | .local _ .vmem, ⟨16, _⟩ => ⟨S8x1024, .f32⟩
  | .local _ .vmem, ⟨17, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![2, 16, 4], ![false, false, false]⟩

def k0_off1 (i : grid0.Coords) : Fin 3 → Nat :=
  let arg2 : BitVec 32 := BitVec.ofNat 32 (i 2).val
  let v37 : Index := Scalar.indexCast arg2
  let c0_12 : Index := 0#32
  let c0_13 : Index := 0#32
  ![v37.toNat, 0, 0]
@[reducible] def k0_t1_loop (v20 : BitVec 32) : Scf.Loop 32 :=
  let c0_i32_22 : BitVec 32 := 0#32
  let c319_i32 : BitVec 32 := 319#32
  let v45 : BitVec 32 := Scalar.addi v20 c319_i32
  let c0_i32_16 : BitVec 32 := 0#32
  let v47 : BitVec 1 := Scalar.cmpi .sgt v45 c0_i32_16
  let v48 : BitVec 32 := Scalar.extui v47
  let c0_i32_17 : BitVec 32 := 0#32
  let v49 : BitVec 1 := Scalar.cmpi .slt v45 c0_i32_17
  let v50 : BitVec 32 := Scalar.extui v49
  let v51 : BitVec 32 := Scalar.subi v48 v50
  let c320_i32 : BitVec 32 := 320#32
  let c0_i32_18 : BitVec 32 := 0#32
  let v52 : BitVec 1 := Scalar.cmpi .sgt c320_i32 c0_i32_18
  let v53 : BitVec 32 := Scalar.extui v52
  let c0_i32_19 : BitVec 32 := 0#32
  let v54 : BitVec 1 := Scalar.cmpi .slt c320_i32 c0_i32_19
  let v55 : BitVec 32 := Scalar.extui v54
  let v56 : BitVec 32 := Scalar.subi v53 v55
  let v57 : BitVec 1 := Scalar.cmpi .ne v51 v56
  let v58 : BitVec 32 := Scalar.remsi v45 c320_i32
  let c0_i32_20 : BitVec 32 := 0#32
  let v59 : BitVec 1 := Scalar.cmpi .ne v58 c0_i32_20
  let v60 : BitVec 1 := Scalar.andi v57 v59
  let v46 : BitVec 32 := Scalar.divsi v45 c320_i32
  let c1_i32 : BitVec 32 := 1#32
  let v61 : BitVec 32 := Scalar.subi v46 c1_i32
  let v62 : BitVec 32 := Scalar.select v60 v61 v46
  let v63 : BitVec 32 := Scalar.subi v62 c0_i32_22
  let c1_i32_23 : BitVec 32 := 1#32
  let v65 : BitVec 32 := Scalar.divsi v63 c1_i32_23
  let v66 : BitVec 32 := Scalar.muli v65 c1_i32_23
  let v67 : BitVec 32 := Scalar.addi c0_i32_22 v66
  let c1_i32_24 : BitVec 32 := 1#32
  ⟨c0_i32_22, v67, c1_i32_24⟩

@[reducible] def k0_t2_loop (v20 : BitVec 32) : Scf.Loop 32 :=
  let c0_i32_22 : BitVec 32 := 0#32
  let c319_i32 : BitVec 32 := 319#32
  let v45 : BitVec 32 := Scalar.addi v20 c319_i32
  let c0_i32_16 : BitVec 32 := 0#32
  let v47 : BitVec 1 := Scalar.cmpi .sgt v45 c0_i32_16
  let v48 : BitVec 32 := Scalar.extui v47
  let c0_i32_17 : BitVec 32 := 0#32
  let v49 : BitVec 1 := Scalar.cmpi .slt v45 c0_i32_17
  let v50 : BitVec 32 := Scalar.extui v49
  let v51 : BitVec 32 := Scalar.subi v48 v50
  let c320_i32 : BitVec 32 := 320#32
  let c0_i32_18 : BitVec 32 := 0#32
  let v52 : BitVec 1 := Scalar.cmpi .sgt c320_i32 c0_i32_18
  let v53 : BitVec 32 := Scalar.extui v52
  let c0_i32_19 : BitVec 32 := 0#32
  let v54 : BitVec 1 := Scalar.cmpi .slt c320_i32 c0_i32_19
  let v55 : BitVec 32 := Scalar.extui v54
  let v56 : BitVec 32 := Scalar.subi v53 v55
  let v57 : BitVec 1 := Scalar.cmpi .ne v51 v56
  let v58 : BitVec 32 := Scalar.remsi v45 c320_i32
  let c0_i32_20 : BitVec 32 := 0#32
  let v59 : BitVec 1 := Scalar.cmpi .ne v58 c0_i32_20
  let v60 : BitVec 1 := Scalar.andi v57 v59
  let v46 : BitVec 32 := Scalar.divsi v45 c320_i32
  let c1_i32 : BitVec 32 := 1#32
  let v61 : BitVec 32 := Scalar.subi v46 c1_i32
  let v62 : BitVec 32 := Scalar.select v60 v61 v46
  let v63 : BitVec 32 := Scalar.subi v62 c0_i32_22
  let c1_i32_23 : BitVec 32 := 1#32
  let v65 : BitVec 32 := Scalar.divsi v63 c1_i32_23
  let v66 : BitVec 32 := Scalar.muli v65 c1_i32_23
  let v67 : BitVec 32 := Scalar.addi c0_i32_22 v66
  let v64 : BitVec 32 := Scalar.addi c0_i32_22 v63
  let c1_i32_25 : BitVec 32 := 1#32
  ⟨v67, v64, c1_i32_25⟩

def k0_chk1 (v20 : BitVec 32) : Prop :=
  ((k0_t1_loop v20).OK) ∧
  ((k0_t2_loop v20).OK)
theorem k0_t1_ok : ∀ (v20 : BitVec 32) (k0_hw1 : k0_chk1 v20), (k0_t1_loop v20).OK := fun v20 k0_hw1 => k0_hw1.1
theorem k0_t2_ok : ∀ (v20 : BitVec 32) (k0_hw1 : k0_chk1 v20), (k0_t2_loop v20).OK := fun v20 k0_hw1 => k0_hw1.2

def k0_cond2 (i : grid0.Coords) : BitVec 1 :=
  let arg2 : BitVec 32 := BitVec.ofNat 32 (i 2).val
  let c3_i32 : BitVec 32 := 3#32
  let v68 : BitVec 1 := Scalar.cmpi .eq arg2 c3_i32
  let v69 : BitVec 32 := Scalar.extui v68
  let c0_i32_26 : BitVec 32 := 0#32
  let v70 : BitVec 1 := Scalar.cmpi .ne v69 c0_i32_26
  v70

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x4x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x4x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S2x16384x1024 : Shape := ⟨3, ![2, 16384, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S32768x1024 : Shape := ⟨2, ![32768, 1024]⟩
abbrev S32768x16 : Shape := ⟨2, ![32768, 16]⟩
abbrev S_ : Shape := ⟨0, ![]⟩
abbrev S1x16 : Shape := ⟨2, ![1, 16]⟩
abbrev S32768x4x4 : Shape := ⟨3, ![32768, 4, 4]⟩
abbrev S32768x4x2 : Shape := ⟨3, ![32768, 4, 2]⟩
abbrev S32768x4 : Shape := ⟨2, ![32768, 4]⟩
abbrev S32768x1 : Shape := ⟨2, ![32768, 1]⟩
abbrev S32768 : Shape := ⟨1, ![32768]⟩
abbrev S4 : Shape := ⟨1, ![4]⟩
abbrev S1x4 : Shape := ⟨2, ![1, 4]⟩
abbrev S32768x4x1 : Shape := ⟨3, ![32768, 4, 1]⟩
abbrev S32768x2 : Shape := ⟨2, ![32768, 2]⟩
abbrev S32768x2x1 : Shape := ⟨3, ![32768, 2, 1]⟩
abbrev S1 : Shape := ⟨1, ![1]⟩
abbrev S1x1x1 : Shape := ⟨3, ![1, 1, 1]⟩
abbrev S1x1x16 : Shape := ⟨3, ![1, 1, 16]⟩
abbrev S32768x2x16 : Shape := ⟨3, ![32768, 2, 16]⟩
abbrev S16x512x32768 : Shape := ⟨3, ![16, 512, 32768]⟩
abbrev S16x32768x512 : Shape := ⟨3, ![16, 32768, 512]⟩
abbrev S16x32768x1024 : Shape := ⟨3, ![16, 32768, 1024]⟩
abbrev S16x32768 : Shape := ⟨2, ![16, 32768]⟩
abbrev S16x32768x1 : Shape := ⟨3, ![16, 32768, 1]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 137
  | .vmem => 0
  | .smem => 0
  | _ => 0

abbrev hbmTy0_0 (i : Nat) : BufTy := match i % 128 with
  | 0 => ⟨S2x16384x1024, .f32⟩
  | 1 => ⟨S1024x16, .f32⟩
  | 2 => ⟨S16, .f32⟩
  | 3 => ⟨S16x1024x512, .f32⟩
  | 4 => ⟨S16x1024x512, .f32⟩
  | 5 => ⟨S16x512x1024, .f32⟩
  | 6 => ⟨S1024, .f32⟩
  | 7 => ⟨S1024, .f32⟩
  | 8 => ⟨S32768x1024, .f32⟩
  | 9 => ⟨S32768x16, .f32⟩
  | 10 => ⟨S32768x16, .f32⟩
  | 11 => ⟨S32768x16, .f32⟩
  | 12 => ⟨S_, .f32⟩
  | 13 => ⟨S32768x16, .f32⟩
  | 14 => ⟨S32768x16, .f32⟩
  | 15 => ⟨S_, .f32⟩
  | 16 => ⟨S32768x16, .f32⟩
  | 17 => ⟨S32768x16, .f32⟩
  | 18 => ⟨S1x16, .f32⟩
  | 19 => ⟨S32768x16, .f32⟩
  | 20 => ⟨S32768x16, .f32⟩
  | 21 => ⟨S32768x4x4, .f32⟩
  | 22 => ⟨S32768x4x2, .f32⟩
  | 23 => ⟨S32768x4x2, .i32⟩
  | 24 => ⟨S_, .f32⟩
  | 25 => ⟨S32768x4, .f32⟩
  | 26 => ⟨S32768x1, .f32⟩
  | 27 => ⟨S32768x1, .i32⟩
  | 28 => ⟨S32768, .i32⟩
  | 29 => ⟨S4, .i32⟩
  | 30 => ⟨S1x4, .i32⟩
  | 31 => ⟨S32768x1, .i32⟩
  | 32 => ⟨S32768x4, .i32⟩
  | 33 => ⟨S32768x4, .i32⟩
  | 34 => ⟨S32768x4, .i1⟩
  | 35 => ⟨S32768x4x1, .i1⟩
  | 36 => ⟨S_, .f32⟩
  | 37 => ⟨S_, .f32⟩
  | 38 => ⟨S32768x4x4, .i1⟩
  | 39 => ⟨S32768x4x4, .f32⟩
  | 40 => ⟨S32768x4x4, .f32⟩
  | 41 => ⟨S32768x16, .f32⟩
  | 42 => ⟨S32768x2, .f32⟩
  | 43 => ⟨S32768x2, .i32⟩
  | 44 => ⟨S_, .i32⟩
  | 45 => ⟨S32768x2, .i32⟩
  | 46 => ⟨S32768x2, .i1⟩
  | 47 => ⟨S_, .i32⟩
  | 48 => ⟨S32768x2, .i32⟩
  | 49 => ⟨S32768x2, .i32⟩
  | 50 => ⟨S32768x2, .i32⟩
  | 51 => ⟨S32768x2x1, .i32⟩
  | 52 => ⟨S1, .i32⟩
  | 53 => ⟨S_, .i32⟩
  | 54 => ⟨S32768x2x1, .i32⟩
  | 55 => ⟨S32768x2x1, .i1⟩
  | 56 => ⟨S1x1x1, .i32⟩
  | 57 => ⟨S32768x2x1, .i32⟩
  | 58 => ⟨S32768x2x1, .i1⟩
  | 59 => ⟨S32768x2x1, .i1⟩
  | 60 => ⟨S_, .i1⟩
  | 61 => ⟨S32768x2, .i1⟩
  | 62 => ⟨S32768x2, .f32⟩
  | 63 => ⟨S_, .f32⟩
  | 64 => ⟨S32768x2, .f32⟩
  | 65 => ⟨S32768x2, .f32⟩
  | 66 => ⟨S_, .f32⟩
  | 67 => ⟨S32768, .f32⟩
  | 68 => ⟨S32768x1, .f32⟩
  | 69 => ⟨S32768x2, .f32⟩
  | 70 => ⟨S32768x2, .f32⟩
  | 71 => ⟨S32768x2x1, .i32⟩
  | 72 => ⟨S1x1x16, .i32⟩
  | 73 => ⟨S32768x2x16, .i32⟩
  | 74 => ⟨S32768x2x16, .i32⟩
  | 75 => ⟨S32768x2x16, .i1⟩
  | 76 => ⟨S32768x2x16, .f32⟩
  | 77 => ⟨S32768x2x1, .f32⟩
  | 78 => ⟨S32768x2x16, .f32⟩
  | 79 => ⟨S32768x2x16, .f32⟩
  | 80 => ⟨S_, .f32⟩
  | 81 => ⟨S32768x16, .f32⟩
  | 82 => ⟨S16x512x32768, .f32⟩
  | 83 => ⟨S16x32768x512, .f32⟩
  | 84 => ⟨S16x512x32768, .f32⟩
  | 85 => ⟨S16x32768x512, .f32⟩
  | 86 => ⟨S16x32768x512, .f32⟩
  | 87 => ⟨S16x32768x512, .f32⟩
  | 88 => ⟨S_, .f32⟩
  | 89 => ⟨S16x32768x512, .f32⟩
  | 90 => ⟨S16x32768x512, .f32⟩
  | 91 => ⟨S_, .f32⟩
  | 92 => ⟨S16x32768x512, .f32⟩
  | 93 => ⟨S16x32768x512, .f32⟩
  | 94 => ⟨S16x32768x512, .f32⟩
  | 95 => ⟨S16x32768x512, .f32⟩
  | 96 => ⟨S16x32768x1024, .f32⟩
  | 97 => ⟨S16x32768, .f32⟩
  | 98 => ⟨S16x32768x1, .f32⟩
  | 99 => ⟨S16x32768x1024, .f32⟩
  | 100 => ⟨S16x32768x1024, .f32⟩
  | 101 => ⟨S_, .f32⟩
  | 102 => ⟨S32768x1024, .f32⟩
  | 103 => ⟨S_, .f32⟩
  | 104 => ⟨S2x16384x1024, .f32⟩
  | 105 => ⟨S2x16384x1024, .f32⟩
  | 106 => ⟨S2x16384x1024, .f32⟩
  | 107 => ⟨S2x16384x1024, .f32⟩
  | 108 => ⟨S_, .f32⟩
  | 109 => ⟨S2x16384, .f32⟩
  | 110 => ⟨S2x16384x1, .f32⟩
  | 111 => ⟨S_, .f32⟩
  | 112 => ⟨S2x16384x1, .f32⟩
  | 113 => ⟨S2x16384x1, .f32⟩
  | 114 => ⟨S2x16384x1024, .f32⟩
  | 115 => ⟨S2x16384x1024, .f32⟩
  | 116 => ⟨S2x16384x1024, .f32⟩
  | 117 => ⟨S_, .f32⟩
  | 118 => ⟨S2x16384, .f32⟩
  | 119 => ⟨S2x16384x1, .f32⟩
  | 120 => ⟨S_, .f32⟩
  | 121 => ⟨S2x16384x1, .f32⟩
  | 122 => ⟨S2x16384x1, .f32⟩
  | 123 => ⟨S2x16384x1024, .f32⟩
  | 124 => ⟨S2x16384x1024, .f32⟩
  | 125 => ⟨S_, .f32⟩
  | 126 => ⟨S2x16384x1, .f32⟩
  | 127 => ⟨S2x16384x1, .f32⟩
  | _ => ⟨S2x16384x1024, .f32⟩

abbrev hbmTy0_1 (i : Nat) : BufTy := match i % 128 with
  | 0 => ⟨S2x16384x1, .f32⟩
  | 1 => ⟨S2x16384x1024, .f32⟩
  | 2 => ⟨S2x16384x1024, .f32⟩
  | 3 => ⟨S1x1x1024, .f32⟩
  | 4 => ⟨S2x16384x1024, .f32⟩
  | 5 => ⟨S2x16384x1024, .f32⟩
  | 6 => ⟨S1x1x1024, .f32⟩
  | 7 => ⟨S2x16384x1024, .f32⟩
  | 8 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_values : Ref sig .tc := ⟨.hbm, 22, rfl⟩
abbrev main_indices : Ref sig .tc := ⟨.hbm, 23, rfl⟩
abbrev main_cst_1 : Ref sig .tc := ⟨.hbm, 24, rfl⟩
abbrev main_v12 : Ref sig .tc := ⟨.hbm, 25, rfl⟩
abbrev main_values_2 : Ref sig .tc := ⟨.hbm, 26, rfl⟩
abbrev main_indices_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v21 : Ref sig .tc := ⟨.hbm, 40, rfl⟩
abbrev main_v22 : Ref sig .tc := ⟨.hbm, 41, rfl⟩
abbrev main_values_5 : Ref sig .tc := ⟨.hbm, 42, rfl⟩
abbrev main_indices_6 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v23 : Ref sig .tc := ⟨.hbm, 65, rfl⟩
abbrev main_cst_7 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_8 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_9 : Ref sig .tc := ⟨.hbm, 101, rfl⟩
abbrev main_v44 : Ref sig .tc := ⟨.hbm, 102, rfl⟩
abbrev main_cst_10 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_11 : Ref sig .tc := ⟨.hbm, 108, rfl⟩
abbrev main_v49 : Ref sig .tc := ⟨.hbm, 109, rfl⟩
abbrev main_v50 : Ref sig .tc := ⟨.hbm, 110, rfl⟩
abbrev main_cst_12 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_13 : Ref sig .tc := ⟨.hbm, 117, rfl⟩
abbrev main_v56 : Ref sig .tc := ⟨.hbm, 118, rfl⟩
abbrev main_v57 : Ref sig .tc := ⟨.hbm, 119, rfl⟩
abbrev main_cst_14 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_15 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024x9912 : Shape := ⟨2, ![1024, 9912]⟩
abbrev S1024x32 : Shape := ⟨2, ![1024, 32]⟩
abbrev S1024x4096 : Shape := ⟨2, ![1024, 4096]⟩
abbrev S1024x256 : Shape := ⟨2, ![1024, 256]⟩
abbrev S1024x512 : Shape := ⟨2, ![1024, 512]⟩
abbrev S1024x1536 : Shape := ⟨2, ![1024, 1536]⟩
abbrev S1024x9216 : Shape := ⟨2, ![1024, 9216]⟩
abbrev S1024x16 : Shape := ⟨2, ![1024, 16]⟩
abbrev S1024x4 : Shape := ⟨2, ![1024, 4]⟩
abbrev S1024x88 : Shape := ⟨2, ![1024, 88]⟩
abbrev S_ : Shape := ⟨0, ![]⟩
abbrev S1024x128 : Shape := ⟨2, ![1024, 128]⟩
abbrev S1024x768 : Shape := ⟨2, ![1024, 768]⟩
abbrev S2x16384x9216 : Shape := ⟨3, ![2, 16384, 9216]⟩
abbrev S2x16384x768 : Shape := ⟨3, ![2, 16384, 768]⟩
abbrev S1x1024x1024 : Shape := ⟨3, ![1, 1024, 1024]⟩
abbrev S1024x1024 : Shape := ⟨2, ![1024, 1024]⟩
abbrev S1x1024x768 : Shape := ⟨3, ![1, 1024, 768]⟩

abbrev nBuf : Space → Nat
  | .hbm => 28
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1024x9912, .f32⟩
  | .hbm, ⟨2, _⟩ => ⟨S1024x32, .f32⟩
  | .hbm, ⟨3, _⟩ => ⟨S1024x4096, .f32⟩
  | .hbm, ⟨4, _⟩ => ⟨S1024x256, .f32⟩
  | .hbm, ⟨5, _⟩ => ⟨S1024x256, .f32⟩
  | .hbm, ⟨6, _⟩ => ⟨S1024x512, .f32⟩
  | .hbm, ⟨7, _⟩ => ⟨S1024x512, .f32⟩
  | .hbm, ⟨8, _⟩ => ⟨S1024x1536, .f32⟩
  | .hbm, ⟨9, _⟩ => ⟨S1024x512, .f32⟩
  | .hbm, ⟨10, _⟩ => ⟨S1024x1536, .f32⟩
  | .hbm, ⟨11, _⟩ => ⟨S1024x9216, .f32⟩
  | .hbm, ⟨12, _⟩ => ⟨S1024x9216, .bf16⟩
  | .hbm, ⟨13, _⟩ => ⟨S1024x32, .f32⟩
  | .hbm, ⟨14, _⟩ => ⟨S1024x16, .f32⟩
  | .hbm, ⟨15, _⟩ => ⟨S1024x4, .f32⟩
  | .hbm, ⟨16, _⟩ => ⟨S1024x4, .f32⟩
  | .hbm, ⟨17, _⟩ => ⟨S1024x88, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x256, .f32⟩
  | .hbm, ⟨22, _⟩ => ⟨S1024x256, .f32⟩
  | .hbm, ⟨23, _⟩ => ⟨S1024x128, .f32⟩
  | .hbm, ⟨24, _⟩ => ⟨S1024x768, .f32⟩
  | .hbm, ⟨25, _⟩ => ⟨S1024x768, .bf16⟩
  | .hbm, ⟨26, _⟩ => ⟨S2x16384x9216, .bf16⟩
  | .hbm, ⟨27, _⟩ => ⟨S2x16384x768, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x768, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x768, .f32⟩
  | .local _ .vmem, ⟨8, _⟩ => ⟨S1x1024x768, .f32⟩
  | .local _ .vmem, ⟨9, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 10], ![false, false, false]⟩

def k0_cond2 (i : grid0.Coords) : BitVec 1 :=
  let arg2 : BitVec 32 := BitVec.ofNat 32 (i 2).val
  let c9_i32 : BitVec 32 := 9#32
  let v3 : BitVec 1 := Scalar.cmpi .slt arg2 c9_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c9_i32_2 : BitVec 32 := 9#32
  let v6 : BitVec 1 := Scalar.cmpi .eq arg2 c9_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.minsi arg2 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.minsi arg2 c8_i32
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2x16384x1024 : Shape := ⟨3, ![2, 16384, 1024]⟩
abbrev S1024x9912 : Shape := ⟨2, ![1024, 9912]⟩
abbrev S1024x32 : Shape := ⟨2, ![1024, 32]⟩
abbrev S1024x9944 : Shape := ⟨2, ![1024, 9944]⟩
abbrev S2x16384x9944 : Shape := ⟨3, ![2, 16384, 9944]⟩
abbrev S2x16384x256 : Shape := ⟨3, ![2, 16384, 256]⟩
abbrev S2x16384x128 : Shape := ⟨3, ![2, 16384, 128]⟩
abbrev S2x16384x32 : Shape := ⟨3, ![2, 16384, 32]⟩
abbrev S2x16384x512 : Shape := ⟨3, ![2, 16384, 512]⟩
abbrev S2x16384x16 : Shape := ⟨3, ![2, 16384, 16]⟩
abbrev S2x16384x1536 : Shape := ⟨3, ![2, 16384, 1536]⟩
abbrev S2x16384x4 : Shape := ⟨3, ![2, 16384, 4]⟩
abbrev S2x16384x4096 : Shape := ⟨3, ![2, 16384, 4096]⟩
abbrev S2x16384x9216 : Shape := ⟨3, ![2, 16384, 9216]⟩
abbrev S_ : Shape := ⟨0, ![]⟩
abbrev S2x16384x40 : Shape := ⟨3, ![2, 16384, 40]⟩
abbrev S2x16384x768 : Shape := ⟨3, ![2, 16384, 768]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x9912, .f32⟩
  | .hbm, ⟨2, _⟩ => ⟨S1024x32, .f32⟩
  | .hbm, ⟨3, _⟩ => ⟨S1024x9944, .f32⟩
  | .hbm, ⟨4, _⟩ => ⟨S2x16384x9944, .f32⟩
  | .hbm, ⟨5, _⟩ => ⟨S2x16384x256, .f32⟩
  | .hbm, ⟨6, _⟩ => ⟨S2x16384x128, .f32⟩
  | .hbm, ⟨7, _⟩ => ⟨S2x16384x32, .f32⟩
  | .hbm, ⟨8, _⟩ => ⟨S2x16384x256, .f32⟩
  | .hbm, ⟨9, _⟩ => ⟨S2x16384x256, .f32⟩
  | .hbm, ⟨10, _⟩ => ⟨S2x16384x512, .f32⟩
  | .hbm, ⟨11, _⟩ => ⟨S2x16384x16, .f32⟩
  | .hbm, ⟨12, _⟩ => ⟨S2x16384x512, .f32⟩
  | .hbm, ⟨13, _⟩ => ⟨S2x16384x1536, .f32⟩
  | .hbm, ⟨14, _⟩ => ⟨S2x16384x4, .f32⟩
  | .hbm, ⟨15, _⟩ => ⟨S2x16384x4, .f32⟩
  | .hbm, ⟨16, _⟩ => ⟨S2x16384x512, .f32⟩
  | .hbm, ⟨17, _⟩ => ⟨S2x16384x1536, .f32⟩
  | .hbm, ⟨18, _⟩ => ⟨S2x16384x256, .f32⟩
  | .hbm, ⟨19, _⟩ => ⟨S2x16384x4096, .f32⟩
  | .hbm, ⟨20, _⟩ => ⟨S2x16384x32, .f32⟩
  | .hbm, ⟨21, _⟩ => ⟨S2x16384x9216, .f32⟩
  | .hbm, ⟨22, _⟩ => ⟨S_, .f32⟩
  | .hbm, ⟨23, _⟩ => ⟨S2x16384x40, .f32⟩
  | .hbm, ⟨24, _⟩ => ⟨S2x16384x768, .f32⟩
  | .hbm, ⟨25, _⟩ => ⟨S2x16384x9216, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel4.lean ====
abbrev S2x16384x512 : Shape := ⟨3, ![2, 16384, 512]⟩
abbrev S2x16384x9216 : Shape := ⟨3, ![2, 16384, 9216]⟩
abbrev S2x16384x1024 : Shape := ⟨3, ![2, 16384, 1024]⟩
abbrev S4x512x1024 : Shape := ⟨3, ![4, 512, 1024]⟩
abbrev S1024x1024 : Shape := ⟨2, ![1024, 1024]⟩
abbrev S1024 : Shape := ⟨1, ![1024]⟩
abbrev S1x1024 : Shape := ⟨2, ![1, 1024]⟩
abbrev S1x512x512 : Shape := ⟨3, ![1, 512, 512]⟩
abbrev S1x512x4096 : Shape := ⟨3, ![1, 512, 4096]⟩
abbrev S1x512x1024 : Shape := ⟨3, ![1, 512, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S2x16384x9216, .f32⟩
  | .hbm, ⟨5, _⟩ => ⟨S2x16384x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x16384x512, .bf16⟩
  | .hbm, ⟨11, _⟩ => ⟨S2x16384x512, .bf16⟩
  | .hbm, ⟨12, _⟩ => ⟨S2x16384x512, .bf16⟩
  | .hbm, ⟨13, _⟩ => ⟨S2x16384x512, .bf16⟩
  | .hbm, ⟨14, _⟩ => ⟨S2x16384x9216, .bf16⟩
  | .hbm, ⟨15, _⟩ => ⟨S4x512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S2x16384x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x512x1024, .f32⟩
  | .local _ .vmem, ⟨11, _⟩ => ⟨S1x512x1024, .f32⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S2x16384x512 : Shape := ⟨3, ![2, 16384, 512]⟩
abbrev S2x16384x9216 : Shape := ⟨3, ![2, 16384, 9216]⟩
abbrev S2x16384x1024 : Shape := ⟨3, ![2, 16384, 1024]⟩
abbrev S4x512x1024 : Shape := ⟨3, ![4, 512, 1024]⟩
abbrev S1024x1024 : Shape := ⟨2, ![1024, 1024]⟩
abbrev S1024 : Shape := ⟨1, ![1024]⟩
abbrev S2x16384x4096 : Shape := ⟨3, ![2, 16384, 4096]⟩
abbrev S_ : Shape := ⟨0, ![]⟩
abbrev S2x16384x4x1024 : Shape := ⟨4, ![2, 16384, 4, 1024]⟩
abbrev S2x16384x1x1024 : Shape := ⟨4, ![2, 16384, 1, 1024]⟩
abbrev S1x512x1024 : Shape := ⟨3, ![1, 512, 1024]⟩
abbrev S512x1024 : Shape := ⟨2, ![512, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S2x16384x9216, .f32⟩
  | .hbm, ⟨5, _⟩ => ⟨S2x16384x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2x16384x4096, .f32⟩
  | .hbm, ⟨11, _⟩ => ⟨S2x16384x4096, .f32⟩
  | .hbm, ⟨12, _⟩ => ⟨S2x16384x4096, .f32⟩
  | .hbm, ⟨13, _⟩ => ⟨S_, .f32⟩
  | .hbm, ⟨14, _⟩ => ⟨S2x16384x4096, .f32⟩
  | .hbm, ⟨15, _⟩ => ⟨S2x16384x4096, .f32⟩
  | .hbm, ⟨16, _⟩ => ⟨S_, .f32⟩
  | .hbm, ⟨17, _⟩ => ⟨S2x16384x4096, .f32⟩
  | .hbm, ⟨18, _⟩ => ⟨S2x16384x4096, .f32⟩
  | .hbm, ⟨19, _⟩ => ⟨S2x16384x4x1024, .f32⟩
  | .hbm, ⟨20, _⟩ => ⟨S2x16384x1x1024, .f32⟩
  | .hbm, ⟨21, _⟩ => ⟨S2x16384x1024, .f32⟩
  | .hbm, ⟨22, _⟩ => ⟨S1x512x1024, .f32⟩
  | .hbm, ⟨23, _⟩ => ⟨S512x1024, .f32⟩
  | .hbm, ⟨24, _⟩ => ⟨S2x16384x1024, .f32⟩
  | .hbm, ⟨25, _⟩ => ⟨S2x16384x1024, .f32⟩
  | .hbm, ⟨26, _⟩ => ⟨S2x16384x1x1024, .f32⟩
  | .hbm, ⟨27, _⟩ => ⟨S2x16384x1024, .f32⟩
  | .hbm, ⟨28, _⟩ => ⟨S1x512x1024, .f32⟩
  | .hbm, ⟨29, _⟩ => ⟨S512x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1x1024, .f32⟩
  | .hbm, ⟨34, _⟩ => ⟨S2x16384x1024, .f32⟩
  | .hbm, ⟨35, _⟩ => ⟨S1x512x1024, .f32⟩
  | .hbm, ⟨36, _⟩ => ⟨S512x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1x1024, .f32⟩
  | .hbm, ⟨41, _⟩ => ⟨S2x16384x1024, .f32⟩
  | .hbm, ⟨42, _⟩ => ⟨S1x512x1024, .f32⟩
  | .hbm, ⟨43, _⟩ => ⟨S512x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S_, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S_, .f32⟩
  | .hbm, ⟨53, _⟩ => ⟨S2x16384, .f32⟩
  | .hbm, ⟨54, _⟩ => ⟨S2x16384x1, .f32⟩
  | .hbm, ⟨55, _⟩ => ⟨S_, .f32⟩
  | .hbm, ⟨56, _⟩ => ⟨S2x16384x1, .f32⟩
  | .hbm, ⟨57, _⟩ => ⟨S2x16384x1, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S_, .f32⟩
  | .hbm, ⟨62, _⟩ => ⟨S2x16384, .f32⟩
  | .hbm, ⟨63, _⟩ => ⟨S2x16384x1, .f32⟩
  | .hbm, ⟨64, _⟩ => ⟨S_, .f32⟩
  | .hbm, ⟨65, _⟩ => ⟨S2x16384x1, .f32⟩
  | .hbm, ⟨66, _⟩ => ⟨S2x16384x1, .f32⟩
  | .hbm, ⟨67, _⟩ => ⟨S2x16384x1024, .f32⟩
  | .hbm, ⟨68, _⟩ => ⟨S2x16384x1024, .f32⟩
  | .hbm, ⟨69, _⟩ => ⟨S_, .f32⟩
  | .hbm, ⟨70, _⟩ => ⟨S2x16384x1, .f32⟩
  | .hbm, ⟨71, _⟩ => ⟨S2x16384x1, .f32⟩
  | .hbm, ⟨72, _⟩ => ⟨S2x16384x1, .f32⟩
  | .hbm, ⟨73, _⟩ => ⟨S2x16384x1024, .f32⟩
  | .hbm, ⟨74, _⟩ => ⟨S2x16384x1024, .f32⟩
  | .hbm, ⟨75, _⟩ => ⟨S1x1x1024, .f32⟩
  | .hbm, ⟨76, _⟩ => ⟨S2x16384x1024, .f32⟩
  | .hbm, ⟨77, _⟩ => ⟨S2x16384x1024, .f32⟩
  | .hbm, ⟨78, _⟩ => ⟨S1x1x1024, .f32⟩
  | .hbm, ⟨79, _⟩ => ⟨S2x16384x1024, .f32⟩
  | .hbm, ⟨80, _⟩ => ⟨S2x16384x1024, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Proof.Step.lean ====
/-
  One key tile of one head: the scores, the running maximum and the running sums, as functions; and that every copy of
  that arithmetic in the kernel's text is one of these functions.
-/
module

public import proofs.«01_k».proof.Proof.Gen.KernelIdeal.Skeleton
public import Idealize.ShloMosaic.Lib.Pipeline.ReadBack

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The transposed scores of a key tile against the query tile. -/
def sc (k q : Vec F S1x1x512x128 .bf16) : Vec F S1x512x512 .f32 := k0_pay2 k q
/-- The running maximum after a tile of scores. -/
def stM (s : Vec F S1x512x512 .f32) (m : Vec F S1x1x512 .f32) : Vec F S1x1x512 .f32 := k0_pay10 (k0_pay5 s m)
/-- The running sums after a tile of scores and its values. -/
def stA (s : Vec F S1x512x512 .f32) (m : Vec F S1x1x512 .f32) (a : Vec F S1x80x512 .f32) (v : Vec F S1x1x1x80x512 .bf16) : Vec F S1x80x512 .f32 :=
  k0_pay9 (k0_pay6 s m) (k0_pay7 s m a) (k0_pay8 v)
/-- The running sums after the tile on the diagonal, whose later keys are masked. -/
def stF (s : Vec F S1x512x512 .f32) (m : Vec F S1x1x512 .f32) (a : Vec F S1x80x512 .f32) (v : Vec F S1x1x1x80x512 .bf16) : Vec F S1x80x512 .f32 :=
  k0_pay161 s m a v
/-- The result's block from the four heads' sums. -/
def outB (a0 a1 a2 a3 : Vec F S1x80x512 .f32) : Vec F S1x512x256 .bf16 :=
  k0_pay1 (k0_pay185 a0) (k0_pay186 a1) (k0_pay187 a2) (k0_pay188 a2) a3
/-- The maximum and the sums before the first tile. -/
def m0 : Vec F S1x1x512 .f32 := k0_pay142
def a0 : Vec F S1x80x512 .f32 := k0_pay143

section
variable (k q : Vec F S1x1x512x128 .bf16) (s : Vec F S1x512x512 .f32) (m : Vec F S1x1x512 .f32) (a : Vec F S1x80x512 .f32) (v : Vec F S1x1x1x80x512 .bf16)
theorem sc_1 : k0_pay2 k q = sc k q := rfl
theorem sc_2 : k0_pay11 k q = sc k q := rfl
theorem sc_3 : k0_pay18 k q = sc k q := rfl
theorem sc_4 : k0_pay31 k q = sc k q := rfl
theorem sc_5 : k0_pay39 k q = sc k q := rfl
theorem sc_6 : k0_pay53 k q = sc k q := rfl
theorem sc_7 : k0_pay114 k q = sc k q := rfl
theorem sc_8 : k0_pay123 k q = sc k q := rfl
theorem sc_9 : k0_pay130 k q = sc k q := rfl
theorem sc_10 : k0_pay151 k q = sc k q := rfl
theorem sc_11 : k0_pay157 k q = sc k q := rfl
theorem sc_12 : k0_pay163 k q = sc k q := rfl
theorem sc_13 : k0_pay172 k q = sc k q := rfl
theorem sc_14 : k0_pay25 (k0_pay24 k) q = sc k q := rfl
theorem sc_15 : k0_pay137 (k0_pay136 k) q = sc k q := rfl
theorem sc_16 : k0_pay47 (k0_pay46 k q) = sc k q := rfl
theorem stM_17 : k0_pay10 (k0_pay5 s m) = stM s m := rfl
theorem stM_18 : k0_pay17 (k0_pay14 s m) = stM s m := rfl
theorem stM_19 : k0_pay23 s m = stM s m := rfl
theorem stM_20 : k0_pay30 (k0_pay28 s m) = stM s m := rfl
theorem stM_21 : k0_pay38 (k0_pay34 s m) = stM s m := rfl
theorem stM_22 : k0_pay45 (k0_pay41 m) (k0_pay42 s) = stM s m := rfl
theorem stM_23 : k0_pay52 s m = stM s m := rfl
theorem stM_24 : k0_pay153 (k0_pay56 s m) = stM s m := rfl
theorem stM_25 : k0_pay122 (k0_pay117 s m) = stM s m := rfl
theorem stM_26 : k0_pay129 (k0_pay126 s m) = stM s m := rfl
theorem stM_27 : k0_pay135 s m = stM s m := rfl
theorem stM_28 : k0_pay156 (k0_pay140 s m) = stM s m := rfl
theorem stA_29 : k0_pay9 (k0_pay6 s m) (k0_pay7 s m a) (k0_pay8 v) = stA s m a v := rfl
theorem stA_30 : k0_pay16 (k0_pay13 m) (k0_pay14 s m) (k0_pay15 s m) a v = stA s m a v := rfl
theorem stA_31 : k0_pay22 s m a v = stA s m a v := rfl
theorem stA_32 : k0_pay29 s m a v = stA s m a v := rfl
theorem stA_33 : k0_pay37 (k0_pay35 s m) (k0_pay36 s m a) v = stA s m a v := rfl
theorem stA_34 : k0_pay44 (k0_pay40 s) (k0_pay41 m) (k0_pay42 s) a v = stA s m a v := rfl
theorem stA_35 : k0_pay51 s m a v = stA s m a v := rfl
theorem stA_36 : k0_pay152 (k0_pay57 s m a v) = stA s m a v := rfl
theorem stA_37 : k0_pay121 (k0_pay118 s m a) (k0_pay119 v) (k0_pay120 s m) = stA s m a v := rfl
theorem stA_38 : k0_pay128 (k0_pay125 m) (k0_pay126 s m) (k0_pay127 s m) a v = stA s m a v := rfl
theorem stA_39 : k0_pay134 s m a v = stA s m a v := rfl
theorem stA_40 : k0_pay141 s m a v = stA s m a v := rfl
theorem stF_41 : k0_pay161 s m a v = stF s m a v := rfl
theorem stF_42 : k0_pay170 (k0_pay167 s m) (k0_pay168 s m a) (k0_pay169 v) = stF s m a v := rfl
theorem stF_43 : k0_pay177 (k0_pay173 s) (k0_pay174 m) (k0_pay175 s) a v = stF s m a v := rfl
theorem stF_44 : k0_pay183 (k0_pay179 s) (k0_pay180 m) (k0_pay181 s m) (k0_pay182 s m) a v = stF s m a v := rfl
end
theorem m0_45 : (k0_pay142 : Vec F S1x1x512 .f32) = m0 := rfl
theorem m0_46 : (k0_pay144 : Vec F S1x1x512 .f32) = m0 := rfl
theorem m0_47 : (k0_pay146 : Vec F S1x1x512 .f32) = m0 := rfl
theorem m0_48 : (k0_pay149 k0_pay148 : Vec F S1x1x512 .f32) = m0 := rfl
theorem a0_49 : (k0_pay143 : Vec F S1x80x512 .f32) = a0 := rfl
theorem a0_50 : (k0_pay145 : Vec F S1x80x512 .f32) = a0 := rfl
theorem a0_51 : (k0_pay147 : Vec F S1x80x512 .f32) = a0 := rfl
theorem a0_52 : (k0_pay150 : Vec F S1x80x512 .f32) = a0 := rfl

/-! ### Reading a buffer back -/

section
variable {sig : RefSig} {κ : Kind} {sp : Space} {sh : Shape} {e : EltTy} {Val : EltTy → Type}

/-- A load through the rectangle last stored reads what was stored. -/
theorem rd_hit (v : View sig κ sp sh e) (f : v.ty.Contents Val) (r : Rect sh) (w : r.shape.Idx → Val e) (L : List (View.Piece Val sh e)) :
    v.readAt Val r.toLoadRect (v.writes Val f (⟨r, w⟩ :: L)) = w :=
  funext fun j => View.read_writes_cons_emb v f r w L j

/-- A load past a store that does not meet it. -/
theorem rd_skip (v : View sig κ sp sh e) (f : v.ty.Contents Val) (r : Rect sh) (w : r.shape.Idx → Val e) (L : List (View.Piece Val sh e))
    (B : LoadRect sh) (h : LoadRect.disj r B = true) :
    v.readAt Val B (v.writes Val f (⟨r, w⟩ :: L)) = v.readAt Val B (v.writes Val f L) := by
  funext j
  rw [View.readAt_apply, View.readAt_apply, View.writes_cons,
    View.read_slice_write_of_not_mem r _ _ _ (by rw [Rect.map_emb_univ]; exact LoadRect.idx_not_mem_of_disj h j)]

/-- A load where nothing was stored. -/
theorem rd_nil (v : View sig κ sp sh e) (f : v.ty.Contents Val) (B : LoadRect sh) :
    v.readAt Val B (v.writes Val f []) = v.readAt Val B f := rfl

/-- A load at equal offsets. -/
theorem rd_off (v : View sig κ sp sh e) (f : v.ty.Contents Val) {o o' : Fin sh.rank → ℕ} (sz : Fin sh.rank → ℕ) (h : o = o') (p : ∀ a, o a + sz a ≤ sh.size a) (p' : ∀ a, o' a + sz a ≤ sh.size a) :
    v.readAt Val (Rect.unit (s := sh) o sz p).toLoadRect f = v.readAt Val (Rect.unit (s := sh) o' sz p').toLoadRect f := by
  subst h; rfl
end

/-! ### The blocks of the operands -/

/-- Head `h`'s queries. -/
def qb (x : Vec F S1x4x512x128 .bf16) (h : Fin 4) : Vec F S1x1x512x128 .bf16 :=
  View.ld x (Rect.unit (s := S1x4x512x128) ![0, h.val, 0, 0] S1x1x512x128.size (by revert h; decide))
/-- Head `h`'s `j`-th block of keys, -/
def kb (x : Vec F S1x4x16384x128 .bf16) (h : Fin 4) (j : Fin 32) : Vec F S1x1x512x128 .bf16 :=
  View.ld x (Rect.unit (s := S1x4x16384x128) ![0, h.val, 512 * j.val, 0] S1x1x512x128.size (by revert h j; decide))
/-- and of values. -/
def vb (x : Vec F S1x4x32x80x512 .bf16) (h : Fin 4) (j : Fin 32) : Vec F S1x1x1x80x512 .bf16 :=
  View.ld x (Rect.unit (s := S1x4x32x80x512) ![0, h.val, j.val, 0, 0] S1x1x1x80x512.size (by revert h j; decide))

theorem rdQ {κ : Kind} {sp : Space} (b : Memref sig κ sp S1x4x512x128 .bf16) (hb : b.IsWhole) (x : Vec F S1x4x512x128 .bf16) (h : Fin 4)
    {o : Fin 4 → ℕ} (e : o = ![0, h.val, 0, 0]) (p : ∀ a, o a + S1x1x512x128.size a ≤ S1x4x512x128.size a) :
    b.view.readAt (Elt F) (Rect.unit (s := S1x4x512x128) o S1x1x512x128.size p).toLoadRect (hb.unread x) = qb x h := by
  subst e; rw [View.readAt_eq_ld, hb.read_unread]; rfl
theorem rdK {κ : Kind} {sp : Space} (b : Memref sig κ sp S1x4x16384x128 .bf16) (hb : b.IsWhole) (x : Vec F S1x4x16384x128 .bf16) (h : Fin 4) (j : Fin 32)
    {o : Fin 4 → ℕ} (e : o = ![0, h.val, 512 * j.val, 0]) (p : ∀ a, o a + S1x1x512x128.size a ≤ S1x4x16384x128.size a) :
    b.view.readAt (Elt F) (Rect.unit (s := S1x4x16384x128) o S1x1x512x128.size p).toLoadRect (hb.unread x) = kb x h j := by
  subst e; rw [View.readAt_eq_ld, hb.read_unread]; rfl
theorem rdV {κ : Kind} {sp : Space} (b : Memref sig κ sp S1x4x32x80x512 .bf16) (hb : b.IsWhole) (x : Vec F S1x4x32x80x512 .bf16) (h : Fin 4) (j : Fin 32)
    {o : Fin 5 → ℕ} (e : o = ![0, h.val, j.val, 0, 0]) (p : ∀ a, o a + S1x1x1x80x512.size a ≤ S1x4x32x80x512.size a) :
    b.view.readAt (Elt F) (Rect.unit (s := S1x4x32x80x512) o S1x1x1x80x512.size p).toLoadRect (hb.unread x) = vb x h j := by
  subst e; rw [View.readAt_eq_ld, hb.read_unread]; rfl

end Cert.KernelIdeal.Val
-- ==== Proof.Read.lean ====
/-
  The block arithmetic read at one element over the extended reals.
-/
module

public import proofs.«01_k».proof.Proof.Step
public import Idealize.ShloMosaic.Lib.Pointwise
public import Idealize.ShloMosaic.Lib.WordCmp

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The word of minus infinity. -/
theorem neg_inf : Ideal.ofBits .f32 4286578688#32 = ⊥ := by simp [Ideal.ofBits, Ideal.ieee]

/-- A selection on the signed order of two small indices, as an order of naturals. -/
theorem select_sle {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  have h1 : (BitVec.ofNat 32 a).toInt = a := by rw [BitVec.toInt_ofNat']; simp [Int.bmod]; omega
  have h2 : (BitVec.ofNat 32 b).toInt = b := by rw [BitVec.toInt_ofNat']; simp [Int.bmod]; omega
  rw [WordCmp.cmpi_sle_eq, h1, h2]
  unfold Scalar.select
  by_cases h : a ≤ b <;> simp [h]

/-- A score: the inner product of a key and a query. -/
theorem sc_apply (k q : Vec Ideal S1x1x512x128 .bf16) (key query : Fin 512) :
    sc k q (ix3 0 key query) = ∑ d : Fin 128, k (ix4 0 0 key d) * q (ix4 0 0 query d) := by
  pointwise [sc, k0_pay2]

/-- The greatest of a column of scores. -/
def colMax (s : Vec Ideal S1x512x512 .f32) (query : Fin 512) : EReal :=
  Finset.univ.fold max ⊥ fun key : Fin 512 => (s (ix3 0 key query) : EReal)

theorem stM_apply (s : Vec Ideal S1x512x512 .f32) (m : Vec Ideal S1x1x512 .f32) (query : Fin 512) :
    stM s m (ix3 0 0 query) = max (m (ix3 0 0 query) : EReal) (colMax s query) := by
  pointwise [stM, k0_pay10, k0_pay5, k0_pay3, k0_pay4]
  rw [neg_inf]; rfl

theorem stA_apply (s : Vec Ideal S1x512x512 .f32) (m : Vec Ideal S1x1x512 .f32) (a : Vec Ideal S1x80x512 .f32)
    (v : Vec Ideal S1x1x1x80x512 .bf16) (r : Fin 80) (query : Fin 512) :
    stA s m a v (ix3 0 r query)
      = (a (ix3 0 r query) : EReal) * Ideal.exp2 ((m (ix3 0 0 query) : EReal) - max (m (ix3 0 0 query) : EReal) (colMax s query))
        + ∑ key : Fin 512, (v (ix5 0 0 0 r key) : EReal)
            * Ideal.exp2 ((s (ix3 0 key query) : EReal) - max (m (ix3 0 0 query) : EReal) (colMax s query)) := by
  pointwise [stA, k0_pay9, k0_pay8, k0_pay7, k0_pay6, k0_pay5, k0_pay3, k0_pay4]
  simp only [neg_inf]; rfl

/-- The scores of the tile on the diagonal: a key past its query is masked. -/
def msk (s : Vec Ideal S1x512x512 .f32) : Vec Ideal S1x512x512 .f32 := fun i =>
  if (i 1).val ≤ (i 2).val then s i else (⊥ : EReal)

theorem stF_apply (s : Vec Ideal S1x512x512 .f32) (m : Vec Ideal S1x1x512 .f32) (a : Vec Ideal S1x80x512 .f32)
    (v : Vec Ideal S1x1x1x80x512 .bf16) (r : Fin 80) (query : Fin 512) :
    stF s m a v (ix3 0 r query) = stA (msk s) m a v (ix3 0 r query) := by
  rw [stA_apply]
  have e : ∀ key : Fin 512, Scalar.select (IntOp.cmpi CmpIPredicate.sle (BitVec.ofNat 32 ↑key) (BitVec.ofNat 32 ↑query))
      (s (ix3 0 key query) : EReal) ⊥ = msk s (ix3 0 key query) := fun key => by
    rw [select_sle _ _ (by omega) (by omega)]; rfl
  pointwise [stF, k0_pay161, k0_pay158, k0_pay159, k0_pay160]
  simp only [neg_inf, e]; rfl

/-- The sums of the head a lane of the result's block belongs to. -/
def headOf (a : Fin 4 → Vec Ideal S1x80x512 .f32) (l : Fin 256) : Vec Ideal S1x80x512 .f32 := a ⟨l.val / 64, by omega⟩

theorem outB_apply (a : Fin 4 → Vec Ideal S1x80x512 .f32) (query : Fin 512) (l : Fin 256) :
    outB (a 0) (a 1) (a 2) (a 3) (ix3 0 query l)
      = Ideal.div (headOf a l (ix3 0 ⟨l.val % 64, by omega⟩ query)) (headOf a l (ix3 0 64 query)) := by
  pointwise [outB, k0_pay1, k0_pay185, k0_pay186, k0_pay187, k0_pay188]
  unfold headOf
  obtain ⟨l, hl⟩ := l
  have key : ∀ (h : Fin 4) (c : ℕ) (hc : c < 80), l / 64 = h.val → l % 64 = c →
      Ideal.div (a h (ix3 0 ⟨c, hc⟩ query)) (a h (ix3 0 64 query))
        = Ideal.div (a ⟨l / 64, by omega⟩ (ix3 0 ⟨l % 64, by omega⟩ query)) (a ⟨l / 64, by omega⟩ (ix3 0 64 query)) := by
    intro h c hc e1 e2
    have e3 : (⟨l / 64, by omega⟩ : Fin 4) = h := Fin.ext e1
    subst e2; rw [e3]
  dsimp only
  split
  · exact key 0 _ _ (by simp; omega) (by omega)
  split
  · exact key 1 _ _ (by simp; omega) (by omega)
  split
  · exact key 2 _ _ (by simp; omega) (by omega)
  · exact key 3 _ _ (by simp; omega) (by omega)

theorem m0_apply (query : Fin 512) : (m0 (F := Ideal) (ix3 0 0 query) : EReal) = ⊥ := by
  pointwise [m0, k0_pay142]
  exact neg_inf

theorem a0_apply (r : Fin 80) (query : Fin 512) : (a0 (F := Ideal) (ix3 0 r query) : EReal) = 0 := by
  pointwise [a0, k0_pay143]

end Cert.KernelIdeal.Val
-- ==== Proof.Trip.lean ====
/-
  One trip of the kernel's loop over whole key tiles: two tiles of every head. What the trip's stores leave in the scratch
  buffers, read back, is the two tiles' step functions applied to what the trip found there.
-/
module

public import proofs.«01_k».proof.Proof.Step
public import proofs.«01_k».proof.Proof.Gen.KernelIdeal.Loops

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ### Where the trip loads from -/

theorem trips1 : ∀ i : grid0.Coords, (k0_t1_loop i).trips = (i 2).val / 2 := by decide +kernel
theorem trips2 : ∀ i : grid0.Coords, (k0_t2_loop i).trips = 0 := by decide +kernel

theorem trip_lt (i : grid0.Coords) (k : Fin (k0_t1_loop i).trips) : 2 * k.val + 2 < 32 := by
  have h := k.isLt.trans_eq (trips1 i)
  have : (i 2).val < 32 := (i 2).isLt
  omega

theorem off1 : ∀ (i : grid0.Coords) (k : Fin (k0_t1_loop i).trips), k0_off1 i k = ![0, 1, 512 * (2 * k.val + 0), 0] := by decide +kernel
theorem off3 : ∀ (i : grid0.Coords) (k : Fin (k0_t1_loop i).trips), k0_off3 i k = ![0, 2, 512 * (2 * k.val + 0), 0] := by decide +kernel
theorem off5 : ∀ (i : grid0.Coords) (k : Fin (k0_t1_loop i).trips), k0_off5 i k = ![0, 3, 512 * (2 * k.val + 0), 0] := by decide +kernel
theorem off7 : ∀ (i : grid0.Coords) (k : Fin (k0_t1_loop i).trips), k0_off7 i k = ![0, 0, 512 * (2 * k.val + 1), 0] := by decide +kernel
theorem off9 : ∀ (i : grid0.Coords) (k : Fin (k0_t1_loop i).trips), k0_off9 i k = ![0, 1, 512 * (2 * k.val + 1), 0] := by decide +kernel
theorem off11 : ∀ (i : grid0.Coords) (k : Fin (k0_t1_loop i).trips), k0_off11 i k = ![0, 2, 512 * (2 * k.val + 1), 0] := by decide +kernel
theorem off13 : ∀ (i : grid0.Coords) (k : Fin (k0_t1_loop i).trips), k0_off13 i k = ![0, 3, 512 * (2 * k.val + 1), 0] := by decide +kernel
theorem off15 : ∀ (i : grid0.Coords) (k : Fin (k0_t1_loop i).trips), k0_off15 i k = ![0, 0, 512 * (2 * k.val + 2), 0] := by decide +kernel
theorem off2 : ∀ (i : grid0.Coords) (k : Fin (k0_t1_loop i).trips), k0_off2 i k = ![0, 0, 2 * k.val + 0, 0, 0] := by decide +kernel
theorem off4 : ∀ (i : grid0.Coords) (k : Fin (k0_t1_loop i).trips), k0_off4 i k = ![0, 1, 2 * k.val + 0, 0, 0] := by decide +kernel
theorem off6 : ∀ (i : grid0.Coords) (k : Fin (k0_t1_loop i).trips), k0_off6 i k = ![0, 2, 2 * k.val + 0, 0, 0] := by decide +kernel
theorem off8 : ∀ (i : grid0.Coords) (k : Fin (k0_t1_loop i).trips), k0_off8 i k = ![0, 3, 2 * k.val + 0, 0, 0] := by decide +kernel
theorem off10 : ∀ (i : grid0.Coords) (k : Fin (k0_t1_loop i).trips), k0_off10 i k = ![0, 0, 2 * k.val + 1, 0, 0] := by decide +kernel
theorem off12 : ∀ (i : grid0.Coords) (k : Fin (k0_t1_loop i).trips), k0_off12 i k = ![0, 1, 2 * k.val + 1, 0, 0] := by decide +kernel
theorem off14 : ∀ (i : grid0.Coords) (k : Fin (k0_t1_loop i).trips), k0_off14 i k = ![0, 2, 2 * k.val + 1, 0, 0] := by decide +kernel
theorem off16 : ∀ (i : grid0.Coords) (k : Fin (k0_t1_loop i).trips), k0_off16 i k = ![0, 3, 2 * k.val + 1, 0, 0] := by decide +kernel

/-! ### The loop's state, read off the scratch -/

/-- The loads of a head's maximum, sums and scores. -/
abbrev rM0 : LoadRect S4x1x512 := (Rect.unit (s := S4x1x512) ![0, 0, 0] S1x1x512.size inb_S4x1x512_S1x1x512_0_0_0).toLoadRect
abbrev rM1 : LoadRect S4x1x512 := (Rect.unit (s := S4x1x512) ![1, 0, 0] S1x1x512.size inb_S4x1x512_S1x1x512_1_0_0).toLoadRect
abbrev rM2 : LoadRect S4x1x512 := (Rect.unit (s := S4x1x512) ![2, 0, 0] S1x1x512.size inb_S4x1x512_S1x1x512_2_0_0).toLoadRect
abbrev rM3 : LoadRect S4x1x512 := (Rect.unit (s := S4x1x512) ![3, 0, 0] S1x1x512.size inb_S4x1x512_S1x1x512_3_0_0).toLoadRect
abbrev rA0 : LoadRect S4x80x512 := (Rect.unit (s := S4x80x512) ![0, 0, 0] S1x80x512.size inb_S4x80x512_S1x80x512_0_0_0).toLoadRect
abbrev rA1 : LoadRect S4x80x512 := (Rect.unit (s := S4x80x512) ![1, 0, 0] S1x80x512.size inb_S4x80x512_S1x80x512_1_0_0).toLoadRect
abbrev rA2 : LoadRect S4x80x512 := (Rect.unit (s := S4x80x512) ![2, 0, 0] S1x80x512.size inb_S4x80x512_S1x80x512_2_0_0).toLoadRect
abbrev rA3 : LoadRect S4x80x512 := (Rect.unit (s := S4x80x512) ![3, 0, 0] S1x80x512.size inb_S4x80x512_S1x80x512_3_0_0).toLoadRect
abbrev rS0 : LoadRect S4x512x512 := (Rect.unit (s := S4x512x512) ![0, 0, 0] S1x512x512.size inb_S4x512x512_S1x512x512_0_0_0).toLoadRect

/-- The scratch holds, of each head, the maximum `m h`, the sums `a h`, and of head 0 the next scores `s`. -/
structure Holds (arg7 : Memref sig .tc .vmem S4x1x512 .f32) (arg8 : Memref sig .tc .vmem S4x80x512 .f32) (arg9 : Memref sig .tc .vmem S4x512x512 .f32)
    (f7 : arg7.view.ty.Contents (Elt F)) (f8 : arg8.view.ty.Contents (Elt F)) (f9 : arg9.view.ty.Contents (Elt F))
    (m : Fin 4 → Vec F S1x1x512 .f32) (a : Fin 4 → Vec F S1x80x512 .f32) (s : Vec F S1x512x512 .f32) : Prop where
  m0 : arg7.view.readAt (Elt F) rM0 f7 = m 0
  m1 : arg7.view.readAt (Elt F) rM1 f7 = m 1
  m2 : arg7.view.readAt (Elt F) rM2 f7 = m 2
  m3 : arg7.view.readAt (Elt F) rM3 f7 = m 3
  a0 : arg8.view.readAt (Elt F) rA0 f8 = a 0
  a1 : arg8.view.readAt (Elt F) rA1 f8 = a 1
  a2 : arg8.view.readAt (Elt F) rA2 f8 = a 2
  a3 : arg8.view.readAt (Elt F) rA3 f8 = a 3
  s0 : arg9.view.readAt (Elt F) rS0 f9 = s

/-- The state of head `h` before its `n`-th key tile, from the operands' blocks. -/
def st (x3 : Vec F S1x4x512x128 .bf16) (x4 : Vec F S1x4x16384x128 .bf16) (x5 : Vec F S1x4x32x80x512 .bf16) (h : Fin 4) : ℕ → Vec F S1x1x512 .f32 × Vec F S1x80x512 .f32
  | 0 => (m0, a0)
  | n + 1 => if hn : n < 32 then
      let s := sc (kb x4 h ⟨n, hn⟩) (qb x3 h)
      let p := st x3 x4 x5 h n
      (stM s p.1, stA s p.1 p.2 (vb x5 h ⟨n, hn⟩))
    else st x3 x4 x5 h n

theorem st_succ (x3 : Vec F S1x4x512x128 .bf16) (x4 : Vec F S1x4x16384x128 .bf16) (x5 : Vec F S1x4x32x80x512 .bf16) (h : Fin 4) (n : ℕ) (hn : n < 32) :
    st x3 x4 x5 h (n + 1) = (stM (sc (kb x4 h ⟨n, hn⟩) (qb x3 h)) (st x3 x4 x5 h n).1,
      stA (sc (kb x4 h ⟨n, hn⟩) (qb x3 h)) (st x3 x4 x5 h n).1 (st x3 x4 x5 h n).2 (vb x5 h ⟨n, hn⟩)) := by
  rw [st, dif_pos hn]

set_option maxHeartbeats 4000000 in
/-- One trip carries the state before tile `2k` to the state before tile `2k + 2`. -/
theorem trip_holds (c : Dev nD) (i : grid0.Coords) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole) (arg2 v42 : BitVec 32) (v56 : BitVec 1) (c1 : BitVec 32)
    (x3 : Vec F S1x4x512x128 .bf16) (x4 : Vec F S1x4x16384x128 .bf16) (x5 : Vec F S1x4x32x80x512 .bf16) (k : Fin (k0_t1_loop i).trips)
    (f7 : arg7.view.ty.Contents (Elt F)) (f8 : arg8.view.ty.Contents (Elt F)) (f9 : arg9.view.ty.Contents (Elt F))
    (H : Holds arg7 arg8 arg9 f7 f8 f9 (fun h => (st x3 x4 x5 h (2 * k.val)).1) (fun h => (st x3 x4 x5 h (2 * k.val)).2)
      (sc (kb x4 0 ⟨2 * k.val, by have := trip_lt i k; omega⟩) (qb x3 0))) :
    ∀ (g7 : arg7.view.ty.Contents (Elt F)) (g8 : arg8.view.ty.Contents (Elt F)) (g9 : arg9.view.ty.Contents (Elt F)),
    let L := tripL_k0_t1 (F := F) Variants.none c none i arg3 harg3 arg4 harg4 arg5 harg5 arg6 harg6 arg7 harg7 arg8 harg8 arg9 harg9 arg2 v42 v56 c1 (harg3.unread x3) (harg4.unread x4) (harg5.unread x5) k f7 f8 f9
    Holds arg7 arg8 arg9 (arg7.view.writes (Elt F) g7 L.1) (arg8.view.writes (Elt F) g8 L.2.1) (arg9.view.writes (Elt F) g9 L.2.2)
      (fun h => (st x3 x4 x5 h (2 * k.val + 2)).1) (fun h => (st x3 x4 x5 h (2 * k.val + 2)).2)
      (sc (kb x4 0 ⟨2 * k.val + 2, trip_lt i k⟩) (qb x3 0)) := by
  have hk := trip_lt i k
  obtain ⟨hm0, hm1, hm2, hm3, ha0, ha1, ha2, ha3, hs0⟩ := H
  have q0 : arg3.view.readAt (Elt F) (Rect.unit (s := S1x4x512x128) ![0, 0, 0, 0] S1x1x512x128.size inb_S1x4x512x128_S1x1x512x128_0_0_0_0).toLoadRect (harg3.unread x3) = qb x3 0 := rdQ _ _ _ 0 rfl _
  have q1 : arg3.view.readAt (Elt F) (Rect.unit (s := S1x4x512x128) ![0, 1, 0, 0] S1x1x512x128.size inb_S1x4x512x128_S1x1x512x128_0_1_0_0).toLoadRect (harg3.unread x3) = qb x3 1 := rdQ _ _ _ 1 rfl _
  have q2 : arg3.view.readAt (Elt F) (Rect.unit (s := S1x4x512x128) ![0, 2, 0, 0] S1x1x512x128.size inb_S1x4x512x128_S1x1x512x128_0_2_0_0).toLoadRect (harg3.unread x3) = qb x3 2 := rdQ _ _ _ 2 rfl _
  have q3 : arg3.view.readAt (Elt F) (Rect.unit (s := S1x4x512x128) ![0, 3, 0, 0] S1x1x512x128.size inb_S1x4x512x128_S1x1x512x128_0_3_0_0).toLoadRect (harg3.unread x3) = qb x3 3 := rdQ _ _ _ 3 rfl _
  have k1 := rdK arg4 harg4 x4 1 ⟨2 * k.val + 0, by omega⟩ (off1 i k) (k0_off1_inb i k)
  have k3 := rdK arg4 harg4 x4 2 ⟨2 * k.val + 0, by omega⟩ (off3 i k) (k0_off3_inb i k)
  have k5 := rdK arg4 harg4 x4 3 ⟨2 * k.val + 0, by omega⟩ (off5 i k) (k0_off5_inb i k)
  have k7 := rdK arg4 harg4 x4 0 ⟨2 * k.val + 1, by omega⟩ (off7 i k) (k0_off7_inb i k)
  have k9 := rdK arg4 harg4 x4 1 ⟨2 * k.val + 1, by omega⟩ (off9 i k) (k0_off9_inb i k)
  have k11 := rdK arg4 harg4 x4 2 ⟨2 * k.val + 1, by omega⟩ (off11 i k) (k0_off11_inb i k)
  have k13 := rdK arg4 harg4 x4 3 ⟨2 * k.val + 1, by omega⟩ (off13 i k) (k0_off13_inb i k)
  have k15 := rdK arg4 harg4 x4 0 ⟨2 * k.val + 2, by omega⟩ (off15 i k) (k0_off15_inb i k)
  have v2 := rdV arg5 harg5 x5 0 ⟨2 * k.val + 0, by omega⟩ (off2 i k) (k0_off2_inb i k)
  have v4 := rdV arg5 harg5 x5 1 ⟨2 * k.val + 0, by omega⟩ (off4 i k) (k0_off4_inb i k)
  have v6 := rdV arg5 harg5 x5 2 ⟨2 * k.val + 0, by omega⟩ (off6 i k) (k0_off6_inb i k)
  have v8 := rdV arg5 harg5 x5 3 ⟨2 * k.val + 0, by omega⟩ (off8 i k) (k0_off8_inb i k)
  have v10 := rdV arg5 harg5 x5 0 ⟨2 * k.val + 1, by omega⟩ (off10 i k) (k0_off10_inb i k)
  have v12 := rdV arg5 harg5 x5 1 ⟨2 * k.val + 1, by omega⟩ (off12 i k) (k0_off12_inb i k)
  have v14 := rdV arg5 harg5 x5 2 ⟨2 * k.val + 1, by omega⟩ (off14 i k) (k0_off14_inb i k)
  have v16 := rdV arg5 harg5 x5 3 ⟨2 * k.val + 1, by omega⟩ (off16 i k) (k0_off16_inb i k)
  simp only [rM0, rM1, rM2, rM3, rA0, rA1, rA2, rA3, rS0] at hm0 hm1 hm2 hm3 ha0 ha1 ha2 ha3 hs0
  have s1 : ∀ h, st x3 x4 x5 h (2 * k.val + 1) = _ := fun h => st_succ x3 x4 x5 h (2 * k.val) (by omega)
  have s2 : ∀ h, st x3 x4 x5 h (2 * k.val + 2) = _ := fun h => st_succ x3 x4 x5 h (2 * k.val + 1) (by omega)
  intro g7 g8 g9 L
  unfold L tripL_k0_t1 trip_k0_t1
  dsimp only
  constructor <;>
    simp (disch := decide) only [rM0, rM1, rM2, rM3, rA0, rA1, rA2, rA3, rS0,
      trip_k0_t1.sl.HW_arg7_4, trip_k0_t1.sl.HW_arg7_5, trip_k0_t1.sl.HW_arg7_6, trip_k0_t1.sl.HW_arg7_7, trip_k0_t1.sl.HW_arg8_4, trip_k0_t1.sl.HW_arg8_5, trip_k0_t1.sl.HW_arg8_6, trip_k0_t1.sl.HW_arg8_7, trip_k0_t1.sl.HW_arg9_2, trip_k0_t1.sl.HW_arg9_3, trip_k0_t1.sl.HW_arg9_4, trip_k0_t1.sl.HW_arg9_5, trip_k0_t1.sl.HW_arg9_6, trip_k0_t1.sl.HW_arg9_7, trip_k0_t1.sl.HW_arg9_8, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v284, trip_k0_t1.sl.v323, trip_k0_t1.sl.v325, trip_k0_t1.sl.v333, trip_k0_t1.sl.v362, trip_k0_t1.sl.v364, trip_k0_t1.sl.v372, trip_k0_t1.sl.v402, trip_k0_t1.sl.v404, trip_k0_t1.sl.v412, trip_k0_t1.sl.v443, trip_k0_t1.sl.v445, trip_k0_t1.sl.v453, trip_k0_t1.sl.v482, trip_k0_t1.sl.v484, trip_k0_t1.sl.v492, trip_k0_t1.sl.v518, trip_k0_t1.sl.v521, trip_k0_t1.sl.v523, trip_k0_t1.sl.v531, trip_k0_t1.sl.v561, trip_k0_t1.sl.v563, trip_k0_t1.sl.v571,
      View.readCov, ↓rd_hit, ↓rd_skip, ↓rd_nil, hm0, hm1, hm2, hm3, ha0, ha1, ha2, ha3, hs0, q0, q1, q2, q3, k1, k3, k5, k7, k9, k11, k13, k15, v2, v4, v6, v8, v10, v12, v14, v16,
      s2, s1, Nat.add_zero, sc_1, sc_2, sc_3, sc_4, sc_5, sc_6, sc_7, sc_8, sc_9, sc_10, sc_11, sc_12, sc_13, sc_14, sc_15, sc_16, stM_17, stM_18, stM_19, stM_20, stM_21, stM_22, stM_23, stM_24, stM_25, stM_26, stM_27, stM_28, stA_29, stA_30, stA_31, stA_32, stA_33, stA_34, stA_35, stA_36, stA_37, stA_38, stA_39, stA_40]
  all_goals rfl

/-- Before trip `n` the scratch holds the state before tile `2n`, whatever lay under the first tile's stores. -/
theorem pb_holds (c : Dev nD) (i : grid0.Coords) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole) (arg2 v42 : BitVec 32) (v56 : BitVec 1) (c1 : BitVec 32)
    (x3 : Vec F S1x4x512x128 .bf16) (x4 : Vec F S1x4x16384x128 .bf16) (x5 : Vec F S1x4x32x80x512 .bf16)
    (G7 G7' : arg7.view.ty.Contents (Elt F)) (G8 G8' : arg8.view.ty.Contents (Elt F)) (G9 G9' : arg9.view.ty.Contents (Elt F))
    (H : Holds arg7 arg8 arg9 G7 G8 G9 (fun h => (st x3 x4 x5 h 0).1) (fun h => (st x3 x4 x5 h 0).2) (sc (kb x4 0 0) (qb x3 0)))
    (H' : Holds arg7 arg8 arg9 G7' G8' G9' (fun h => (st x3 x4 x5 h 0).1) (fun h => (st x3 x4 x5 h 0).2) (sc (kb x4 0 0) (qb x3 0)))
    (n : ℕ) (hn : n ≤ (k0_t1_loop i).trips) (hl : 2 * n < 32) :
    let L := pb_k0_t1 (F := F) Variants.none c none i arg3 harg3 arg4 harg4 arg5 harg5 arg6 harg6 arg7 harg7 arg8 harg8 arg9 harg9 arg2 v42 v56 c1 (harg3.unread x3) (harg4.unread x4) (harg5.unread x5) G7 G8 G9 n
    Holds arg7 arg8 arg9 (arg7.view.writes (Elt F) G7 L.1) (arg8.view.writes (Elt F) G8 L.2.1) (arg9.view.writes (Elt F) G9 L.2.2)
        (fun h => (st x3 x4 x5 h (2 * n)).1) (fun h => (st x3 x4 x5 h (2 * n)).2) (sc (kb x4 0 ⟨2 * n, hl⟩) (qb x3 0))
      ∧ Holds arg7 arg8 arg9 (arg7.view.writes (Elt F) G7' L.1) (arg8.view.writes (Elt F) G8' L.2.1) (arg9.view.writes (Elt F) G9' L.2.2)
        (fun h => (st x3 x4 x5 h (2 * n)).1) (fun h => (st x3 x4 x5 h (2 * n)).2) (sc (kb x4 0 ⟨2 * n, hl⟩) (qb x3 0)) := by
  induction n with
  | zero => rw [pb_k0_t1.eq_1]; exact ⟨H, H'⟩
  | succ n ih =>
    have hi := (ih (by omega) (by omega)).1
    have ht := trip_holds c i arg3 harg3 arg4 harg4 arg5 harg5 arg6 harg6 arg7 harg7 arg8 harg8 arg9 harg9 arg2 v42 v56 c1 x3 x4 x5 ⟨n, by omega⟩ _ _ _ hi
    have e := pb_k0_t1_succ (F := F) Variants.none c none i arg3 harg3 arg4 harg4 arg5 harg5 arg6 harg6 arg7 harg7 arg8 harg8 arg9 harg9 arg2 v42 v56 c1 (harg3.unread x3) (harg4.unread x4) (harg5.unread x5) G7 G8 G9 ⟨n, by omega⟩
    intro L
    unfold L
    rw [e]
    simp only [View.writes_append]
    exact ⟨ht _ _ _, ht _ _ _⟩

end Cert.KernelIdeal.Val
-- ==== Proof.Run.lean ====
/-
  The kernel's body run once on symbolic staging buffers, at any reading of the floats: in the two cases of its one
  branch (whether the number of whole key tiles before the diagonal is odd). Each run finds what the body stores.
-/
module

public import proofs.«01_k».proof.Proof.Gen.KernelIdeal.Frame
public import proofs.«01_k».proof.Proof.Gen.KernelIdeal.Loops

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The triple of the body: inputs at their contents, the result's buffer and the scratch at anything, run to the inputs
    as they were and the result's buffer with the pieces `L` written. -/
def BodyRun (c : Dev nD) (i : grid0.Coords) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole)
    (x3 : Vec F S1x4x512x128 .bf16) (x4 : Vec F S1x4x16384x128 .bf16) (x5 : Vec F S1x4x32x80x512 .bf16)
    (x7 : Vec F S4x1x512 .f32) (x8 : Vec F S4x80x512 .f32) (x9 : Vec F S4x512x512 .f32)
    (L : List (View.Piece (Elt F) S1x512x256 .bf16)) : Prop :=
  ∀ (E : Set ℕ) (K : PUnit → sProp 𝕄),
    iprop(owns (c : Thread nD τ) arg3 fullShare x3 ∗ owns (c : Thread nD τ) arg4 fullShare x4 ∗ owns (c : Thread nD τ) arg5 fullShare x5
        ∗ (∃ d, owns (c : Thread nD τ) arg6 fullShare d)
        ∗ owns (c : Thread nD τ) arg7 fullShare x7 ∗ owns (c : Thread nD τ) arg8 fullShare x8 ∗ owns (c : Thread nD τ) arg9 fullShare x9
        ∗ (iprop(owns (c : Thread nD τ) arg3 fullShare x3 ∗ owns (c : Thread nD τ) arg4 fullShare x4 ∗ owns (c : Thread nD τ) arg5 fullShare x5
            ∗ (∃ f, arg6.view.loc (c : Thread nD τ) ↦[arg6.view.set]{fullShare} arg6.view.writes (Elt F) f L)
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E
          (cc0_mla_attn i arg3 harg3 arg4 harg4 arg5 harg5 arg6 harg6 arg7 harg7 arg8 harg8 arg9 harg9) K

set_option maxHeartbeats 4000000 in
/-- The run where the branch is taken. -/
def runOdd (c : Dev nD) (i : grid0.Coords) (hc : k0_cond1 i = 1#1) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole)
    (x3 : Vec F S1x4x512x128 .bf16) (x4 : Vec F S1x4x16384x128 .bf16) (x5 : Vec F S1x4x32x80x512 .bf16)
    (x7 : Vec F S4x1x512 .f32) (x8 : Vec F S4x80x512 .f32) (x9 : Vec F S4x512x512 .f32) :
    { L // BodyRun (F := F) c i arg3 harg3 arg4 harg4 arg5 harg5 arg6 harg6 arg7 harg7 arg8 harg8 arg9 harg9 x3 x4 x5 x7 x8 x9 L } := by
  refine ⟨?_, fun E K => ?run⟩
  case run =>
    simp only [cc0_mla_attn_eq_skeleton]; unfold cc0_mla_attn_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

set_option maxHeartbeats 4000000 in
/-- The run where the branch is not taken. -/
def runEven (c : Dev nD) (i : grid0.Coords) (hc : ¬ k0_cond1 i = 1#1) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole)
    (x3 : Vec F S1x4x512x128 .bf16) (x4 : Vec F S1x4x16384x128 .bf16) (x5 : Vec F S1x4x32x80x512 .bf16)
    (x7 : Vec F S4x1x512 .f32) (x8 : Vec F S4x80x512 .f32) (x9 : Vec F S4x512x512 .f32) :
    { L // BodyRun (F := F) c i arg3 harg3 arg4 harg4 arg5 harg5 arg6 harg6 arg7 harg7 arg8 harg8 arg9 harg9 x3 x4 x5 x7 x8 x9 L } := by
  refine ⟨?_, fun E K => ?run⟩
  case run =>
    simp only [cc0_mla_attn_eq_skeleton]; unfold cc0_mla_attn_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _, _; isplitr; swap; · iexact H7
                    ipureintro; rfl
    isplitl [H8]; · iexists _, _; isplitr; swap; · iexact H8
                    ipureintro; rfl
    iexists _, _; isplitr; swap; · iexact H9
    ipureintro; rfl

end Cert.KernelIdeal.Val
-- ==== Proof.Out.lean ====
/-
  The block the kernel's body stores: each head's sums after the whole key tiles before the diagonal and the masked tile on
  it, divided by their last row and put together. Both parities of the query tile leave this function's value.
-/
module

public import proofs.«01_k».proof.Proof.Trip
public import proofs.«01_k».proof.Proof.Run

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ### Where the tail loads from -/

theorem off33 : ∀ i : grid0.Coords, k0_cond1 i = 1#1 → k0_off33 i = ![0, 1, 512 * (2 * ((i 2).val / 2)), 0] := by decide +kernel
theorem off34 : ∀ i : grid0.Coords, k0_cond1 i = 1#1 → k0_off34 i = ![0, 0, 2 * ((i 2).val / 2), 0, 0] := by decide +kernel
theorem off35 : ∀ i : grid0.Coords, k0_cond1 i = 1#1 → k0_off35 i = ![0, 2, 512 * (2 * ((i 2).val / 2)), 0] := by decide +kernel
theorem off36 : ∀ i : grid0.Coords, k0_cond1 i = 1#1 → k0_off36 i = ![0, 1, 2 * ((i 2).val / 2), 0, 0] := by decide +kernel
theorem off37 : ∀ i : grid0.Coords, k0_cond1 i = 1#1 → k0_off37 i = ![0, 3, 512 * (2 * ((i 2).val / 2)), 0] := by decide +kernel
theorem off38 : ∀ i : grid0.Coords, k0_cond1 i = 1#1 → k0_off38 i = ![0, 2, 2 * ((i 2).val / 2), 0, 0] := by decide +kernel
theorem off39 : ∀ i : grid0.Coords, k0_cond1 i = 1#1 → k0_off39 i = ![0, 0, 512 * (2 * ((i 2).val / 2) + 1), 0] := by decide +kernel
theorem off40 : ∀ i : grid0.Coords, k0_cond1 i = 1#1 → k0_off40 i = ![0, 3, 2 * ((i 2).val / 2), 0, 0] := by decide +kernel
theorem off41 : ∀ i : grid0.Coords, k0_off41 i = ![0, 1, 512 * (i 2).val, 0] := by decide +kernel
theorem off42 : ∀ i : grid0.Coords, k0_off42 i = ![0, 0, (i 2).val, 0, 0] := by decide +kernel
theorem off43 : ∀ i : grid0.Coords, k0_off43 i = ![0, 2, 512 * (i 2).val, 0] := by decide +kernel
theorem off44 : ∀ i : grid0.Coords, k0_off44 i = ![0, 1, (i 2).val, 0, 0] := by decide +kernel
theorem off45 : ∀ i : grid0.Coords, k0_off45 i = ![0, 3, 512 * (i 2).val, 0] := by decide +kernel
theorem off46 : ∀ i : grid0.Coords, k0_off46 i = ![0, 2, (i 2).val, 0, 0] := by decide +kernel
theorem off47 : ∀ i : grid0.Coords, k0_off47 i = ![0, 3, (i 2).val, 0, 0] := by decide +kernel

theorem cond_odd : ∀ i : grid0.Coords, k0_cond1 i = 1#1 → 2 * ((i 2).val / 2) + 1 = (i 2).val := by decide +kernel
theorem cond_even : ∀ i : grid0.Coords, ¬ k0_cond1 i = 1#1 → 2 * ((i 2).val / 2) = (i 2).val := by decide +kernel

/-! ### The initial state -/

abbrev i7 : List (View.Piece (Elt F) S4x1x512 .f32) :=
  [⟨Rect.unit (s := S4x1x512) ![3, 0, 0] S1x1x512.size inb_S4x1x512_S1x1x512_3_0_0, m0⟩, ⟨Rect.unit (s := S4x1x512) ![2, 0, 0] S1x1x512.size inb_S4x1x512_S1x1x512_2_0_0, m0⟩,
   ⟨Rect.unit (s := S4x1x512) ![1, 0, 0] S1x1x512.size inb_S4x1x512_S1x1x512_1_0_0, m0⟩, ⟨Rect.unit (s := S4x1x512) ![0, 0, 0] S1x1x512.size inb_S4x1x512_S1x1x512_0_0_0, m0⟩]
abbrev i8 : List (View.Piece (Elt F) S4x80x512 .f32) :=
  [⟨Rect.unit (s := S4x80x512) ![3, 0, 0] S1x80x512.size inb_S4x80x512_S1x80x512_3_0_0, a0⟩, ⟨Rect.unit (s := S4x80x512) ![2, 0, 0] S1x80x512.size inb_S4x80x512_S1x80x512_2_0_0, a0⟩,
   ⟨Rect.unit (s := S4x80x512) ![1, 0, 0] S1x80x512.size inb_S4x80x512_S1x80x512_1_0_0, a0⟩, ⟨Rect.unit (s := S4x80x512) ![0, 0, 0] S1x80x512.size inb_S4x80x512_S1x80x512_0_0_0, a0⟩]
abbrev i9 (s : Vec F S1x512x512 .f32) : List (View.Piece (Elt F) S4x512x512 .f32) :=
  [⟨Rect.unit (s := S4x512x512) ![0, 0, 0] S1x512x512.size inb_S4x512x512_S1x512x512_0_0_0, s⟩]

theorem init_holds (arg7 : Memref sig .tc .vmem S4x1x512 .f32) (arg8 : Memref sig .tc .vmem S4x80x512 .f32) (arg9 : Memref sig .tc .vmem S4x512x512 .f32)
    (x3 : Vec F S1x4x512x128 .bf16) (x4 : Vec F S1x4x16384x128 .bf16) (x5 : Vec F S1x4x32x80x512 .bf16)
    (g7 : arg7.view.ty.Contents (Elt F)) (g8 : arg8.view.ty.Contents (Elt F)) (g9 : arg9.view.ty.Contents (Elt F)) (s : Vec F S1x512x512 .f32) :
    Holds arg7 arg8 arg9 (arg7.view.writes (Elt F) g7 i7) (arg8.view.writes (Elt F) g8 i8) (arg9.view.writes (Elt F) g9 (i9 s))
      (fun h => (st x3 x4 x5 h 0).1) (fun h => (st x3 x4 x5 h 0).2) s := by
  constructor <;> simp (disch := decide) only [rM0, rM1, rM2, rM3, rA0, rA1, rA2, rA3, rS0, i7, i8, i9, ↓rd_hit, ↓rd_skip, ↓rd_nil, st]

/-! ### The block -/

/-- Head `h`'s sums after its last tile, the masked tile `j` on the diagonal. -/
def fin (x3 : Vec F S1x4x512x128 .bf16) (x4 : Vec F S1x4x16384x128 .bf16) (x5 : Vec F S1x4x32x80x512 .bf16) (h : Fin 4) (j : Fin 32) : Vec F S1x80x512 .f32 :=
  stF (sc (kb x4 h j) (qb x3 h)) (st x3 x4 x5 h j.val).1 (st x3 x4 x5 h j.val).2 (vb x5 h j)

/-- The result's block at query tile `j`. -/
def outF (x3 : Vec F S1x4x512x128 .bf16) (x4 : Vec F S1x4x16384x128 .bf16) (x5 : Vec F S1x4x32x80x512 .bf16) (j : Fin 32) : Vec F S1x512x256 .bf16 :=
  outB (fin x3 x4 x5 0 j) (fin x3 x4 x5 1 j) (fin x3 x4 x5 2 j) (fin x3 x4 x5 3 j)

set_option maxHeartbeats 4000000 in
theorem runOdd_block (c : Dev nD) (i : grid0.Coords) (hc : k0_cond1 i = 1#1) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole)
    (x3 : Vec F S1x4x512x128 .bf16) (x4 : Vec F S1x4x16384x128 .bf16) (x5 : Vec F S1x4x32x80x512 .bf16)
    (x7 : Vec F S4x1x512 .f32) (x8 : Vec F S4x80x512 .f32) (x9 : Vec F S4x512x512 .f32) :
    (runOdd c i hc arg3 harg3 arg4 harg4 arg5 harg5 arg6 harg6 arg7 harg7 arg8 harg8 arg9 harg9 x3 x4 x5 x7 x8 x9).1
      = [⟨Rect.unit (s := S1x512x256) ![0, 0, 0] S1x512x256.size inb_S1x512x256_S1x512x256_0_0_0, outF x3 x4 x5 (i 2)⟩] := by
  have hj : (i 2).val < 32 := (i 2).isLt
  have e := cond_odd i hc
  have hz : Scf.trips (k0_t2_loop i).lb (k0_t2_loop i).ub (k0_t2_loop i).st = 0 := trips2 i
  have hn : Scf.trips (k0_t1_loop i).lb (k0_t1_loop i).ub (k0_t1_loop i).st = (i 2).val / 2 := trips1 i
  have hT := (pb_holds c i arg3 harg3 arg4 harg4 arg5 harg5 arg6 harg6 arg7 harg7 arg8 harg8 arg9 harg9 (BitVec.ofNat 32 (i 2).val) (runOdd.sl.v42 i) (runOdd.sl.v56 i) 1#32 x3 x4 x5
    _ _ _ _ _ _
    (init_holds arg7 arg8 arg9 x3 x4 x5 arg7.view.junk arg8.view.junk (harg9.unread x9) _)
    (init_holds arg7 arg8 arg9 x3 x4 x5 arg7.view.junk arg8.view.junk arg9.view.junk _)
    ((i 2).val / 2) (trips1 i).ge (by omega)).2
  have qK : arg4.view.readAt (Elt F) (Rect.unit (s := S1x4x16384x128) ![0, 0, 0, 0] S1x1x512x128.size inb_S1x4x16384x128_S1x1x512x128_0_0_0_0).toLoadRect (harg4.unread x4) = kb x4 0 0 := rdK _ _ _ 0 0 rfl _
  have q0 : arg3.view.readAt (Elt F) (Rect.unit (s := S1x4x512x128) ![0, 0, 0, 0] S1x1x512x128.size inb_S1x4x512x128_S1x1x512x128_0_0_0_0).toLoadRect (harg3.unread x3) = qb x3 0 := rdQ _ _ _ 0 rfl _
  have q1 : arg3.view.readAt (Elt F) (Rect.unit (s := S1x4x512x128) ![0, 1, 0, 0] S1x1x512x128.size inb_S1x4x512x128_S1x1x512x128_0_1_0_0).toLoadRect (harg3.unread x3) = qb x3 1 := rdQ _ _ _ 1 rfl _
  have q2 : arg3.view.readAt (Elt F) (Rect.unit (s := S1x4x512x128) ![0, 2, 0, 0] S1x1x512x128.size inb_S1x4x512x128_S1x1x512x128_0_2_0_0).toLoadRect (harg3.unread x3) = qb x3 2 := rdQ _ _ _ 2 rfl _
  have q3 : arg3.view.readAt (Elt F) (Rect.unit (s := S1x4x512x128) ![0, 3, 0, 0] S1x1x512x128.size inb_S1x4x512x128_S1x1x512x128_0_3_0_0).toLoadRect (harg3.unread x3) = qb x3 3 := rdQ _ _ _ 3 rfl _
  have k33 := rdK arg4 harg4 x4 1 ⟨2 * ((i 2).val / 2), by omega⟩ (off33 i hc) (k0_off33_inb i hc)
  have k34 := rdV arg5 harg5 x5 0 ⟨2 * ((i 2).val / 2), by omega⟩ (off34 i hc) (k0_off34_inb i hc)
  have k35 := rdK arg4 harg4 x4 2 ⟨2 * ((i 2).val / 2), by omega⟩ (off35 i hc) (k0_off35_inb i hc)
  have k36 := rdV arg5 harg5 x5 1 ⟨2 * ((i 2).val / 2), by omega⟩ (off36 i hc) (k0_off36_inb i hc)
  have k37 := rdK arg4 harg4 x4 3 ⟨2 * ((i 2).val / 2), by omega⟩ (off37 i hc) (k0_off37_inb i hc)
  have k38 := rdV arg5 harg5 x5 2 ⟨2 * ((i 2).val / 2), by omega⟩ (off38 i hc) (k0_off38_inb i hc)
  have k39 := rdK arg4 harg4 x4 0 ⟨2 * ((i 2).val / 2) + 1, by omega⟩ (off39 i hc) (k0_off39_inb i hc)
  have k40 := rdV arg5 harg5 x5 3 ⟨2 * ((i 2).val / 2), by omega⟩ (off40 i hc) (k0_off40_inb i hc)
  have k41 := rdK arg4 harg4 x4 1 (i 2) (off41 i) (k0_off41_inb i)
  have k42 := rdV arg5 harg5 x5 0 (i 2) (off42 i) (k0_off42_inb i)
  have k43 := rdK arg4 harg4 x4 2 (i 2) (off43 i) (k0_off43_inb i)
  have k44 := rdV arg5 harg5 x5 1 (i 2) (off44 i) (k0_off44_inb i)
  have k45 := rdK arg4 harg4 x4 3 (i 2) (off45 i) (k0_off45_inb i)
  have k46 := rdV arg5 harg5 x5 2 (i 2) (off46 i) (k0_off46_inb i)
  have k47 := rdV arg5 harg5 x5 3 (i 2) (off47 i) (k0_off47_inb i)
  have s1 : ∀ h, st x3 x4 x5 h (i 2).val = _ := fun h => (congrArg (st x3 x4 x5 h) e.symm).trans (st_succ x3 x4 x5 h (2 * ((i 2).val / 2)) (by omega))
  have ef : (⟨2 * ((i 2).val / 2) + 1, by omega⟩ : Fin 32) = i 2 := Fin.ext e
  obtain ⟨hm0, hm1, hm2, hm3, ha0, ha1, ha2, ha3, hs0⟩ := hT
  simp only [rM0, rM1, rM2, rM3, rA0, rA1, rA2, rA3, rS0, i7, i8, i9, ← View.writes_append] at hm0 hm1 hm2 hm3 ha0 ha1 ha2 ha3 hs0
  unfold runOdd
  dsimp only
  simp (disch := decide) only [runOdd.sl.H7_1, runOdd.sl.H7_2, runOdd.sl.H7_3, runOdd.sl.H7_4, runOdd.sl.H7_4_1, runOdd.sl.H7_5, runOdd.sl.H7_6, runOdd.sl.H7_7, runOdd.sl.H8_1, runOdd.sl.H8_2, runOdd.sl.H8_3, runOdd.sl.H8_4, runOdd.sl.H8_4_1, runOdd.sl.H8_5, runOdd.sl.H8_6, runOdd.sl.H8_7, runOdd.sl.H8_8, runOdd.sl.H9_1, runOdd.sl.H9_2, runOdd.sl.H9_3, runOdd.sl.H9_4, runOdd.sl.H9_5, runOdd.sl.H9_6, runOdd.sl.H9_7, runOdd.sl.r, runOdd.sl.r_1, runOdd.sl.r_10, runOdd.sl.r_11, runOdd.sl.r_12, runOdd.sl.r_13, runOdd.sl.r_14, runOdd.sl.r_15, runOdd.sl.r_16, runOdd.sl.r_17, runOdd.sl.r_18, runOdd.sl.r_19, runOdd.sl.r_2, runOdd.sl.r_20, runOdd.sl.r_21, runOdd.sl.r_22, runOdd.sl.r_23, runOdd.sl.r_3, runOdd.sl.r_4, runOdd.sl.r_5, runOdd.sl.r_6, runOdd.sl.r_7, runOdd.sl.r_8, runOdd.sl.r_9, runOdd.sl.v, runOdd.sl.v103, runOdd.sl.v132, runOdd.sl.v139, runOdd.sl.v147, runOdd.sl.v176, runOdd.sl.v183, runOdd.sl.v191, runOdd.sl.v209, runOdd.sl.v216, runOdd.sl.v224, runOdd.sl.v242, runOdd.sl.v248, runOdd.sl.v254, runOdd.sl.v260, runOdd.sl.v284, runOdd.sl.v286, runOdd.sl.v294, runOdd.sl.v323, runOdd.sl.v325, runOdd.sl.v333, runOdd.sl.v364, runOdd.sl.v372, runOdd.sl.v402, runOdd.sl.v404, runOdd.sl.v412, runOdd.sl.v88, runOdd.sl.v95,
    View.readCov, hz, hn, pb_k0_t2.eq_1, List.nil_append, qK, q0, q1, q2, q3, sc_1, sc_2, sc_3, sc_4, sc_5, sc_6, sc_7, sc_8, sc_9, sc_10, sc_11, sc_12, sc_13, sc_14, sc_15, sc_16, stM_17, stM_18, stM_19, stM_20, stM_21, stM_22, stM_23, stM_24, stM_25, stM_26, stM_27, stM_28, stA_29, stA_30, stA_31, stA_32, stA_33, stA_34, stA_35, stA_36, stA_37, stA_38, stA_39, stA_40, stF_41, stF_42, stF_43, stF_44, m0_45, m0_46, m0_47, m0_48, a0_49, a0_50, a0_51, a0_52,
    ↓rd_hit, ↓rd_skip, hm0, hm1, hm2, hm3, ha0, ha1, ha2, ha3, hs0, k33, k34, k35, k36, k37, k38, k39, k40, k41, k42, k43, k44, k45, k46, k47, s1, ef, outF, fin, outB]

set_option maxHeartbeats 4000000 in
theorem runEven_block (c : Dev nD) (i : grid0.Coords) (hc : ¬ k0_cond1 i = 1#1) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole)
    (x3 : Vec F S1x4x512x128 .bf16) (x4 : Vec F S1x4x16384x128 .bf16) (x5 : Vec F S1x4x32x80x512 .bf16)
    (x7 : Vec F S4x1x512 .f32) (x8 : Vec F S4x80x512 .f32) (x9 : Vec F S4x512x512 .f32) :
    (runEven c i hc arg3 harg3 arg4 harg4 arg5 harg5 arg6 harg6 arg7 harg7 arg8 harg8 arg9 harg9 x3 x4 x5 x7 x8 x9).1
      = [⟨Rect.unit (s := S1x512x256) ![0, 0, 0] S1x512x256.size inb_S1x512x256_S1x512x256_0_0_0, outF x3 x4 x5 (i 2)⟩] := by
  have hj : (i 2).val < 32 := (i 2).isLt
  have e := cond_even i hc
  have hz : Scf.trips (k0_t2_loop i).lb (k0_t2_loop i).ub (k0_t2_loop i).st = 0 := trips2 i
  have hn : Scf.trips (k0_t1_loop i).lb (k0_t1_loop i).ub (k0_t1_loop i).st = (i 2).val / 2 := trips1 i
  have hT := (pb_holds c i arg3 harg3 arg4 harg4 arg5 harg5 arg6 harg6 arg7 harg7 arg8 harg8 arg9 harg9 (BitVec.ofNat 32 (i 2).val) (runEven.sl.v42 i) (runEven.sl.v56 i) 1#32 x3 x4 x5
    _ _ _ _ _ _
    (init_holds arg7 arg8 arg9 x3 x4 x5 arg7.view.junk arg8.view.junk (harg9.unread x9) _)
    (init_holds arg7 arg8 arg9 x3 x4 x5 arg7.view.junk arg8.view.junk arg9.view.junk _)
    ((i 2).val / 2) (trips1 i).ge (by omega)).2
  have qK : arg4.view.readAt (Elt F) (Rect.unit (s := S1x4x16384x128) ![0, 0, 0, 0] S1x1x512x128.size inb_S1x4x16384x128_S1x1x512x128_0_0_0_0).toLoadRect (harg4.unread x4) = kb x4 0 0 := rdK _ _ _ 0 0 rfl _
  have q0 : arg3.view.readAt (Elt F) (Rect.unit (s := S1x4x512x128) ![0, 0, 0, 0] S1x1x512x128.size inb_S1x4x512x128_S1x1x512x128_0_0_0_0).toLoadRect (harg3.unread x3) = qb x3 0 := rdQ _ _ _ 0 rfl _
  have q1 : arg3.view.readAt (Elt F) (Rect.unit (s := S1x4x512x128) ![0, 1, 0, 0] S1x1x512x128.size inb_S1x4x512x128_S1x1x512x128_0_1_0_0).toLoadRect (harg3.unread x3) = qb x3 1 := rdQ _ _ _ 1 rfl _
  have q2 : arg3.view.readAt (Elt F) (Rect.unit (s := S1x4x512x128) ![0, 2, 0, 0] S1x1x512x128.size inb_S1x4x512x128_S1x1x512x128_0_2_0_0).toLoadRect (harg3.unread x3) = qb x3 2 := rdQ _ _ _ 2 rfl _
  have q3 : arg3.view.readAt (Elt F) (Rect.unit (s := S1x4x512x128) ![0, 3, 0, 0] S1x1x512x128.size inb_S1x4x512x128_S1x1x512x128_0_3_0_0).toLoadRect (harg3.unread x3) = qb x3 3 := rdQ _ _ _ 3 rfl _
  have k41 := rdK arg4 harg4 x4 1 (i 2) (off41 i) (k0_off41_inb i)
  have k42 := rdV arg5 harg5 x5 0 (i 2) (off42 i) (k0_off42_inb i)
  have k43 := rdK arg4 harg4 x4 2 (i 2) (off43 i) (k0_off43_inb i)
  have k44 := rdV arg5 harg5 x5 1 (i 2) (off44 i) (k0_off44_inb i)
  have k45 := rdK arg4 harg4 x4 3 (i 2) (off45 i) (k0_off45_inb i)
  have k46 := rdV arg5 harg5 x5 2 (i 2) (off46 i) (k0_off46_inb i)
  have k47 := rdV arg5 harg5 x5 3 (i 2) (off47 i) (k0_off47_inb i)
  have s1 : ∀ h, st x3 x4 x5 h (2 * ((i 2).val / 2)) = st x3 x4 x5 h (i 2).val := fun h => congrArg (st x3 x4 x5 h) e
  have ef : (⟨2 * ((i 2).val / 2), by omega⟩ : Fin 32) = i 2 := Fin.ext e
  obtain ⟨hm0, hm1, hm2, hm3, ha0, ha1, ha2, ha3, hs0⟩ := hT
  simp only [rM0, rM1, rM2, rM3, rA0, rA1, rA2, rA3, rS0, i7, i8, i9, ← View.writes_append] at hm0 hm1 hm2 hm3 ha0 ha1 ha2 ha3 hs0
  unfold runEven
  dsimp only
  simp (disch := decide) only [runEven.sl.H7_1, runEven.sl.H7_2, runEven.sl.H7_3, runEven.sl.H7_4, runEven.sl.H8_1, runEven.sl.H8_2, runEven.sl.H8_3, runEven.sl.H8_4, runEven.sl.H8_4_1, runEven.sl.H9_1, runEven.sl.H9_2, runEven.sl.H9_3, runEven.sl.r, runEven.sl.r_1, runEven.sl.r_10, runEven.sl.r_11, runEven.sl.r_12, runEven.sl.r_13, runEven.sl.r_14, runEven.sl.r_2, runEven.sl.r_3, runEven.sl.r_4, runEven.sl.r_5, runEven.sl.r_6, runEven.sl.r_7, runEven.sl.r_8, runEven.sl.r_9, runEven.sl.v103, runEven.sl.v132, runEven.sl.v139, runEven.sl.v147, runEven.sl.v176, runEven.sl.v183, runEven.sl.v191, runEven.sl.v209, runEven.sl.v216, runEven.sl.v224, runEven.sl.v242, runEven.sl.v248, runEven.sl.v254, runEven.sl.v260, runEven.sl.v88, runEven.sl.v95,
    View.readCov, hz, hn, pb_k0_t2.eq_1, List.nil_append, qK, q0, q1, q2, q3, sc_1, sc_2, sc_3, sc_4, sc_5, sc_6, sc_7, sc_8, sc_9, sc_10, sc_11, sc_12, sc_13, sc_14, sc_15, sc_16, stM_17, stM_18, stM_19, stM_20, stM_21, stM_22, stM_23, stM_24, stM_25, stM_26, stM_27, stM_28, stA_29, stA_30, stA_31, stA_32, stA_33, stA_34, stA_35, stA_36, stA_37, stA_38, stA_39, stA_40, stF_41, stF_42, stF_43, stF_44, m0_45, m0_46, m0_47, m0_48, a0_49, a0_50, a0_51, a0_52,
    ↓rd_hit, ↓rd_skip, hm0, hm1, hm2, hm3, ha0, ha1, ha2, ha3, hs0, k41, k42, k43, k44, k45, k46, k47, s1, ef, outF, fin, outB]

end Cert.KernelIdeal.Val
-- ==== Proof.Attn.lean ====
/-
  The launch of the attention: the body's triple at every point of the grid, the proof data, and the run of the whole
  program, at any float values.
-/
module

public import proofs.«01_k».proof.Proof.Out
public import Idealize.ShloMosaic.Lib.Claim
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The body, whatever its scratch held, leaves the result's buffer at `outF` of the operands' blocks. -/
theorem sound_kernel (c : Dev nD) (i : grid0.Coords) (arg3 : Memref sig .tc .vmem S1x4x512x128 .bf16) (harg3 : arg3.IsWhole) (arg4 : Memref sig .tc .vmem S1x4x16384x128 .bf16) (harg4 : arg4.IsWhole) (arg5 : Memref sig .tc .vmem S1x4x32x80x512 .bf16) (harg5 : arg5.IsWhole) (arg6 : Memref sig .tc .vmem S1x512x256 .bf16) (harg6 : arg6.IsWhole) (arg7 : Memref sig .tc .vmem S4x1x512 .f32) (harg7 : arg7.IsWhole) (arg8 : Memref sig .tc .vmem S4x80x512 .f32) (harg8 : arg8.IsWhole) (arg9 : Memref sig .tc .vmem S4x512x512 .f32) (harg9 : arg9.IsWhole)
    (x3 : Vec F S1x4x512x128 .bf16) (x4 : Vec F S1x4x16384x128 .bf16) (x5 : Vec F S1x4x32x80x512 .bf16) (E : Set ℕ) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (outF x3 x4 x5 (i 2))
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E
          (cc0_mla_attn i arg3 harg3 arg4 harg4 arg5 harg5 arg6 harg6 arg7 harg7 arg8 harg8 arg9 harg9) K := by
  have main : ∀ (x7 : Vec F S4x1x512 .f32) (x8 : Vec F S4x80x512 .f32) (x9 : Vec F S4x512x512 .f32),
      ∃ L, BodyRun (F := F) c i arg3 harg3 arg4 harg4 arg5 harg5 arg6 harg6 arg7 harg7 arg8 harg8 arg9 harg9 x3 x4 x5 x7 x8 x9 L
        ∧ L = [⟨Rect.unit (s := S1x512x256) ![0, 0, 0] S1x512x256.size inb_S1x512x256_S1x512x256_0_0_0, outF x3 x4 x5 (i 2)⟩] := by
    intro x7 x8 x9
    by_cases hc : k0_cond1 i = 1#1
    · exact ⟨_, (runOdd c i hc arg3 harg3 arg4 harg4 arg5 harg5 arg6 harg6 arg7 harg7 arg8 harg8 arg9 harg9 x3 x4 x5 x7 x8 x9).2, runOdd_block c i hc arg3 harg3 arg4 harg4 arg5 harg5 arg6 harg6 arg7 harg7 arg8 harg8 arg9 harg9 x3 x4 x5 x7 x8 x9⟩
    · exact ⟨_, (runEven c i hc arg3 harg3 arg4 harg4 arg5 harg5 arg6 harg6 arg7 harg7 arg8 harg8 arg9 harg9 x3 x4 x5 x7 x8 x9).2, runEven_block c i hc arg3 harg3 arg4 harg4 arg5 harg5 arg6 harg6 arg7 harg7 arg8 harg8 arg9 harg9 x3 x4 x5 x7 x8 x9⟩
  iintro ⟨H3, H4, H5, H6, ⟨%d7, H7⟩, ⟨%d8, H8⟩, ⟨%d9, H9⟩, Hk⟩
  obtain ⟨L, hL, rfl⟩ := main d7 d8 d9
  iapply (hL E K)
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H3, H4, H5, ⟨%f, H6⟩, H7, H8, H9⟩
  iapply Hk
  isplitl [H3]; · iexact H3
  isplitl [H4]; · iexact H4
  isplitl [H5]; · iexact H5
  isplitl [H6]
  · unfold owns
    iexists _; isplitr
    swap; · iexact H6
    ipureintro
    refine (View.read_writes_eq_canon _ _ _ ?_).trans (View.canon_unit_zero (by funext a; fin_cases a <;> rfl) _ _)
    intro y
    exact ⟨_, List.mem_singleton_self _, View.mem_set_unit_zero (by funext a; fin_cases a <;> rfl) inb_S1x512x256_S1x512x256_0_0_0 y⟩
  isplitl [H7]; · iexact H7
  isplitl [H8]; · iexact H8
  iexact H9

/-! ## The proof data -/

/-- The arrays as the region finds them; after the body each operand's buffer at its block and the result's at `outF`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outF (iblk m c 0 t) (iblk m c 1 t) (iblk m c 2 t) (grid0.coords t 2)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outF (iblk m c 0 t) (iblk m c 1 t) (iblk m c 2 t) (grid0.coords t 2) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- What the region keeps between points: the three scratch buffers at anything, and the generator. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA
  rw [scopedRest0_eq]
  simp only [owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, PhiA_eq]
  iintro ⟨⟨⟨H7, H8, H9⟩, Hr⟩, Ho, ⟨%d0, H0⟩, ⟨%d1, H1⟩, ⟨%d2, H2⟩, ⟨%d3, H3⟩⟩
  iapply (sound_kernel c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  iintro ⟨H0, H1, H2, H3, H7, H8, H9⟩
  isplitl [Hr H7 H8 H9]
  · isplitl [H7 H8 H9]
    · isplitl [H7]; · iexact H7
      isplitl [H8]; · iexact H8
      iexact H9
    iexact Hr
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Val
-- ==== Proof.Online.lean ====
/-
  The softmax's weighted sum taken tile by tile with a running maximum, over the extended reals: the running sums are
  the plain sums at the running shift, and the quotient of two of them is the plain softmax's sum at any shift.
-/
module

public import Idealize.ShloMosaic.PureOps.Ideal.Laws

@[expose] public section

noncomputable section

namespace Cert.Online

open Idealize.ShloMosaic

/-- A nonnegative real factor goes into a sum of extended reals. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (EReal.coe_nonneg.2 hc) (EReal.coe_ne_top c)]

/-- A sum of reals, in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A score of the masked row: the real one where the key is visible, minus infinity elsewhere. -/
def T (vis : ℕ → Prop) [DecidablePred vis] (t : ℕ → ℝ) (k : ℕ) : EReal := if vis k then ((t k : ℝ) : EReal) else ⊥

section
variable (vis : ℕ → Prop) [DecidablePred vis] (t : ℕ → ℝ)

/-- The weight of a key at a shift. -/
def wt (μ : ℝ) (k : ℕ) : ℝ := if vis k then (2 : ℝ) ^ (t k - μ) else 0

theorem exp2_T (μ : ℝ) (k : ℕ) : Ideal.exp2 (T vis t k - (μ : EReal)) = ((wt vis t μ k : ℝ) : EReal) := by
  unfold T wt
  split
  · rw [← EReal.coe_sub]; rfl
  · rw [EReal.bot_sub]; rfl

theorem wt_nonneg (μ : ℝ) (k : ℕ) : 0 ≤ wt vis t μ k := by
  unfold wt; split
  · positivity
  · exact le_rfl

theorem wt_shift (μ μ' : ℝ) (k : ℕ) : wt vis t μ k * (2 : ℝ) ^ (μ - μ') = wt vis t μ' k := by
  unfold wt; split
  · rw [← Real.rpow_add (by norm_num)]; congr 1; ring
  · exact zero_mul _

/-- The maximum and one running sum after the keys below `n`. -/
def Inv (v : ℕ → EReal) (n : ℕ) (m a : EReal) : Prop :=
  (n = 0 ∧ m = ⊥ ∧ a = 0) ∨
    ∃ μ : ℝ, m = (μ : EReal) ∧ a = ∑ k ∈ Finset.range n, v k * ((wt vis t μ k : ℝ) : EReal)

/-- The greatest score of a tile that has a visible key is a real. -/
theorem fold_max_real (n b : ℕ) (hv : ∃ j : Fin b, vis (n + j.val)) :
    ∃ c : ℝ, Finset.univ.fold max ⊥ (fun j : Fin b => T vis t (n + j.val)) = (c : EReal) := by
  have h1 : Finset.univ.fold max ⊥ (fun j : Fin b => T vis t (n + j.val)) < ⊤ := by
    rw [Finset.fold_max_lt]
    refine ⟨bot_lt_top, fun j _ => ?_⟩
    unfold T; split
    · exact EReal.coe_lt_top _
    · exact bot_lt_top
  have h2 : ⊥ < Finset.univ.fold max ⊥ (fun j : Fin b => T vis t (n + j.val)) := by
    rw [Finset.lt_fold_max]
    obtain ⟨j, hj⟩ := hv
    refine Or.inr ⟨j, Finset.mem_univ _, ?_⟩
    unfold T; rw [if_pos hj]; exact EReal.bot_lt_coe _
  lift Finset.univ.fold max ⊥ (fun j : Fin b => T vis t (n + j.val)) to ℝ using ⟨h1.ne, h2.ne'⟩ with c
  exact ⟨c, rfl⟩

/-- One tile's step keeps the invariant. -/
theorem step (v : ℕ → EReal) (n b : ℕ) (m a : EReal) (h : Inv vis t v n m a) (hv : ∃ j : Fin b, vis (n + j.val)) :
    Inv vis t v (n + b) (max m (Finset.univ.fold max ⊥ fun j : Fin b => T vis t (n + j.val)))
      (a * Ideal.exp2 (m - max m (Finset.univ.fold max ⊥ fun j : Fin b => T vis t (n + j.val)))
        + ∑ j : Fin b, v (n + j.val)
            * Ideal.exp2 (T vis t (n + j.val) - max m (Finset.univ.fold max ⊥ fun j : Fin b => T vis t (n + j.val)))) := by
  obtain ⟨c, hc⟩ := fold_max_real vis t n b hv
  rw [hc]
  right
  rcases h with ⟨rfl, rfl, rfl⟩ | ⟨μ, rfl, rfl⟩
  · refine ⟨c, max_eq_right bot_le, ?_⟩
    rw [max_eq_right bot_le, zero_mul, zero_add, Nat.zero_add, Finset.sum_range]
    refine Finset.sum_congr rfl fun j _ => ?_
    rw [exp2_T, Nat.zero_add]
  · refine ⟨max μ c, (EReal.coe_strictMono.monotone.map_max).symm, ?_⟩
    rw [← EReal.coe_strictMono.monotone.map_max, ← EReal.coe_sub]
    have e : Ideal.exp2 ((μ - max μ c : ℝ) : EReal) = (((2 : ℝ) ^ (μ - max μ c) : ℝ) : EReal) := rfl
    rw [e, sum_mul_real _ _ _ (by positivity), Finset.sum_range_add]
    congr 1
    · refine Finset.sum_congr rfl fun k _ => ?_
      rw [mul_assoc, ← EReal.coe_mul, wt_shift]
    · rw [Finset.sum_range]
      refine Finset.sum_congr rfl fun j _ => ?_
      rw [exp2_T]

end

/-- The plain softmax's weighted sum over the keys below `n`, from the weights without a shift. -/
def attn (w : ℕ → ℝ) (v : ℕ → EReal) (n : ℕ) : EReal :=
  ∑ k ∈ Finset.range n, v k * ((w k / ∑ k ∈ Finset.range n, w k : ℝ) : EReal)

/-- A sum of weighted values over the sum of the weights, all at one scale, is the plain softmax's. -/
theorem quot (w : ℕ → ℝ) (v : ℕ → EReal) (n : ℕ) (α : ℝ) (hα : 0 < α) (hw : 0 < ∑ k ∈ Finset.range n, w k) :
    Ideal.div (∑ k ∈ Finset.range n, v k * ((w k * α : ℝ) : EReal)) (∑ k ∈ Finset.range n, ((w k * α : ℝ) : EReal))
      = attn w v n := by
  rw [← coe_sum, ← Finset.sum_mul]
  have hp : 0 < (∑ k ∈ Finset.range n, w k) * α := mul_pos hw hα
  unfold Ideal.div attn
  rw [if_neg (by exact_mod_cast hp.ne'), ← EReal.coe_inv, sum_mul_real _ _ _ (inv_nonneg.2 hp.le)]
  refine Finset.sum_congr rfl fun k _ => ?_
  rw [mul_assoc, ← EReal.coe_mul]
  congr 2
  field_simp

/-- Each weight over their sum, all at one scale. -/
theorem quot_term (w : ℕ → ℝ) (v : ℕ → EReal) (n : ℕ) (β : ℝ) (hβ : 0 < β) (hw : 0 < ∑ k ∈ Finset.range n, w k) :
    ∑ k ∈ Finset.range n, v k * Ideal.div ((w k * β : ℝ) : EReal) (∑ k ∈ Finset.range n, ((w k * β : ℝ) : EReal))
      = attn w v n := by
  have hp : 0 < (∑ k ∈ Finset.range n, w k) * β := mul_pos hw hβ
  unfold attn
  refine Finset.sum_congr rfl fun k _ => ?_
  rw [← coe_sum, ← Finset.sum_mul]
  unfold Ideal.div
  rw [if_neg (by exact_mod_cast hp.ne'), ← EReal.coe_inv, ← EReal.coe_mul]
  congr 2
  field_simp

/-- Keys of weight zero past `n` change nothing. -/
theorem attn_extend (w : ℕ → ℝ) (v : ℕ → EReal) (n N : ℕ) (h : n ≤ N) (hz : ∀ k, n ≤ k → w k = 0) :
    attn w v n = attn w v N := by
  have hs : Finset.range n ⊆ Finset.range N := Finset.range_subset_range.2 h
  have e : ∑ k ∈ Finset.range n, w k = ∑ k ∈ Finset.range N, w k :=
    Finset.sum_subset hs fun k _ hk => hz k (by simpa using hk)
  unfold attn
  rw [e]
  refine Finset.sum_subset hs fun k _ hk => ?_
  rw [hz k (by simpa using hk), zero_div, EReal.coe_zero, mul_zero]

end Cert.Online
-- ==== Proof.Spec.lean ====
/-
  What both programs compute: the causal softmax attention of one element of the result, over the extended reals.
-/
module

public import proofs.«01_k».proof.Proof.Online
public import Idealize.ShloMosaic.Lib.Pointwise

@[expose] public section

noncomputable section

namespace Cert.Spec

open Idealize.ShloMosaic Cert.Online

/-- Queries and keys: batch, position, head, feature; values the same with fewer features. -/
abbrev QArr : Type := (⟨4, ![2, 16384, 8, 96]⟩ : Shape).Idx → EReal
abbrev VArr : Type := (⟨4, ![2, 16384, 8, 64]⟩ : Shape).Idx → EReal

/-- Every element is a real. -/
def Fin4 (q : QArr) : Prop := ∀ i, ∃ r : ℝ, q i = (r : EReal)

/-- The position a natural names. -/
def pos (k : ℕ) : Fin 16384 := ⟨k % 16384, Nat.mod_lt _ (by norm_num)⟩

theorem pos_val (k : Fin 16384) : pos k.val = k := Fin.ext (Nat.mod_eq_of_lt k.isLt)

/-- The score of a key for a query: their inner product over the root of 96. -/
def score (q k : QArr) (b : Fin 2) (h : Fin 8) (i : Fin 16384) (n : ℕ) : ℝ :=
  (∑ d : Fin 96, (q (ix4 b i h d)).toReal * (k (ix4 b (pos n) h d)).toReal) * (Real.sqrt 96)⁻¹

/-- The weight of a key before the normalization: nothing past the query. -/
def weight (q k : QArr) (b : Fin 2) (h : Fin 8) (i : Fin 16384) (n : ℕ) : ℝ :=
  if n ≤ i.val then Real.exp (score q k b h i n) else 0

/-- A value of a head along the keys. -/
def vals (v : VArr) (b : Fin 2) (h : Fin 8) (c : Fin 64) (n : ℕ) : EReal := v (ix4 b (pos n) h c)

/-- One element of the attention's result. -/
def want (q k : QArr) (v : VArr) (b : Fin 2) (i : Fin 16384) (h : Fin 8) (c : Fin 64) : EReal :=
  attn (weight q k b h i) (vals v b h c) 16384

theorem weight_sum_pos (q k : QArr) (b : Fin 2) (h : Fin 8) (i : Fin 16384) (n : ℕ) (hn : i.val < n) :
    0 < ∑ j ∈ Finset.range n, weight q k b h i j := by
  refine Finset.sum_pos' (fun j _ => ?_) ⟨i.val, Finset.mem_range.2 hn, ?_⟩
  · unfold weight; split
    · positivity
    · exact le_rfl
  · unfold weight; rw [if_pos le_rfl]; positivity

/-- The inner product of a finite query and a finite key is the real one. -/
theorem dot_real (q k : QArr) (hq : Fin4 q) (hk : Fin4 k) (b : Fin 2) (h : Fin 8) (i j : Fin 16384) :
    ∑ d : Fin 96, q (ix4 b i h d) * k (ix4 b j h d)
      = ((∑ d : Fin 96, (q (ix4 b i h d)).toReal * (k (ix4 b j h d)).toReal : ℝ) : EReal) := by
  rw [coe_sum]
  refine Finset.sum_congr rfl fun d _ => ?_
  obtain ⟨x, hx⟩ := hq (ix4 b i h d)
  obtain ⟨y, hy⟩ := hk (ix4 b j h d)
  rw [hx, hy, EReal.toReal_coe, EReal.toReal_coe, EReal.coe_mul]

/-- The word of 96, and its reciprocal root. -/
theorem rsqrt96 : Ideal.rsqrt (Ideal.ofBits .f32 0x42C00000#32) = (((Real.sqrt 96)⁻¹ : ℝ) : EReal) := by
  have e : Ideal.ofBits .f32 0x42C00000#32 = ((96 : ℝ) : EReal) := by
    simp [Ideal.ofBits, Ideal.ieee, -EReal.coe_mul]; norm_num
  rw [e]
  show (if (96 : ℝ) < 0 then _ else if (96 : ℝ) = 0 then _ else _) = _
  rw [if_neg (by norm_num), if_neg (by norm_num)]

theorem log2 : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e]
  show (if (2 : ℝ) ≤ 0 then _ else _) = _
  rw [if_neg (by norm_num)]

end Cert.Spec
-- ==== Proof.Operands.lean ====
/-
  The operands' arrays as the launch finds them, at one element, from the arguments.
-/
module

public import proofs.«01_k».proof.Proof.Attn
public import proofs.«01_k».proof.Proof.Spec
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Cert.Online Cert.Spec

variable (m : (ℓ : Loc nD τ sig) → Buf (Elt Ideal) ℓ)

/-- The arguments. -/
def qA (c : Dev nD) : QArr := m (c, Proc.tc.devRef main_arg0)
def kA (c : Dev nD) : QArr := m (c, Proc.tc.devRef main_arg1)
def vA (c : Dev nD) : VArr := m (c, Proc.tc.devRef main_arg2)

/-- The operands as the launch finds them. -/
def qO (c : Dev nD) : (⟨4, ![2, 8, 16384, 128]⟩ : Shape).Idx → EReal := V m c main_v7
def kO (c : Dev nD) : (⟨4, ![2, 8, 16384, 128]⟩ : Shape).Idx → EReal := V m c main_v10
def vO (c : Dev nD) : (⟨5, ![2, 8, 32, 80, 512]⟩ : Shape).Idx → EReal := V m c main_v15

theorem zero_int : (FloatOps.sitofp (F := Ideal) .f32 (0#32) : EReal) = 0 := by
  show (((0#32 : BitVec 32).toInt : ℝ) : EReal) = 0
  simp

/-- The softmax's scale in base two. -/
def scale2 : ℝ := (Real.sqrt 96)⁻¹ / Real.log 2

theorem scale_eq : Ideal.div (Ideal.rsqrt (Ideal.ofBits .f32 0x42C00000#32)) (Ideal.log (Ideal.ofBits .f32 0x40000000#32))
    = ((scale2 : ℝ) : EReal) := by
  have h : Real.log 2 ≠ 0 := (Real.log_pos (by norm_num)).ne'
  rw [rsqrt96, log2]
  unfold Ideal.div scale2
  rw [if_neg (by exact_mod_cast h), ← EReal.coe_inv, ← EReal.coe_mul, div_eq_mul_inv]

theorem qO_apply (c : Dev nD) (b : Fin 2) (h : Fin 8) (i : Fin 16384) (d : Fin 128) :
    qO m c (ix4 b h i d) = if hd : d.val < 96 then qA m c (ix4 b i h ⟨d.val, hd⟩) * ((scale2 : ℝ) : EReal) else 0 := by
  unfold qO V qA
  rw [← scale_eq, ← zero_int]
  after_reads_at

theorem kO_apply (c : Dev nD) (b : Fin 2) (h : Fin 8) (i : Fin 16384) (d : Fin 128) :
    kO m c (ix4 b h i d) = if hd : d.val < 96 then kA m c (ix4 b i h ⟨d.val, hd⟩) else 0 := by
  unfold kO V kA
  rw [← zero_int]
  after_reads_at

theorem vO_apply (c : Dev nD) (b : Fin 2) (h : Fin 8) (j : Fin 32) (r : Fin 80) (i : Fin 512) :
    vO m c (ix5 b h j r i) = if hr : r.val < 64 then vA m c (ix4 b ⟨j.val * 512 + i.val, by omega⟩ h ⟨r.val, hr⟩) else 1 := by
  unfold vO V vA
  after_reads_at
  split
  · after_reads_at
  · after_reads_at

end Cert.KernelIdeal.Val
-- ==== Proof.Tile.lean ====
/-
  The result's block at a point, at one element, is the attention's: the tiles' steps keep the running sums at the plain
  sums, the tile on the diagonal is one more step with its later keys masked, and the quotient is the softmax's.
-/
module

public import proofs.«01_k».proof.Proof.Read
public import proofs.«01_k».proof.Proof.Out
public import proofs.«01_k».proof.Proof.Operands

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Cert.Online Cert.Spec

/-- A head of a group of four. -/
def hd (p : Fin 2) (h : Fin 4) : Fin 8 := ⟨p.val * 4 + h.val, by omega⟩
/-- A query of a tile. -/
def qpos (i : Fin 32) (y : Fin 512) : Fin 16384 := ⟨i.val * 512 + y.val, by omega⟩

theorem qb_apply (x : Vec Ideal S1x4x512x128 .bf16) (h : Fin 4) (y : Fin 512) (d : Fin 128) :
    qb x h (ix4 0 0 y d) = x (ix4 0 h y d) := by
  pointwise [qb]
theorem kb_apply (x : Vec Ideal S1x4x16384x128 .bf16) (h : Fin 4) (j : Fin 32) (y : Fin 512) (d : Fin 128) :
    kb x h j (ix4 0 0 y d) = x (ix4 0 h (qpos j y) d) := by
  pointwise [kb, qpos]
  congr 2
  apply Fin.ext; dsimp only; omega
theorem vb_apply (x : Vec Ideal S1x4x32x80x512 .bf16) (h : Fin 4) (j : Fin 32) (r : Fin 80) (y : Fin 512) :
    vb x h j (ix5 0 0 0 r y) = x (ix5 0 h j r y) := by
  pointwise [vb]

/-- What a point's operand blocks hold of the arguments. -/
structure Blocks (q k : QArr) (v : VArr) (b p : Fin 2) (i : Fin 32)
    (x3 : Vec Ideal S1x4x512x128 .bf16) (x4 : Vec Ideal S1x4x16384x128 .bf16) (x5 : Vec Ideal S1x4x32x80x512 .bf16) : Prop where
  hq : Fin4 q
  hk : Fin4 k
  h3 : ∀ (h : Fin 4) (y : Fin 512) (d : Fin 128), (x3 (ix4 0 h y d) : EReal)
    = if e : d.val < 96 then q (ix4 b (qpos i y) (hd p h) ⟨d.val, e⟩) * ((scale2 : ℝ) : EReal) else 0
  h4 : ∀ (h : Fin 4) (y : Fin 16384) (d : Fin 128), (x4 (ix4 0 h y d) : EReal)
    = if e : d.val < 96 then k (ix4 b y (hd p h) ⟨d.val, e⟩) else 0
  h5 : ∀ (h : Fin 4) (j : Fin 32) (r : Fin 80) (y : Fin 512), (x5 (ix5 0 h j r y) : EReal)
    = if e : r.val < 64 then v (ix4 b (qpos j y) (hd p h) ⟨r.val, e⟩) else 1

/-- A score in base two. -/
def t2 (q k : QArr) (b : Fin 2) (h : Fin 8) (i : Fin 16384) (n : ℕ) : ℝ := score q k b h i n / Real.log 2

/-- One row of the values with their rows of ones, along the keys. -/
def row (v : VArr) (b : Fin 2) (h : Fin 8) (r : Fin 80) (n : ℕ) : EReal :=
  if e : r.val < 64 then v (ix4 b (pos n) h ⟨r.val, e⟩) else 1

/-- A base-two weight at a shift is the plain weight, scaled. -/
theorem wt_eq (q k : QArr) (b : Fin 2) (h : Fin 8) (i : Fin 16384) (μ : ℝ) (n : ℕ) :
    wt (fun n => n ≤ i.val) (t2 q k b h i) μ n = weight q k b h i n * (2 : ℝ) ^ (-μ) := by
  unfold wt weight t2
  split
  · rw [sub_eq_add_neg, Real.rpow_add (by norm_num)]
    congr 1
    rw [Real.rpow_def_of_pos (by norm_num)]
    congr 1
    have : Real.log 2 ≠ 0 := (Real.log_pos (by norm_num)).ne'
    field_simp
  · rw [zero_mul]

section
variable {q k : QArr} {v : VArr} {b p : Fin 2} {i : Fin 32}
  {x3 : Vec Ideal S1x4x512x128 .bf16} {x4 : Vec Ideal S1x4x16384x128 .bf16} {x5 : Vec Ideal S1x4x32x80x512 .bf16}

/-- A tile's score is the base-two score. -/
theorem tile_score (B : Blocks q k v b p i x3 x4 x5) (h : Fin 4) (j : Fin 32) (key y : Fin 512) :
    (sc (kb x4 h j) (qb x3 h) (ix3 0 key y) : EReal) = ((t2 q k b (hd p h) (qpos i y) (j.val * 512 + key.val) : ℝ) : EReal) := by
  rw [sc_apply]
  have e : ∀ d : Fin 128, (kb x4 h j (ix4 0 0 key d) : EReal) * qb x3 h (ix4 0 0 y d)
      = (((if e : d.val < 96 then (q (ix4 b (qpos i y) (hd p h) ⟨d.val, e⟩)).toReal * (k (ix4 b (qpos j key) (hd p h) ⟨d.val, e⟩)).toReal * scale2 else 0) : ℝ) : EReal) := by
    intro d
    rw [kb_apply, qb_apply, B.h3, B.h4]
    split
    · rename_i e
      obtain ⟨x, hx⟩ := B.hq (ix4 b (qpos i y) (hd p h) ⟨d.val, e⟩)
      obtain ⟨z, hz⟩ := B.hk (ix4 b (qpos j key) (hd p h) ⟨d.val, e⟩)
      rw [hx, hz, EReal.toReal_coe, EReal.toReal_coe, ← EReal.coe_mul, ← EReal.coe_mul]
      congr 1; ring
    · rw [zero_mul]; rfl
  simp only [e]
  rw [← coe_sum, Fin.sum_univ_two_halves 96 32 rfl]
  congr 1
  have e1 : (⟨(j.val * 512 + key.val) % 16384, Nat.mod_lt _ (by norm_num)⟩ : Fin 16384) = qpos j key :=
    Fin.ext (Nat.mod_eq_of_lt (by omega))
  simp [t2, score, scale2, pos, e1, Finset.sum_mul, Finset.sum_div, mul_div_assoc]

/-- One tile's step, for scores that are the masked row's at this tile. -/
theorem inv_step (B : Blocks q k v b p i x3 x4 x5) (h : Fin 4) (r : Fin 80) (y : Fin 512) (j : Fin 32)
    (s : Vec Ideal S1x512x512 .f32) (m : Vec Ideal S1x1x512 .f32) (a : Vec Ideal S1x80x512 .f32)
    (hs : ∀ key : Fin 512, (s (ix3 0 key y) : EReal)
      = T (fun n => n ≤ (qpos i y).val) (t2 q k b (hd p h) (qpos i y)) (j.val * 512 + key.val))
    (hj : j.val ≤ i.val)
    (H : Inv (fun n => n ≤ (qpos i y).val) (t2 q k b (hd p h) (qpos i y)) (row v b (hd p h) r) (j.val * 512)
      (m (ix3 0 0 y)) (a (ix3 0 r y))) :
    Inv (fun n => n ≤ (qpos i y).val) (t2 q k b (hd p h) (qpos i y)) (row v b (hd p h) r) (j.val * 512 + 512)
      (stM s m (ix3 0 0 y)) (stA s m a (vb x5 h j) (ix3 0 r y)) := by
  have hv : ∀ key : Fin 512, (vb x5 h j (ix5 0 0 0 r key) : EReal) = row v b (hd p h) r (j.val * 512 + key.val) := by
    intro key
    have e1 : pos (j.val * 512 + key.val) = qpos j key := Fin.ext (Nat.mod_eq_of_lt (by omega))
    rw [vb_apply, B.h5]
    unfold row
    rw [e1]
  have hc : colMax s y = Finset.univ.fold max ⊥ fun key : Fin 512 =>
      T (fun n => n ≤ (qpos i y).val) (t2 q k b (hd p h) (qpos i y)) (j.val * 512 + key.val) := by
    unfold colMax; simp only [hs]
  rw [stM_apply, stA_apply, hc]
  simp only [hs, hv]
  refine step _ _ _ (j.val * 512) 512 _ _ H ⟨0, ?_⟩
  simp only [qpos, Fin.val_zero]
  omega

/-- The tiles before the diagonal keep the invariant. -/
theorem inv_st (B : Blocks q k v b p i x3 x4 x5) (h : Fin 4) (r : Fin 80) (y : Fin 512) (n : ℕ) (hn : n ≤ i.val) :
    Inv (fun n => n ≤ (qpos i y).val) (t2 q k b (hd p h) (qpos i y)) (row v b (hd p h) r) (n * 512)
      ((st x3 x4 x5 h n).1 (ix3 0 0 y)) ((st x3 x4 x5 h n).2 (ix3 0 r y)) := by
  induction n with
  | zero => exact Or.inl ⟨rfl, m0_apply y, a0_apply r y⟩
  | succ n ih =>
    have hlt : n < 32 := by omega
    rw [st_succ _ _ _ _ _ hlt, Nat.succ_mul]
    refine inv_step B h r y ⟨n, hlt⟩ _ _ _ (fun key => ?_) (by dsimp only; omega) (ih (by omega))
    rw [tile_score B]
    unfold Online.T
    rw [if_pos (by simp only [qpos]; omega)]

/-- The tile on the diagonal keeps it too. -/
theorem inv_fin (B : Blocks q k v b p i x3 x4 x5) (h : Fin 4) (r : Fin 80) (y : Fin 512) :
    Inv (fun n => n ≤ (qpos i y).val) (t2 q k b (hd p h) (qpos i y)) (row v b (hd p h) r) (i.val * 512 + 512)
      (stM (msk (sc (kb x4 h i) (qb x3 h))) (st x3 x4 x5 h i.val).1 (ix3 0 0 y)) (fin x3 x4 x5 h i (ix3 0 r y)) := by
  unfold fin
  rw [stF_apply]
  refine inv_step B h r y i _ _ _ (fun key => ?_) le_rfl (inv_st B h r y i.val le_rfl)
  show (if key.val ≤ y.val then (sc (kb x4 h i) (qb x3 h) (ix3 0 key y) : EReal) else ⊥) = _
  rw [tile_score B]
  unfold Online.T
  by_cases e : key.val ≤ y.val
  · rw [if_pos e, if_pos (by simp only [qpos]; omega)]
  · rw [if_neg e, if_neg (by simp only [qpos]; omega)]

/-- One head's quotient is the attention's element. -/
theorem head_quot (B : Blocks q k v b p i x3 x4 x5) (h : Fin 4) (c : Fin 64) (y : Fin 512) :
    Ideal.div (fin x3 x4 x5 h i (ix3 0 ⟨c.val, by omega⟩ y)) (fin x3 x4 x5 h i (ix3 0 64 y))
      = want q k v b (qpos i y) (hd p h) c := by
  have e : ∀ r : Fin 80, ∃ μ : ℝ, stM (msk (sc (kb x4 h i) (qb x3 h))) (st x3 x4 x5 h i.val).1 (ix3 0 0 y) = (μ : EReal)
      ∧ (fin x3 x4 x5 h i (ix3 0 r y) : EReal) = ∑ n ∈ Finset.range (i.val * 512 + 512), row v b (hd p h) r n
        * ((wt (fun n => n ≤ (qpos i y).val) (t2 q k b (hd p h) (qpos i y)) μ n : ℝ) : EReal) := by
    intro r
    rcases inv_fin B h r y with ⟨e, -⟩ | e
    · omega
    · exact e
  obtain ⟨μ, hμ, e1⟩ := e ⟨c.val, by omega⟩
  obtain ⟨μ', hμ', e2⟩ := e 64
  obtain rfl : μ = μ' := EReal.coe_injective (hμ.symm.trans hμ')
  rw [e1, e2]
  simp only [wt_eq]
  have r1 : ∀ n, row v b (hd p h) ⟨c.val, by omega⟩ n = vals v b (hd p h) c n := fun n => by
    unfold row; rw [dif_pos (show c.val < 64 from c.isLt)]; rfl
  have r2 : ∀ n, row v b (hd p h) 64 n = 1 := fun n => by unfold row; rw [dif_neg (by decide)]
  simp only [r1, r2, one_mul]
  have hy : (qpos i y).val < i.val * 512 + 512 := by simp only [qpos]; omega
  rw [quot _ _ _ _ (by positivity) (weight_sum_pos q k b _ _ _ hy)]
  refine attn_extend _ _ _ _ (by omega) fun n hn => ?_
  unfold weight
  rw [if_neg (by omega)]

/-- One element of the result's block. -/
theorem outF_apply (B : Blocks q k v b p i x3 x4 x5) (y : Fin 512) (l : Fin 256) :
    (outF x3 x4 x5 i (ix3 0 y l) : EReal)
      = want q k v b (qpos i y) (hd p ⟨l.val / 64, by omega⟩) ⟨l.val % 64, by omega⟩ := by
  unfold outF
  rw [outB_apply (fun h => fin x3 x4 x5 h i) y l]
  exact head_quot B ⟨l.val / 64, by omega⟩ ⟨l.val % 64, by omega⟩ y

end
end Cert.KernelIdeal.Val
-- ==== Proof.Result.lean ====
/-
  The kernel's result after the run, as the attention of its arguments.
-/
module

public import proofs.«01_k».proof.Proof.Tile
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Cert.Online Cert.Spec

variable (m : (ℓ : Loc nD τ sig) → Buf (Elt Ideal) ℓ)

/-- The blocks' places at a point. -/
theorem idx (t : Fin cfg0.N) :
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0, 0]
    ∧ win0_3.index t = ![(grid0.coords t 0).val, (grid0.coords t 2).val, (grid0.coords t 1).val] := by
  revert t; decide +kernel

/-- The grid's coordinates of a point: batch, group of heads, query tile. -/
def gb (t : Fin cfg0.N) : Fin 2 := grid0.coords t 0
def gp (t : Fin cfg0.N) : Fin 2 := grid0.coords t 1
def gi (t : Fin cfg0.N) : Fin 32 := grid0.coords t 2

theorem blk0 (c : Dev nD) (t : Fin cfg0.N) (h : Fin 4) (y : Fin 512) (d : Fin 128) :
    (iblk m c 0 t (ix4 0 h y d) : EReal) = qO m c (ix4 (gb t) (hd (gp t) h) (qpos (gi t) y) d) := by
  unfold qO gb gp gi hd qpos
  blk_ext [iblk, idx t]
theorem blk1 (c : Dev nD) (t : Fin cfg0.N) (h : Fin 4) (y : Fin 16384) (d : Fin 128) :
    (iblk m c 1 t (ix4 0 h y d) : EReal) = kO m c (ix4 (gb t) (hd (gp t) h) y d) := by
  unfold kO gb gp hd
  blk_ext [iblk, idx t]
theorem blk2 (c : Dev nD) (t : Fin cfg0.N) (h : Fin 4) (j : Fin 32) (r : Fin 80) (y : Fin 512) :
    (iblk m c 2 t (ix5 0 h j r y) : EReal) = vO m c (ix5 (gb t) (hd (gp t) h) j r y) := by
  unfold vO gb gp hd
  blk_ext [iblk, idx t]

/-- A point's blocks hold the arguments' parts. -/
theorem blocks (hq : ∀ c, Fin4 (qA m c)) (hk : ∀ c, Fin4 (kA m c)) (c : Dev nD) (t : Fin cfg0.N) :
    Blocks (qA m c) (kA m c) (vA m c) (gb t) (gp t) (gi t) (iblk m c 0 t) (iblk m c 1 t) (iblk m c 2 t) where
  hq := hq c
  hk := hk c
  h3 h y d := (blk0 m c t h y d).trans (qO_apply m c _ _ _ _)
  h4 h y d := (blk1 m c t h y d).trans (kO_apply m c _ _ _ _)
  h5 h j r y := (blk2 m c t h j r y).trans (vO_apply m c _ _ _ _ _)

/-- The whole result. -/
def G (c : Dev nD) : S2x16384x512.Idx → EReal := fun x =>
  want (qA m c) (kA m c) (vA m c) (x 0) (x 1) ⟨(x 2).val / 64, by have : (x 2).val < 512 := (x 2).isLt; omega⟩
    ⟨(x 2).val % 64, by omega⟩

/-- The result's array after the run. -/
theorem result (hq : ∀ c, Fin4 (qA m c)) (hk : ∀ c, Fin4 (kA m c)) (c : Dev nD) :
    (dats m 0 c).arrAt 3 cfg0.N = G m c := by
  refine (dats m 0 c).arrAt_eq_of_covers 3 _ (by decide +kernel) fun t hf y => ?_
  blk_simp
  rw [after0_3]
  obtain ⟨y1, y2, rfl⟩ : ∃ (y1 : Fin 512) (y2 : Fin 256), y = (ix3 0 y1 y2 : S1x512x256.Idx) := by
    refine ⟨y 1, y 2, ?_⟩
    funext a
    apply Fin.ext
    match a with
    | ⟨0, _⟩ => exact Nat.lt_one_iff.1 (y 0).isLt
    | ⟨1, _⟩ => rfl
    | ⟨2, _⟩ => rfl
  have e : (win0_3.blk t).view.emb (ix3 0 y1 y2 : S1x512x256.Idx)
      = (ix3 (gb t) (qpos (gi t) y1) ⟨(gp t).val * 256 + y2.val, by omega⟩ : S2x16384x512.Idx) := by
    unfold gb gp gi qpos
    blk_ext [idx t]
  rw [e]
  refine (outF_apply (blocks m hq hk c t) y1 y2).trans ?_
  unfold G want
  have e1 : (⟨((gp t).val * 256 + y2.val) / 64, by omega⟩ : Fin 8) = hd (gp t) ⟨y2.val / 64, by omega⟩ :=
    Fin.ext (by simp only [hd]; omega)
  have e2 : (⟨((gp t).val * 256 + y2.val) % 64, by omega⟩ : Fin 64) = ⟨y2.val % 64, by omega⟩ :=
    Fin.ext (by dsimp only; omega)
  simp only [ix3, e1, e2]

end Cert.KernelIdeal.Val
-- ==== Proof.RefVal.lean ====
/-
  The reference's result at one element is the attention's.
-/
module

public import proofs.«01_k».proof.Proof.Spec
public import proofs.«01_k».proof.Proof.Gen.ReferenceIdeal.Read
public import Idealize.ShloMosaic.Lib.WordCmp

@[expose] public section

set_option maxRecDepth 16384

noncomputable section

namespace Cert.ReferenceIdeal.Val

open Cert.ReferenceIdeal Cert.ReferenceIdeal.Gen Cert.ReferenceIdeal.Read
open Idealize.ShloMosaic Cert.Online Cert.Spec

theorem neg_inf : Ideal.ofBits .f32 4286578688#32 = ⊥ := by simp [Ideal.ofBits, Ideal.ieee]

/-- The masked score of a key for a query: the score's real, or minus infinity past the query. -/
theorem masked_apply (q k : QArr) (hq : Fin4 q) (hk : Fin4 k) (b : Fin 2) (h : Fin 8) (i j : Fin 16384) :
    (val_main_v10 (F := Ideal) q k (ix4 b h i j) : EReal)
      = if j.val ≤ i.val then ((score q k b h i j.val : ℝ) : EReal) else ⊥ := by
  pointwise [val_main_v10, val_main_call0_v1, val_main_call0_v2, val_main_call0_v0, val_main_cst_0, val_main_v9, val_main_v8,
    val_main_v7, val_main_v6, val_main_v5, val_main_v4, val_main_v3, val_main_v2, val_main_v1, val_main_cst, val_main_v0]
  rw [rsqrt96, dot_real q k hq hk, ← EReal.coe_mul]
  have h1 : (BitVec.ofNat 32 j.val).toInt = j.val := by rw [BitVec.toInt_ofNat']; simp [Int.bmod]; omega
  have h2 : (BitVec.ofNat 32 i.val).toInt = i.val := by rw [BitVec.toInt_ofNat']; simp [Int.bmod]; omega
  have e : (id (constant (F := Ideal) S_ FTy.f32 4286578688#32) ix0 : EReal) = ⊥ := neg_inf
  rw [WordCmp.cmpi_sle_eq, h1, h2]
  unfold Scalar.select score
  rw [pos_val]
  by_cases hji : j.val ≤ i.val
  · simp [hji]
  · simpa [hji] using e

/-- A row's greatest element is over a set of elements of the row. -/
theorem rowMax_apply (y : Vec Ideal S2x8x16384x16384 .f32) (c : Vec Ideal S_ .f32) (b : Fin 2) (h : Fin 8) (i : Fin 16384) :
    ∃ s : Finset S2x8x16384x16384.Idx, (∀ j : Fin 16384, ix4 b h i j ∈ s) ∧ (∀ p ∈ s, ∃ j : Fin 16384, p = ix4 b h i j) ∧
    Host.reduce (α := EReal) max y c reducesTo_S2x8x16384x16384_S2x8x16384_d3 h_S_ (ix3 b h i)
      = s.fold (max : EReal → EReal → EReal) (c (Shape.Idx.first h_S_)) y := by
  have hd : ∀ p : S2x8x16384x16384.Idx, (reducesTo_S2x8x16384x16384_S2x8x16384_d3.drop p = ix3 b h i)
      ↔ (p 0).val = b.val ∧ (p 1).val = h.val ∧ (p 2).val = i.val := by
    intro p
    have e0 := reducesTo_S2x8x16384x16384_S2x8x16384_d3.drop_apply_val_of_eq p 0 0
    have e1 := reducesTo_S2x8x16384x16384_S2x8x16384_d3.drop_apply_val_of_eq p 1 1
    have e2 := reducesTo_S2x8x16384x16384_S2x8x16384_d3.drop_apply_val_of_eq p 2 2
    constructor
    · intro hp
      rw [hp] at e0 e1 e2
      exact ⟨e0.symm, e1.symm, e2.symm⟩
    · rintro ⟨h0, h1, h2⟩
      funext a
      apply Fin.ext
      match a with
      | ⟨0, _⟩ => exact e0.trans h0
      | ⟨1, _⟩ => exact e1.trans h1
      | ⟨2, _⟩ => exact e2.trans h2
  refine ⟨Finset.univ.filter fun p => reducesTo_S2x8x16384x16384_S2x8x16384_d3.drop p = ix3 b h i, ?_, ?_, ?_⟩
  · intro j
    rw [Finset.mem_filter, hd]
    exact ⟨Finset.mem_univ _, rfl, rfl, rfl⟩
  · intro p hp
    obtain ⟨h0, h1, h2⟩ := (hd p).1 (Finset.mem_filter.1 hp).2
    refine ⟨p 3, ?_⟩
    funext a
    apply Fin.ext
    match a with
    | ⟨0, _⟩ => exact h0
    | ⟨1, _⟩ => exact h1
    | ⟨2, _⟩ => exact h2
    | ⟨3, _⟩ => rfl
  · rw [Host.reduce_eq_fold]

/-- The row's shift is a real. -/
theorem shift_real (q k : QArr) (hq : Fin4 q) (hk : Fin4 k) (b : Fin 2) (h : Fin 8) (i : Fin 16384) :
    ∃ M : ℝ, ∀ j : Fin 16384, (val_main_v15 (F := Ideal) q k (ix4 b h i j) : EReal) = (M : EReal) := by
  obtain ⟨s, hs, hs', e⟩ := rowMax_apply (val_main_v10 (F := Ideal) q k) (val_main_cst_1 (F := Ideal)) b h i
  have hlt : s.fold (max : EReal → EReal → EReal) (val_main_cst_1 (F := Ideal) (Shape.Idx.first h_S_)) (val_main_v10 (F := Ideal) q k) < ⊤ := by
    rw [Finset.fold_max_lt]
    refine ⟨?_, fun p hp => ?_⟩
    · show Ideal.ofBits .f32 4286578688#32 < ⊤
      rw [neg_inf]; exact bot_lt_top
    · obtain ⟨j, rfl⟩ := hs' p hp
      rw [masked_apply q k hq hk]
      split
      · exact EReal.coe_lt_top _
      · exact bot_lt_top
  have hgt : ⊥ < s.fold (max : EReal → EReal → EReal) (val_main_cst_1 (F := Ideal) (Shape.Idx.first h_S_)) (val_main_v10 (F := Ideal) q k) := by
    rw [Finset.lt_fold_max]
    refine Or.inr ⟨_, hs i, ?_⟩
    rw [masked_apply q k hq hk, if_pos le_rfl]
    exact EReal.bot_lt_coe _
  rw [← e] at hlt hgt
  have hv : ∀ j : Fin 16384, (val_main_v15 (F := Ideal) q k (ix4 b h i j) : EReal)
      = max ⊥ (Host.reduce (α := EReal) max (val_main_v10 (F := Ideal) q k) (val_main_cst_1 (F := Ideal))
          reducesTo_S2x8x16384x16384_S2x8x16384_d3 h_S_ (ix3 b h i)) := by
    intro j
    have e13 : ∀ z : Vec Ideal S2x8x16384 .f32, (maximumf (F := Ideal) (φ := .f32) (val_main_v12 (F := Ideal)) z (ix3 b h i) : EReal) = max (⊥ : EReal) (z (ix3 b h i)) := by
      intro z
      pointwise [val_main_v12, val_main_cst_2]
      rw [neg_inf]
    have e15 : (val_main_v15 (F := Ideal) q k (ix4 b h i j) : EReal) = val_main_v13 (F := Ideal) q k (ix3 b h i) := by
      pointwise [val_main_v15, val_main_v14]
    rw [e15]
    exact e13 (val_main_v11 (F := Ideal) q k)
  generalize Host.reduce (α := EReal) max (val_main_v10 (F := Ideal) q k) (val_main_cst_1 (F := Ideal))
          reducesTo_S2x8x16384x16384_S2x8x16384_d3 h_S_ (ix3 b h i) = z at hlt hgt hv
  lift z to ℝ using ⟨hlt.ne, hgt.ne'⟩
  exact ⟨z, fun j => (hv j).trans (max_eq_right bot_le)⟩

/-- One element of the reference's result. -/
theorem val_apply (q k : QArr) (hq : Fin4 q) (hk : Fin4 k) (v : VArr) (b : Fin 2) (i : Fin 16384) (l : Fin 512) :
    (val_main_v25 (F := Ideal) q k v (ix3 b i l) : EReal)
      = want q k v b i ⟨l.val / 64, by omega⟩ ⟨l.val % 64, by omega⟩ := by
  obtain ⟨M, hM⟩ := shift_real q k hq hk b ⟨l.val / 64, by omega⟩ i
  have ew : ∀ j : Fin 16384, Ideal.exp (val_main_v10 (F := Ideal) q k (ix4 b ⟨l.val / 64, by omega⟩ i j) - val_main_v15 (F := Ideal) q k (ix4 b ⟨l.val / 64, by omega⟩ i j))
      = ((weight q k b ⟨l.val / 64, by omega⟩ i j.val * Real.exp (-M) : ℝ) : EReal) := by
    intro j
    rw [hM, masked_apply q k hq hk]
    unfold weight
    split
    · rw [← EReal.coe_sub]
      show ((Real.exp _ : ℝ) : EReal) = _
      rw [sub_eq_add_neg, Real.exp_add]
    · rw [EReal.bot_sub, zero_mul]; rfl
  have e0 : (val_main_cst_3 (F := Ideal) (Shape.Idx.first h_S_) : EReal) = 0 := Ideal.ofBits_zero_f32
  pointwise [val_main_v25, val_main_v24, val_main_v23, val_main_v22, val_main_v21, val_main_v20, val_main_v19, val_main_v18,
    val_main_v17, val_main_v16]
  simp only [ew, e0, zero_add]
  unfold want
  rw [← quot_term _ _ 16384 (Real.exp (-M)) (Real.exp_pos _) (weight_sum_pos q k b _ i 16384 i.isLt), Finset.sum_range]
  refine Finset.sum_congr rfl fun x _ => ?_
  rw [Finset.sum_range]
  unfold vals
  rw [pos_val]

end Cert.ReferenceIdeal.Val
-- ==== Proof.Pre.lean ====
/-
  The precondition read: every query and every key is a real.
-/
module

public import proofs.«01_k».proof.Proof.Spec
public import proofs.«01_k».proof.Proof.Gen.Pre_finite_qk
public import Idealize.ShloMosaic.Lib.ReduceAll
public import Idealize.ShloMosaic.Lib.WordArith

@[expose] public section

noncomputable section

namespace Cert.Pre_finite_qk.Val

open Cert.Pre_finite_qk Cert.Pre_finite_qk.Gen
open Idealize.ShloMosaic Cert.Spec

theorem pos_inf : Ideal.ofBits .f32 0x7F800000#32 = ⊤ := by simp [Ideal.ofBits, Ideal.ieee]

/-- An extended real whose absolute value is below infinity is a real. -/
theorem real_of_abs (x : EReal) (h : FloatOps.absf (F := Ideal) (φ := .f32) x < (⊤ : EReal)) : ∃ r : ℝ, x = (r : EReal) := by
  induction x with
  | bot => exact absurd h (by simp [FloatOps.absf])
  | top => exact absurd h (by simp [FloatOps.absf])
  | coe r => exact ⟨r, rfl⟩

theorem all_real (x : QArr) (j : S_.Idx)
    (h : Host.reduce IntOp.andi (cmpf (F := Ideal) (φ := .f32) .olt (Host.absf x) (broadcastInDim S2x16384x8x96 ![] bcast_S_S2x16384x8x96 (constant S_ .f32 0x7F800000#32)))
      (constantI S_ 1 1#1) reducesTo_S2x16384x8x96_S_d0_1_2_3 h_S_ j = 1#1) : Fin4 x := by
  intro i
  have h' := Host.reduce_andi_all _ _ _ _ j h i
  pointwise at h'
  rw [pos_inf] at h'
  by_cases e : FloatOps.absf (F := Ideal) (φ := .f32) (x i) < (⊤ : EReal)
  · exact real_of_abs _ e
  · rw [decide_eq_false e] at h'; exact absurd h' (by decide)

/-- A conjunction of two bits. -/
theorem and_one (a b : BitVec 1) (h : IntOp.andi a b = 1#1) : a = 1#1 ∧ b = 1#1 := by
  revert a b; decide

theorem finite (q k : QArr) (v : VArr) (h : Cert.Pre_finite_qk.fn (F := Ideal) q k v = fun _ => 1#1) : Fin4 q ∧ Fin4 k := by
  have h := congrFun h ix0
  dsimp only [fn] at h
  obtain ⟨h1, h2⟩ := and_one _ _ h
  exact ⟨all_real q ix0 h1, all_real k ix0 h2⟩

end Cert.Pre_finite_qk.Val
-- ==== Proof.MoeStep.lean ====
/-
  The body of the experts' kernel as functions of what it loads, at any reading of the floats.
-/
module

public import proofs.«01_k».proof.Proof.Gen.Kernel2Ideal.Frame
public import proofs.«01_k».proof.Proof.Gen.Kernel2Ideal.Loops

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The loops' bounds -/

/-- The number of sub-blocks, as the kernel computes it from the number of tokens. -/
def nblk (v : BitVec 32) : BitVec 32 := (k0_t1_loop v).ub

theorem divsi_one (a : BitVec 32) : Scalar.divsi a 1#32 = a := by
  unfold Scalar.divsi IntOp.divsi
  rw [if_neg (by simp [IntOp.SDivCorner])]
  exact BitVec.sdiv_one

theorem loop1_eq (v : BitVec 32) : k0_t1_loop v = ⟨0#32, nblk v, 1#32⟩ := rfl

theorem loop2_eq (v : BitVec 32) : k0_t2_loop v = ⟨nblk v, nblk v, 1#32⟩ := by
  unfold nblk k0_t1_loop k0_t2_loop
  dsimp only
  simp only [divsi_one]
  congr 1
  simp [Scalar.addi, Scalar.muli, IntOp.addi, IntOp.muli]

theorem trips2 (v : BitVec 32) : (k0_t2_loop v).trips = 0 := by
  rw [loop2_eq]; simp [Scf.Loop.trips, Scf.trips]

theorem chk_all (v : BitVec 32) : k0_chk1 v := by
  unfold k0_chk1
  rw [loop1_eq, loop2_eq]
  have h := (nblk v).isLt
  have h1 := BitVec.toInt_lt (x := nblk v)
  have h2 := BitVec.le_toInt (x := nblk v)
  constructor <;> simp [Scf.Loop.OK, Scf.OK, Scf.trips] <;> omega

/-- For a number of tokens in range it is that number over 320, rounded up. -/
theorem trips1_ofNat : ∀ n : Fin 1025, (k0_t1_loop (BitVec.ofNat 32 n.val)).trips = (n.val + 319) / 320 := by decide +kernel

/-! ### The body's steps -/

/-- Expert `j`'s weights in a group's block: of the gates and the other factors, -/
def wgb (x : Vec F S1x4x1024x512 .bf16) (j : Fin 4) : Vec F S1x1x1024x512 .bf16 :=
  View.ld x (Rect.unit (s := S1x4x1024x512) ![0, j.val, 0, 0] S1x1x1024x512.size (by revert j; decide))
/-- and of the outputs. -/
def wdb (x : Vec F S1x4x512x1024 .bf16) (j : Fin 4) : Vec F S1x1x512x1024 .bf16 :=
  View.ld x (Rect.unit (s := S1x4x512x1024) ![0, j.val, 0, 0] S1x1x512x1024.size (by revert j; decide))

/-- One sub-block of a group's tokens, added to what the tile holds. -/
def trip (v20 : BitVec 32) (v35 : FVec F S1024x1 .f32) (v36 : FVec F S1x1024 .f32) (v38 : Vec F S1x8x1024 .f32) (v44 : Vec F S1024x1024 .bf16)
    (wg wu : Vec F S1x4x1024x512 .bf16) (wd : Vec F S1x4x512x1024 .bf16) (k : Fin (k0_t1_loop v20).trips) (acc : Vec F S1024x1024 .f32) :
    Vec F S1024x1024 .f32 :=
  k0_pay4 (k0_pay35 v20 v35 0#32 1#32 k) (k0_pay36 v20 v36 v44 0#32 1#32 k) (k0_pay37 v20 v36 (k0_pay2 v38) (k0_pay3 v38) 0#32 1#32 k)
    (k0_pay40 (k0_pay36 v20 v36 v44 0#32 1#32 k) (k0_pay37 v20 v36 (k0_pay2 v38) (k0_pay3 v38) 0#32 1#32 k)
      (k0_pay39 (k0_pay36 v20 v36 v44 0#32 1#32 k) (k0_pay37 v20 v36 (k0_pay2 v38) (k0_pay3 v38) 0#32 1#32 k)
        (k0_pay38 v20 v36 v44 0#32 1#32 k (wgb wg 0)) (wgb wu 0) (wdb wd 0) (wgb wg 1) (wgb wu 1) (wdb wd 1))
      (wgb wg 2) (wgb wu 2) (wdb wd 2))
    (k0_pay41 (k0_pay36 v20 v36 v44 0#32 1#32 k) (wgb wg 3)) (wgb wu 3) (wdb wd 3) acc

/-- The tile after the first `n` sub-blocks. -/
def accN (v20 : BitVec 32) (v35 : FVec F S1024x1 .f32) (v36 : FVec F S1x1024 .f32) (v38 : Vec F S1x8x1024 .f32) (v44 : Vec F S1024x1024 .bf16)
    (wg wu : Vec F S1x4x1024x512 .bf16) (wd : Vec F S1x4x512x1024 .bf16) (acc : Vec F S1024x1024 .f32) : ℕ → Vec F S1024x1024 .f32
  | 0 => acc
  | k + 1 => if h : k < (k0_t1_loop v20).trips then trip v20 v35 v36 v38 v44 wg wu wd ⟨k, h⟩ (accN v20 v35 v36 v38 v44 wg wu wd acc k)
      else accN v20 v35 v36 v38 v44 wg wu wd acc k

/-- Group `g`'s combine weights, of every group's. -/
def combRow (i : grid0.Coords) (comb : Vec F S4x8x1024 .f32) : Vec F S1x8x1024 .f32 :=
  View.ld comb (Rect.unit (s := S4x8x1024) (k0_off1 i) S1x8x1024.size (k0_off1_inb i))

/-- What a group's step adds to the tile. -/
def accF (i : grid0.Coords) (tri : Vec F S1024x1024 .bf16) (wg wu : Vec F S1x4x1024x512 .bf16) (wd : Vec F S1x4x512x1024 .bf16)
    (xb : Vec F S1024x1024 .bf16) (comb : Vec F S4x8x1024 .f32) (grp : Vec F S8x1024 .f32) (acc : Vec F S1024x1024 .f32) : Vec F S1024x1024 .f32 :=
  accN (Scalar.fptosi 32 (k0_pay60 i grp tri)) (k0_pay61 i grp tri) (k0_pay62 i grp tri) (combRow i comb) xb wg wu wd acc
    (k0_t1_loop (Scalar.fptosi 32 (k0_pay60 i grp tri))).trips

/-! ### The routing -/

section
variable (x : Vec F S1x1024x1024 .f32) (rw : Vec F S16x1024 .f32) (rb : Vec F S16x1 .f32)
/-- The biased scores. -/
def bsF : FVec F S16x1024 .f32 := k0_pay11 x rw rb
/-- The best group. -/
def bgF : FVec F S1x1024 .f32 :=
  k0_pay22 (k0_pay14 (bsF x rw rb)) (k0_pay15 (bsF x rw rb)) (k0_pay16 (bsF x rw rb)) (k0_pay18 (bsF x rw rb)) (k0_pay19 (bsF x rw rb)) (k0_pay20 (bsF x rw rb)) (k0_pay21 (bsF x rw rb))
/-- The first expert's index, -/
def i1F : FVec F S1x1024 .f32 :=
  k0_pay24 (bsF x rw rb) k0_pay12 (k0_pay13 (iota .tc S16x1024 32 [0] iota_S16x1024_d0_w32) 2#32) (k0_pay14 (bsF x rw rb)) (k0_pay15 (bsF x rw rb)) (k0_pay16 (bsF x rw rb)) (k0_pay18 (bsF x rw rb)) (k0_pay19 (bsF x rw rb)) (k0_pay20 (bsF x rw rb)) (k0_pay21 (bsF x rw rb))
/-- the second's. -/
def i2F : FVec F S1x1024 .f32 :=
  k0_pay25 (bsF x rw rb) k0_pay12 (k0_pay13 (iota .tc S16x1024 32 [0] iota_S16x1024_d0_w32) 2#32) (k0_pay14 (bsF x rw rb)) (k0_pay15 (bsF x rw rb)) (k0_pay16 (bsF x rw rb)) (k0_pay18 (bsF x rw rb)) (k0_pay19 (bsF x rw rb)) (k0_pay20 (bsF x rw rb)) (k0_pay21 (bsF x rw rb))
/-- Where the first is. -/
def e1F : IVec S16x1024 1 :=
  k0_pay26 (bsF x rw rb) k0_pay12 (k0_pay13 (iota .tc S16x1024 32 [0] iota_S16x1024_d0_w32) 2#32) (k0_pay14 (bsF x rw rb)) (k0_pay15 (bsF x rw rb)) (k0_pay16 (bsF x rw rb)) (k0_pay18 (bsF x rw rb)) (k0_pay19 (bsF x rw rb)) (k0_pay20 (bsF x rw rb)) (k0_pay21 (bsF x rw rb))
/-- The combine weights of every expert, -/
def cwF : FVec F S16x1024 .f32 := k0_pay28 (k0_pay10 x rw) k0_pay12 (i1F x rw rb) (i2F x rw rb) (e1F x rw rb) k0_pay27

/-- as the kernel lays them out, group by group. -/
def combL : List (View.Piece (Elt F) S4x8x1024 .f32) :=
  [⟨Rect.unit (s := S4x8x1024) ![3, 4, 0] S1x4x1024.size inb_S4x8x1024_S1x4x1024_3_4_0, k0_pay55⟩,
   ⟨Rect.unit (s := S4x8x1024) ![3, 0, 0] S1x4x1024.size inb_S4x8x1024_S1x4x1024_3_0_0, k0_pay54 (cwF x rw rb)⟩,
   ⟨Rect.unit (s := S4x8x1024) ![2, 4, 0] S1x4x1024.size inb_S4x8x1024_S1x4x1024_2_4_0, k0_pay53⟩,
   ⟨Rect.unit (s := S4x8x1024) ![2, 0, 0] S1x4x1024.size inb_S4x8x1024_S1x4x1024_2_0_0, k0_pay52 (cwF x rw rb)⟩,
   ⟨Rect.unit (s := S4x8x1024) ![1, 4, 0] S1x4x1024.size inb_S4x8x1024_S1x4x1024_1_4_0, k0_pay51 k0_pay32⟩,
   ⟨Rect.unit (s := S4x8x1024) ![1, 0, 0] S1x4x1024.size inb_S4x8x1024_S1x4x1024_1_0_0, k0_pay31 (k0_pay10 x rw) k0_pay12 (i1F x rw rb) (i2F x rw rb) (e1F x rw rb) k0_pay27⟩,
   ⟨Rect.unit (s := S4x8x1024) ![0, 4, 0] S1x4x1024.size inb_S4x8x1024_S1x4x1024_0_4_0, k0_pay30⟩,
   ⟨Rect.unit (s := S4x8x1024) ![0, 0, 0] S1x4x1024.size inb_S4x8x1024_S1x4x1024_0_0_0, k0_pay29 (k0_pay10 x rw) k0_pay12 (i1F x rw rb) (i2F x rw rb) (e1F x rw rb) k0_pay27⟩]
def combF : Vec F S4x8x1024 .f32 := View.canon (combL x rw rb)
/-- The best group, on every sublane. -/
def grpF : Vec F S8x1024 .f32 := k0_pay56 (bgF x rw rb)
end

end Cert.Kernel2Ideal.Val
-- ==== Proof.MoeRead.lean ====
/-
  The experts' block arithmetic read at one element over the extended reals.
-/
module

public import proofs.«01_k».proof.Proof.MoeStep
public import Idealize.ShloMosaic.Lib.Pointwise
public import Idealize.ShloMosaic.Lib.WordCmp

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem one_f : Ideal.ofBits .f32 0x3F800000#32 = 1 := by
  have h1 : ∀ a b : ℕ, a >>> b = a / 2 ^ b := Nat.shiftRight_eq_div_pow
  unfold Ideal.ofBits; dsimp only; norm_num [Ideal.ieee, h1, BitVec.extractLsb', BitVec.toNat_ofNat]
theorem zero_f : Ideal.ofBits .f32 0x00000000#32 = 0 := by simp [Ideal.ofBits, Ideal.ieee]

theorem neg_one_f : Ideal.ofBits .f32 3212836864#32 = -1 := by
  have h1 : ∀ a b : ℕ, a >>> b = a / 2 ^ b := Nat.shiftRight_eq_div_pow
  unfold Ideal.ofBits; dsimp only; norm_num [Ideal.ieee, h1, BitVec.extractLsb', BitVec.toNat_ofNat]

theorem toInt_small (n : ℕ) (h : n < 2 ^ 31) : (BitVec.ofNat 32 n).toInt = n := by
  rw [BitVec.toInt_ofNat']; simp [Int.bmod]; omega

theorem sitofp_small (n : ℕ) (h : n < 2 ^ 31) : (FloatOps.sitofp (F := Ideal) FTy.f32 (BitVec.ofNat 32 n) : EReal) = ((n : ℝ) : EReal) := by
  show (((BitVec.ofNat 32 n).toInt : ℝ) : EReal) = _
  rw [toInt_small n h]; norm_cast

/-- A selection on the equality of two small indices. -/
theorem select_eq {α : Type} (a b : ℕ) (ha : a < 2 ^ 31) (hb : b < 2 ^ 31) (x y : α) :
    Scalar.select (IntOp.cmpi CmpIPredicate.eq (BitVec.ofNat 32 a) (BitVec.ofNat 32 b)) x y = if a = b then x else y := by
  have h : (BitVec.ofNat 32 a = BitVec.ofNat 32 b) ↔ a = b := by
    constructor
    · intro e
      have := congrArg BitVec.toNat e
      simp at this; omega
    · rintro rfl; rfl
  unfold Scalar.select
  by_cases e : a = b
  · simp [IntOp.cmpi, e]
  · have : ¬ BitVec.ofNat 32 a = BitVec.ofNat 32 b := fun e' => e (h.1 e')
    have e3 : (BitVec.ofNat 32 a == BitVec.ofNat 32 b) = false := by simpa using this
    simp only [IntOp.cmpi, e3, e, if_false]
    rfl

theorem sum_first (p : Fin 8 → EReal) :
    ∑ x : Fin 8, Scalar.select (IntOp.cmpi CmpIPredicate.eq (BitVec.ofNat 32 ↑x) 0#32) (p x) 0 = p 0 := by
  have e : ∀ x : Fin 8, Scalar.select (IntOp.cmpi CmpIPredicate.eq (BitVec.ofNat 32 ↑x) 0#32) (p x) 0 = if x = 0 then p x else 0 := fun x => by
    rw [show (0#32 : BitVec 32) = BitVec.ofNat 32 0 from rfl, select_eq _ _ (by omega) (by omega)]
    simp only [Fin.ext_iff, Fin.val_zero]
  simp only [e, Finset.sum_ite_eq', Finset.mem_univ, if_true]

theorem toInt_g (i : grid0.Coords) : (((BitVec.ofNat 32 (i 2).val).toInt : ℝ) : EReal) = (((i 2).val : ℝ) : EReal) := by
  have h : (i 2).val < 4 := (i 2).isLt
  rw [toInt_small _ (by omega)]; norm_cast

section
variable (v20 : BitVec 32) (k : Fin (k0_t1_loop v20).trips)

theorem pay33_apply (hk : k.val < 4) : (k0_pay33 (F := Ideal) v20 0#32 1#32 k : EReal) = (((320 * k.val : ℕ) : ℝ) : EReal) := by
  pointwise [k0_pay33]
  have : ∀ n : Fin 4, (Scalar.muli (Scf.iv 0#32 1#32 n.val) 320#32).toInt = ((320 * n.val : ℕ) : ℤ) := by decide
  rw [this ⟨k.val, hk⟩]
  norm_cast

theorem pay34_apply (v36 : FVec Ideal S1x1024 .f32) (r : Fin 320) (t : Fin 1024) :
    (k0_pay34 v20 v36 0#32 1#32 k (ix2 r t) : EReal) = if (v36 (ix2 0 t) : EReal) = k0_pay33 (F := Ideal) v20 0#32 1#32 k + ((r.val : ℝ) : EReal) then 1 else 0 := by
  pointwise [k0_pay34]
  rw [sitofp_small _ (by omega)]

theorem pay35_apply (v35 : FVec Ideal S1024x1 .f32) (r : Fin 320) (t : Fin 1024) :
    (k0_pay35 v20 v35 0#32 1#32 k (ix2 t r) : EReal) = if (v35 (ix2 t 0) : EReal) = k0_pay33 (F := Ideal) v20 0#32 1#32 k + ((r.val : ℝ) : EReal) then 1 else 0 := by
  pointwise [k0_pay35]
  rw [sitofp_small _ (by omega)]
theorem pay36_apply (v36 : FVec Ideal S1x1024 .f32) (v44 : Vec Ideal S1024x1024 .bf16) (r : Fin 320) (c : Fin 1024) :
    (k0_pay36 v20 v36 v44 0#32 1#32 k (ix2 r c) : EReal) = ∑ t : Fin 1024, k0_pay34 v20 v36 0#32 1#32 k (ix2 r t) * v44 (ix2 t c) := by
  pointwise [k0_pay36]
theorem pay37_apply (v36 : FVec Ideal S1x1024 .f32) (a b : FVec Ideal S8x1024 .bf16) (r : Fin 320) (j : Fin 8) :
    (k0_pay37 v20 v36 a b 0#32 1#32 k (ix2 r j) : EReal) = (∑ t : Fin 1024, k0_pay34 v20 v36 0#32 1#32 k (ix2 r t) * a (ix2 j t))
      + ∑ t : Fin 1024, k0_pay34 v20 v36 0#32 1#32 k (ix2 r t) * b (ix2 j t) := by
  pointwise [k0_pay37]
end

/-- An expert's gate at a row: the product and its sigmoid. -/
def silu (z : EReal) : EReal := z * Ideal.logistic z

theorem pay38_apply (v20 : BitVec 32) (k : Fin (k0_t1_loop v20).trips) (v36 : FVec Ideal S1x1024 .f32) (v44 : Vec Ideal S1024x1024 .bf16) (w : Vec Ideal S1x1x1024x512 .bf16) (r : Fin 320) (f : Fin 512) :
    (k0_pay38 v20 v36 v44 0#32 1#32 k w (ix2 r f) : EReal) = silu (∑ c : Fin 1024, k0_pay36 v20 v36 v44 0#32 1#32 k (ix2 r c) * w (ix4 0 0 c f)) := by
  pointwise [k0_pay38]
  simp [silu, Ideal.logistic, one_f, zero_f]
theorem pay41_apply (x : FVec Ideal S320x1024 .bf16) (w : Vec Ideal S1x1x1024x512 .bf16) (r : Fin 320) (f : Fin 512) :
    (k0_pay41 x w (ix2 r f) : EReal) = silu (∑ c : Fin 1024, x (ix2 r c) * w (ix4 0 0 c f)) := by
  pointwise [k0_pay41]
  simp [silu, Ideal.logistic, one_f, zero_f]
theorem pay39_apply (x : FVec Ideal S320x1024 .bf16) (cw : FVec Ideal S320x8 .f32) (h : FVec Ideal S320x512 .f32) (u0 : Vec Ideal S1x1x1024x512 .bf16) (d0 : Vec Ideal S1x1x512x1024 .bf16)
    (g1 u1 : Vec Ideal S1x1x1024x512 .bf16) (d1 : Vec Ideal S1x1x512x1024 .bf16) (r : Fin 320) (d : Fin 1024) :
    (k0_pay39 x cw h u0 d0 g1 u1 d1 (ix2 r d) : EReal)
      = cw (ix2 r 0) * (∑ f : Fin 512, h (ix2 r f) * (∑ c : Fin 1024, x (ix2 r c) * u0 (ix4 0 0 c f)) * d0 (ix4 0 0 f d))
        + cw (ix2 r 1) * (∑ f : Fin 512, silu (∑ c : Fin 1024, x (ix2 r c) * g1 (ix4 0 0 c f)) * (∑ c : Fin 1024, x (ix2 r c) * u1 (ix4 0 0 c f)) * d1 (ix4 0 0 f d)) := by
  pointwise [k0_pay39]
  simp [silu, Ideal.logistic, one_f, zero_f]
theorem pay40_apply (x : FVec Ideal S320x1024 .bf16) (cw : FVec Ideal S320x8 .f32) (y : FVec Ideal S320x1024 .f32)
    (g1 u1 : Vec Ideal S1x1x1024x512 .bf16) (d1 : Vec Ideal S1x1x512x1024 .bf16) (r : Fin 320) (d : Fin 1024) :
    (k0_pay40 x cw y g1 u1 d1 (ix2 r d) : EReal)
      = y (ix2 r d)
        + cw (ix2 r 2) * (∑ f : Fin 512, silu (∑ c : Fin 1024, x (ix2 r c) * g1 (ix4 0 0 c f)) * (∑ c : Fin 1024, x (ix2 r c) * u1 (ix4 0 0 c f)) * d1 (ix4 0 0 f d)) := by
  pointwise [k0_pay40]
  simp [silu, Ideal.logistic, one_f, zero_f]
theorem pay4_apply (sel : FVec Ideal S1024x320 .bf16) (x : FVec Ideal S320x1024 .bf16) (cw : FVec Ideal S320x8 .f32) (y : FVec Ideal S320x1024 .f32) (h : FVec Ideal S320x512 .f32)
    (u : Vec Ideal S1x1x1024x512 .bf16) (dn : Vec Ideal S1x1x512x1024 .bf16) (acc : Vec Ideal S1024x1024 .f32) (t d : Fin 1024) :
    (k0_pay4 sel x cw y h u dn acc (ix2 t d) : EReal)
      = acc (ix2 t d) + ∑ r : Fin 320, sel (ix2 t r) * (y (ix2 r d)
        + cw (ix2 r 3) * (∑ f : Fin 512, h (ix2 r f) * (∑ c : Fin 1024, x (ix2 r c) * u (ix4 0 0 c f)) * dn (ix4 0 0 f d))) := by
  pointwise [k0_pay4]

/-! ### The positions -/
section
variable (i : grid0.Coords) (g : Vec Ideal S8x1024 .f32) (tri : Vec Ideal S1024x1024 .bf16)
theorem pay58_apply (s : Fin 8) (t : Fin 1024) : (k0_pay58 i g tri (ix2 s t) : EReal)
    = ∑ u : Fin 1024, (if (g (ix2 s u) : EReal) = (((i 2).val : ℝ) : EReal) then (1 : EReal) else 0) * tri (ix2 u t) := by
  pointwise [k0_pay58, k0_pay57]
  simp only [toInt_g]
theorem pay59_apply (s : Fin 8) (t : Fin 1024) : (k0_pay59 i g tri (ix2 s t) : EReal)
    = if (g (ix2 s t) : EReal) = (((i 2).val : ℝ) : EReal) then (k0_pay58 i g tri (ix2 s t) : EReal) - 1 else -1 := by
  pointwise [k0_pay59, k0_pay57]
  rw [toInt_g, neg_one_f]
theorem pay60_apply : k0_pay60 i g tri = k0_pay58 i g tri (ix2 0 1023) := by
  pointwise [k0_pay60]
theorem pay62_apply (t : Fin 1024) : k0_pay62 i g tri (ix2 0 t) = k0_pay59 i g tri (ix2 0 t) := by
  pointwise [k0_pay62]
theorem pay61_apply (t : Fin 1024) : (k0_pay61 i g tri (ix2 t 0) : EReal)
    = k0_pay59 i g tri (ix2 0 t) + ((k0_pay59 i g tri (ix2 0 t) : EReal) - k0_pay59 i g tri (ix2 0 t)) := by
  pointwise [k0_pay61]
  rw [sum_first, sum_first]
end
theorem pay2_apply (x : Vec Ideal S1x8x1024 .f32) (j : Fin 8) (t : Fin 1024) : (k0_pay2 x (ix2 j t) : EReal) = x (ix3 0 j t) := by
  pointwise [k0_pay2, k0_pay1]
theorem pay3_apply (x : Vec Ideal S1x8x1024 .f32) (j : Fin 8) (t : Fin 1024) : (k0_pay3 x (ix2 j t) : EReal) = (x (ix3 0 j t) : EReal) - x (ix3 0 j t) := by
  pointwise [k0_pay3, k0_pay2, k0_pay1]

end Cert.Kernel2Ideal.Val
-- ==== Proof.MoeTile.lean ====
/-
  A group's step over one tile: each of the group's tokens gets its experts' weighted outputs, every other token nothing.
-/
module

public import proofs.«01_k».proof.Proof.MoeRead
public import proofs.«01_k».proof.Proof.Online
public import Idealize.ShloMosaic.Lib.Pipeline.ValueKit.Tiles

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic

theorem wgb_apply (x : Vec Ideal S1x4x1024x512 .bf16) (j : Fin 4) (c : Fin 1024) (f : Fin 512) : wgb x j (ix4 0 0 c f) = x (ix4 0 j c f) := by
  unfold wgb
  refine View.ld_unit_apply_of _ _ _ _ _ _ fun a => ?_
  fin_cases a <;> simp <;> rfl

theorem wdb_apply (x : Vec Ideal S1x4x512x1024 .bf16) (j : Fin 4) (f : Fin 512) (d : Fin 1024) : wdb x j (ix4 0 0 f d) = x (ix4 0 j f d) := by
  unfold wdb
  refine View.ld_unit_apply_of _ _ _ _ _ _ fun a => ?_
  fin_cases a <;> simp <;> rfl

/-- One expert's output for a token. -/
def expert (xb : Vec Ideal S1024x1024 .bf16) (wg wu : Vec Ideal S1x4x1024x512 .bf16) (wd : Vec Ideal S1x4x512x1024 .bf16) (j : Fin 4) (t d : Fin 1024) : EReal :=
  ∑ f : Fin 512, silu (∑ c : Fin 1024, xb (ix2 t c) * wg (ix4 0 j c f)) * (∑ c : Fin 1024, xb (ix2 t c) * wu (ix4 0 j c f)) * wd (ix4 0 j f d)

/-- The group's experts' outputs for a token, weighted. -/
def mix (cw : Fin 8 → Fin 1024 → EReal) (xb : Vec Ideal S1024x1024 .bf16) (wg wu : Vec Ideal S1x4x1024x512 .bf16) (wd : Vec Ideal S1x4x512x1024 .bf16) (t d : Fin 1024) : EReal :=
  cw 0 t * expert xb wg wu wd 0 t d + cw 1 t * expert xb wg wu wd 1 t d + cw 2 t * expert xb wg wu wd 2 t d + cw 3 t * expert xb wg wu wd 3 t d

section
variable (v20 : BitVec 32) (v35 : FVec Ideal S1024x1 .f32) (v36 : FVec Ideal S1x1024 .f32) (v38 : Vec Ideal S1x8x1024 .f32) (xb : Vec Ideal S1024x1024 .bf16)
  (wg wu : Vec Ideal S1x4x1024x512 .bf16) (wd : Vec Ideal S1x4x512x1024 .bf16) (p : Fin 1024 → ℤ) (cw : Fin 8 → Fin 1024 → ℝ)

theorem at_row (p : ℤ) (k r : ℕ) : (((p : ℝ) : EReal) = ((((320 * k : ℕ) : ℝ) : EReal) + ((r : ℝ) : EReal))) ↔ p = 320 * k + r := by
  rw [← EReal.coe_add, EReal.coe_eq_coe_iff]
  push_cast
  exact_mod_cast Iff.rfl

/-- The trip's value at an element: the token's mix if its place falls in the sub-block. -/
theorem trip_apply (h35 : ∀ t, (v35 (ix2 t 0) : EReal) = ((p t : ℝ) : EReal)) (h36 : ∀ t, (v36 (ix2 0 t) : EReal) = ((p t : ℝ) : EReal))
    (hp : ∀ t t', 0 ≤ p t → p t = p t' → t = t')
    (k : Fin (k0_t1_loop v20).trips) (hk : k.val < 4) (acc : Vec Ideal S1024x1024 .f32) (t d : Fin 1024)
    (hc : ∀ j, (v38 (ix3 0 j t) : EReal) = ((cw j t : ℝ) : EReal)) :
    (trip v20 v35 v36 v38 xb wg wu wd k acc (ix2 t d) : EReal)
      = acc (ix2 t d) + if 320 * (k.val : ℤ) ≤ p t ∧ p t < 320 * (k.val + 1 : ℤ) then mix (fun j t => (cw j t : EReal)) xb wg wu wd t d else 0 := by
  have sel : ∀ (r : Fin 320) (u : Fin 1024), (k0_pay34 v20 v36 0#32 1#32 k (ix2 r u) : EReal) = if p u = 320 * k.val + r.val then 1 else 0 := fun r u => by
    rw [pay34_apply, pay33_apply v20 k hk, h36]; simp only [at_row]
  have sel' : ∀ (r : Fin 320) (u : Fin 1024), (k0_pay35 v20 v35 0#32 1#32 k (ix2 u r) : EReal) = if p u = 320 * k.val + r.val then 1 else 0 := fun r u => by
    rw [pay35_apply, pay33_apply v20 k hk, h35]; simp only [at_row]
  unfold trip
  rw [pay4_apply]
  congr 1
  by_cases hin : 320 * (k.val : ℤ) ≤ p t ∧ p t < 320 * (k.val + 1 : ℤ)
  · rw [if_pos hin]
    obtain ⟨h1, h2⟩ := hin
    have hr : (p t - 320 * k.val).toNat < 320 := by omega
    have pick : ∀ u, p u = 320 * (k.val : ℤ) + ((⟨(p t - 320 * k.val).toNat, hr⟩ : Fin 320).val : ℤ) ↔ u = t := fun u => by
      have e : 320 * (k.val : ℤ) + ((p t - 320 * k.val).toNat : ℤ) = p t := by omega
      dsimp only
      rw [e]
      exact ⟨fun h => (hp t u (by omega) h.symm).symm, fun h => by rw [h]⟩
    have one : ∀ g : Fin 1024 → EReal, (∑ u : Fin 1024, k0_pay34 v20 v36 0#32 1#32 k (ix2 ⟨(p t - 320 * k.val).toNat, hr⟩ u) * g u) = g t := fun g => by
      simp only [sel, pick, ite_mul, one_mul, zero_mul, Finset.sum_ite_eq', Finset.sum_ite_eq, Finset.mem_univ, if_true]
    rw [Finset.sum_eq_single ⟨(p t - 320 * k.val).toNat, hr⟩]
    · have hx : ∀ c, (k0_pay36 v20 v36 xb 0#32 1#32 k (ix2 ⟨(p t - 320 * k.val).toNat, hr⟩ c) : EReal) = xb (ix2 t c) := fun c => by
        rw [pay36_apply]; exact one fun u => xb (ix2 u c)
      have hw : ∀ j, (k0_pay37 v20 v36 (k0_pay2 v38) (k0_pay3 v38) 0#32 1#32 k (ix2 ⟨(p t - 320 * k.val).toNat, hr⟩ j) : EReal) = ((cw j t : ℝ) : EReal) := fun j => by
        rw [pay37_apply, one fun u => k0_pay2 v38 (ix2 j u), one fun u => k0_pay3 v38 (ix2 j u), pay2_apply, pay3_apply, hc, ← EReal.coe_sub, sub_self, EReal.coe_zero, add_zero]
      rw [sel', if_pos ((pick t).2 rfl), one_mul, pay40_apply, pay39_apply]
      simp only [hw, pay38_apply, pay41_apply, hx, wgb_apply, wdb_apply]
      rfl
    · intro r _ hne
      rw [sel', if_neg, zero_mul]
      intro h
      apply hne
      apply Fin.ext
      dsimp only
      omega
    · intro h; exact absurd (Finset.mem_univ _) h
  · rw [if_neg hin]
    refine Finset.sum_eq_zero fun r _ => ?_
    rw [sel', if_neg, zero_mul]
    intro h
    apply hin
    have := r.isLt
    omega

/-- After `n` sub-blocks: the mix of each token whose place is below `320 n`. -/
theorem accN_apply (h35 : ∀ t, (v35 (ix2 t 0) : EReal) = ((p t : ℝ) : EReal)) (h36 : ∀ t, (v36 (ix2 0 t) : EReal) = ((p t : ℝ) : EReal))
    (hp : ∀ t t', 0 ≤ p t → p t = p t' → t = t')
    (ht : (k0_t1_loop v20).trips ≤ 4) (acc : Vec Ideal S1024x1024 .f32) (t d : Fin 1024)
    (hc : ∀ j, (v38 (ix3 0 j t) : EReal) = ((cw j t : ℝ) : EReal)) :
    ∀ n : ℕ, n ≤ (k0_t1_loop v20).trips → (accN v20 v35 v36 v38 xb wg wu wd acc n (ix2 t d) : EReal)
      = acc (ix2 t d) + if 0 ≤ p t ∧ p t < 320 * (n : ℤ) then mix (fun j t => (cw j t : EReal)) xb wg wu wd t d else 0
  | 0, _ => by
    rw [accN, if_neg (by omega), add_zero]
  | n + 1, hn => by
    have hn' : n < (k0_t1_loop v20).trips := by omega
    rw [accN, dif_pos hn', trip_apply v20 v35 v36 v38 xb wg wu wd p cw h35 h36 hp ⟨n, hn'⟩ (by dsimp only; omega) _ _ _ hc,
      accN_apply h35 h36 hp ht acc t d hc n (by omega), add_assoc]
    congr 1
    by_cases h1 : 0 ≤ p t ∧ p t < 320 * (n : ℤ)
    · rw [if_pos h1, if_neg (by dsimp only; omega), if_pos (by push_cast; omega), add_zero]
    · rw [if_neg h1, zero_add]
      congr 1
      apply propext
      push_cast
      omega
end

/-! ### A token's place in its group -/
section
variable (i : grid0.Coords) (g : Vec Ideal S8x1024 .f32) (tri : Vec Ideal S1024x1024 .bf16) (gr : Fin 1024 → Fin 4)

/-- How many of the tile's tokens up to `t` go to the step's group. -/
def cnt (t : Fin 1024) : ℕ := (Finset.univ.filter fun u : Fin 1024 => (gr u).val = (i 2).val ∧ u ≤ t).card
/-- A token's place among its group's tokens; `-1` elsewhere. -/
def pos (t : Fin 1024) : ℤ := if (gr t).val = (i 2).val then (cnt i gr t : ℤ) - 1 else -1

theorem cnt_le (t : Fin 1024) : cnt i gr t ≤ 1024 := (Finset.card_le_univ _).trans (by simp)
theorem cnt_pos (t : Fin 1024) (h : (gr t).val = (i 2).val) : 0 < cnt i gr t :=
  Finset.card_pos.2 ⟨t, by simp [h]⟩
theorem cnt_mono {t t' : Fin 1024} (h : t ≤ t') : cnt i gr t ≤ cnt i gr t' :=
  Finset.card_le_card fun u hu => by
    simp only [Finset.mem_filter, Finset.mem_univ, true_and] at hu ⊢
    exact ⟨hu.1, hu.2.trans h⟩
theorem cnt_lt {t t' : Fin 1024} (h : t < t') (ht' : (gr t').val = (i 2).val) : cnt i gr t < cnt i gr t' :=
  Finset.card_lt_card ⟨fun u hu => by
    simp only [Finset.mem_filter, Finset.mem_univ, true_and] at hu ⊢
    exact ⟨hu.1, hu.2.trans h.le⟩, fun hs => by
      have := hs (show t' ∈ _ by simp [ht'])
      simp only [Finset.mem_filter, Finset.mem_univ, true_and] at this
      exact absurd (lt_of_lt_of_le h this.2) (lt_irrefl _)⟩

theorem pos_nonneg (t : Fin 1024) : 0 ≤ pos i gr t ↔ (gr t).val = (i 2).val := by
  unfold pos
  by_cases h : (gr t).val = (i 2).val
  · have := cnt_pos i gr t h
    rw [if_pos h]; simp only [h, iff_true]; omega
  · rw [if_neg h]; simp [h]

theorem pos_inj (t t' : Fin 1024) (h : 0 ≤ pos i gr t) (e : pos i gr t = pos i gr t') : t = t' := by
  have h1 := (pos_nonneg i gr t).1 h
  have h2 := (pos_nonneg i gr t').1 (e ▸ h)
  unfold pos at e
  rw [if_pos h1, if_pos h2] at e
  rcases lt_trichotomy t t' with hl | hl | hl
  · have := cnt_lt i gr hl h2; omega
  · exact hl
  · have := cnt_lt i gr hl h1; omega

theorem real_ite (P : Prop) [Decidable P] (a b : ℝ) : (if P then (a : EReal) else (b : EReal)) = ((if P then a else b : ℝ) : EReal) := by
  split <;> rfl

theorem pay58_cnt (hg : ∀ s t, (g (ix2 s t) : EReal) = (((gr t).val : ℝ) : EReal)) (ht : ∀ u t, (tri (ix2 u t) : EReal) = if u ≤ t then 1 else 0)
    (s : Fin 8) (t : Fin 1024) : (k0_pay58 i g tri (ix2 s t) : EReal) = ((cnt i gr t : ℝ) : EReal) := by
  rw [pay58_apply]
  have e : ∀ u : Fin 1024, (if (g (ix2 s u) : EReal) = (((i 2).val : ℝ) : EReal) then (1 : EReal) else 0) * tri (ix2 u t)
      = ((if (gr u).val = (i 2).val ∧ u ≤ t then 1 else 0 : ℝ) : EReal) := fun u => by
    rw [hg, ht]
    have q : ((((gr u).val : ℝ) : EReal) = (((i 2).val : ℝ) : EReal)) ↔ (gr u).val = (i 2).val := by rw [EReal.coe_eq_coe_iff, Nat.cast_inj]
    simp only [q]
    by_cases h1 : (gr u).val = (i 2).val <;> by_cases h2 : u ≤ t <;> simp [h1, h2]
  simp only [e]
  rw [← Online.coe_sum, Finset.sum_boole]
  rfl

theorem pay59_pos (hg : ∀ s t, (g (ix2 s t) : EReal) = (((gr t).val : ℝ) : EReal)) (ht : ∀ u t, (tri (ix2 u t) : EReal) = if u ≤ t then 1 else 0)
    (s : Fin 8) (t : Fin 1024) : (k0_pay59 i g tri (ix2 s t) : EReal) = ((pos i gr t : ℝ) : EReal) := by
  rw [pay59_apply, pay58_cnt i g tri gr hg ht, hg]
  have q : ((((gr t).val : ℝ) : EReal) = (((i 2).val : ℝ) : EReal)) ↔ (gr t).val = (i 2).val := by rw [EReal.coe_eq_coe_iff, Nat.cast_inj]
  simp only [q]
  unfold pos
  by_cases h : (gr t).val = (i 2).val
  · rw [if_pos h, if_pos h, ← EReal.coe_one, ← EReal.coe_sub]; push_cast; rfl
  · rw [if_neg h, if_neg h]; norm_num

theorem fptosi_nat (n : ℕ) (h : n ≤ 1024) (x : Ideal .f32) (hx : (x : EReal) = ((n : ℝ) : EReal)) : Scalar.fptosi 32 x = BitVec.ofNat 32 n := by
  subst hx
  show Ideal.fptosi 32 ((n : ℝ) : EReal) = _
  rw [Ideal.fptosi, Ideal.toIntClamped_coe, if_pos (by positivity), Int.floor_natCast]
  rw [show max (-((2 ^ (32 - 1) : ℕ) : ℤ)) (min (((2 ^ (32 - 1) : ℕ) : ℤ) - 1) (n : ℤ)) = (n : ℤ) by norm_num; omega]
  exact BitVec.ofInt_natCast ..

/-- The group's step: each of its tokens gets the mix. -/
theorem accF_apply (wg wu : Vec Ideal S1x4x1024x512 .bf16) (wd : Vec Ideal S1x4x512x1024 .bf16)
    (xb : Vec Ideal S1024x1024 .bf16) (comb : Vec Ideal S4x8x1024 .f32) (acc : Vec Ideal S1024x1024 .f32) (cw : Fin 8 → Fin 1024 → ℝ)
    (hg : ∀ s t, (g (ix2 s t) : EReal) = (((gr t).val : ℝ) : EReal)) (ht : ∀ u t, (tri (ix2 u t) : EReal) = if u ≤ t then 1 else 0)
    (t d : Fin 1024) (hc : ∀ j, (combRow i comb (ix3 0 j t) : EReal) = ((cw j t : ℝ) : EReal)) :
    (accF i tri wg wu wd xb comb g acc (ix2 t d) : EReal)
      = acc (ix2 t d) + if (gr t).val = (i 2).val then mix (fun j t => (cw j t : EReal)) xb wg wu wd t d else 0 := by
  have h20 : Scalar.fptosi 32 (k0_pay60 i g tri) = BitVec.ofNat 32 (cnt i gr 1023) :=
    fptosi_nat _ (cnt_le i gr _) _ (by rw [pay60_apply]; exact pay58_cnt i g tri gr hg ht 0 1023)
  have htr : (k0_t1_loop (Scalar.fptosi 32 (k0_pay60 i g tri))).trips = (cnt i gr 1023 + 319) / 320 := by
    rw [h20]; exact trips1_ofNat ⟨_, Nat.lt_succ_of_le (cnt_le i gr 1023)⟩
  have hle := cnt_le i gr 1023
  unfold accF
  rw [accN_apply _ _ _ _ xb wg wu wd (pos i gr) cw (fun t => by
      rw [pay61_apply, pay59_pos i g tri gr hg ht, ← EReal.coe_sub, sub_self, EReal.coe_zero, add_zero])
    (fun t => by rw [pay62_apply]; exact pay59_pos i g tri gr hg ht 0 t) (pos_inj i gr) (by omega) acc t d hc _ le_rfl]
  congr 1
  have : (0 ≤ pos i gr t ∧ pos i gr t < 320 * ((k0_t1_loop (Scalar.fptosi 32 (k0_pay60 i g tri))).trips : ℤ)) ↔ (gr t).val = (i 2).val := by
    rw [pos_nonneg]
    refine ⟨fun h => h.1, fun h => ⟨h, ?_⟩⟩
    have := cnt_mono i gr (show t ≤ 1023 from Fin.le_last t)
    unfold pos
    rw [if_pos h, htr]
    omega
  simp only [this]
end

end Cert.Kernel2Ideal.Val
-- ==== Proof.MoeSpec.lean ====
/-
  The routing of one token, apart from any program: the order the two programs select by, its greatest and its next, and
  the weights they give the experts.
-/
module

public import Idealize.ShloMosaic.Lib.SortFacts
public import Idealize.ShloMosaic.Lib.Pointwise
public import Mathlib.Data.EReal.Operations

@[expose] public section

noncomputable section

namespace Cert.Route

open Idealize.ShloMosaic

/-! ## Greatest first, the lower index on a tie -/

section
variable {n : ℕ} (f : Fin n → EReal)

/-- Position `a` is taken before position `b`. -/
def Bef (a b : Fin n) : Prop := f b < f a ∨ (f a = f b ∧ a < b)
/-- Position `i` is taken first, -/
def IsTop (i : Fin n) : Prop := ∀ j, j ≠ i → Bef f i j
/-- and `k` next after it. -/
def IsSnd (i k : Fin n) : Prop := k ≠ i ∧ ∀ j, j ≠ i → j ≠ k → Bef f k j

variable {f}
theorem Bef.le {a b : Fin n} (h : Bef f a b) : f b ≤ f a := h.elim le_of_lt fun e => e.1.symm.le
theorem Bef.asymm {a b : Fin n} (h : Bef f a b) (h' : Bef f b a) : False := by
  rcases h with h | ⟨h, g⟩ <;> rcases h' with h' | ⟨h', g'⟩
  · exact lt_asymm h h'
  · exact absurd h (by rw [h']; exact lt_irrefl _)
  · exact absurd h' (by rw [h]; exact lt_irrefl _)
  · exact lt_asymm g g'
theorem IsTop.le {i : Fin n} (h : IsTop f i) (j : Fin n) : f j ≤ f i := by
  by_cases e : j = i
  · rw [e]
  · exact (h j e).le
theorem IsTop.unique {i j : Fin n} (h : IsTop f i) (h' : IsTop f j) : i = j := by
  by_contra e
  exact (h j (Ne.symm e)).asymm (h' i e)
theorem IsSnd.unique {i k l : Fin n} (h : IsSnd f i k) (h' : IsSnd f i l) : k = l := by
  by_contra e
  exact (h.2 l h'.1 (Ne.symm e)).asymm (h'.2 k h.1 e)

theorem pairwise_insert (a : Fin n) (l : List (Fin n)) (ha : ∀ b ∈ l, a < b) (hl : l.Pairwise (Bef f)) :
    (insertBefore (fun k k' => decide (f k' < f k)) a l).Pairwise (Bef f) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem b hc)) hl.2⟩
      rcases List.mem_cons.mp ((perm_insertBefore _ a l).mem_iff.mp hc) with rfl | hc'
      · exact Or.inl (by simpa using h)
      · exact hl.1 c hc'
    · rename_i h
      have hba : f b ≤ f a := by simpa using h
      refine List.pairwise_cons.mpr ⟨fun c hc => ?_, List.pairwise_cons.mpr hl⟩
      have hc2 : f c ≤ f a := by
        rcases List.mem_cons.mp hc with rfl | hc'
        · exact hba
        · exact (hl.1 c hc').le.trans hba
      rcases hc2.lt_or_eq with h1 | h1
      · exact Or.inl h1
      · exact Or.inr ⟨h1.symm, ha c hc⟩

theorem pairwise_sort (l : List (Fin n)) (hl : l.Pairwise (· < ·)) :
    (stableSort (fun k k' => decide (f k' < f k)) l).Pairwise (Bef f) := by
  induction l with
  | nil => exact List.Pairwise.nil
  | cons a l ih =>
    rw [List.pairwise_cons] at hl
    unfold stableSort
    exact pairwise_insert a _ (fun b hb => hl.1 b ((perm_stableSort _ l).mem_iff.mp hb)) (ih hl.2)

theorem sortedFrom_bef (i j : Fin n) (h : i < j) :
    Bef f (sortedFrom (fun k k' => decide (f k' < f k)) i) (sortedFrom (fun k k' => decide (f k' < f k)) j) := by
  have hp := List.pairwise_iff_get.mp (pairwise_sort (f := f) (List.finRange n) (List.pairwise_lt_finRange n))
  unfold sortedFrom
  exact hp (i.cast (length_sortPositions n _).symm) (j.cast (length_sortPositions n _).symm) (show i.val < j.val from h)

end

/-- A stable sort under the order puts the first first, -/
theorem isTop_sorted {n : ℕ} (f : Fin (n + 1) → EReal) : IsTop f (sortedFrom (fun k k' => decide (f k' < f k)) 0) := by
  intro j hj
  obtain ⟨k, rfl⟩ := sortedFrom_surjective (fun k k' => decide (f k' < f k)) j
  refine sortedFrom_bef 0 k (Fin.pos_of_ne_zero fun e => hj (by rw [e]))
/-- the next second. -/
theorem isSnd_sorted {n : ℕ} (f : Fin (n + 2) → EReal) :
    IsSnd f (sortedFrom (fun k k' => decide (f k' < f k)) 0) (sortedFrom (fun k k' => decide (f k' < f k)) 1) := by
  constructor
  · intro e; exact absurd (sortedFrom_injective _ e) (by simp)
  · intro j h0 h1
    obtain ⟨k, rfl⟩ := sortedFrom_surjective (fun k k' => decide (f k' < f k)) j
    refine sortedFrom_bef 1 k ?_
    have a : k ≠ 0 := fun e => h0 (by rw [e])
    have b : k ≠ 1 := fun e => h1 (by rw [e])
    have a' : k.val ≠ 0 := fun e => a (Fin.ext e)
    have b' : k.val ≠ 1 := fun e => b (Fin.ext (by simpa using e))
    rw [Fin.lt_def]; simp; omega

theorem exists_top {n : ℕ} (f : Fin (n + 1) → EReal) : ∃ i, IsTop f i := ⟨_, isTop_sorted f⟩
theorem exists_snd {n : ℕ} (f : Fin (n + 2) → EReal) {i : Fin (n + 2)} (h : IsTop f i) : ∃ k, IsSnd f i k := by
  have := h.unique (isTop_sorted f)
  subst this
  exact ⟨_, isSnd_sorted f⟩

/-! ## Four, and the greatest sum of two -/

/-- The greatest of the six sums of two of four. -/
def pairMax (r : Fin 4 → EReal) : EReal :=
  max (max (max (max (max (r 0 + r 1) (r 0 + r 2)) (r 0 + r 3)) (r 1 + r 2)) (r 1 + r 3)) (r 2 + r 3)

theorem pairMax_eq (r : Fin 4 → EReal) {i k : Fin 4} (hi : IsTop r i) (hk : IsSnd r i k) : pairMax r = r i + r k := by
  have hs : ∀ j, j ≠ i → r j ≤ r k := fun j hj => by
    by_cases e : j = k
    · rw [e]
    · exact (hk.2 j hj e).le
  have key : ∀ p q : Fin 4, p ≠ q → r p + r q ≤ r i + r k := by
    intro p q hpq
    by_cases hp : p = i
    · subst hp; exact add_le_add le_rfl (hs q (Ne.symm hpq))
    · by_cases hq : q = i
      · subst hq; rw [add_comm]; exact add_le_add le_rfl (hs p hp)
      · exact add_le_add (hi.le p) (hs q hq)
  apply le_antisymm
  · unfold pairMax
    refine max_le (max_le (max_le (max_le (max_le ?_ ?_) ?_) ?_) ?_) ?_ <;> exact key _ _ (by decide)
  · have hne := hk.1
    clear hi hk hs key
    unfold pairMax
    revert hne
    fin_cases i <;> fin_cases k <;> intro hne <;> first | exact absurd rfl hne | (simp [le_max_iff, add_comm] <;> simp [add_comm (r 1) (r 0)])

/-! ## The weights -/

/-- Expert `j` of group `g`. -/
def ex (g j : Fin 4) : Fin 16 := ⟨g.val * 4 + j.val, by omega⟩
/-- An expert's group. -/
def grp (e : Fin 16) : Fin 4 := ⟨e.val / 4, by omega⟩
/-- A group's score. -/
def gscore (b : Fin 16 → EReal) (g : Fin 4) : EReal := pairMax fun j => b (ex g j)
/-- The biased scores of one group's experts, the others' at minus infinity. -/
def masked (b : Fin 16 → EReal) (g : Fin 4) (e : Fin 16) : EReal := if grp e = g then b e else ⊥

/-- A token's routing: its group and its two experts. -/
structure Routed (b : Fin 16 → EReal) (g : Fin 4) (i k : Fin 16) : Prop where
  top_g : IsTop (gscore b) g
  top_i : IsTop (masked b g) i
  snd_k : IsSnd (masked b g) i k

theorem exists_routed (b : Fin 16 → EReal) : ∃ g i k, Routed b g i k := by
  obtain ⟨g, hg⟩ := exists_top (gscore b)
  obtain ⟨i, hi⟩ := exists_top (masked b g)
  obtain ⟨k, hk⟩ := exists_snd (masked b g) hi
  exact ⟨g, i, k, hg, hi, hk⟩

theorem Routed.unique {b : Fin 16 → EReal} {g g' : Fin 4} {i i' k k' : Fin 16} (h : Routed b g i k) (h' : Routed b g' i' k') :
    g = g' ∧ i = i' ∧ k = k' := by
  have e := h.top_g.unique h'.top_g; subst e
  have e := h.top_i.unique h'.top_i; subst e
  exact ⟨rfl, rfl, h.snd_k.unique h'.snd_k⟩

section
variable {b : Fin 16 → EReal} {g : Fin 4} {i k : Fin 16}

/-- The second expert is of the group too, its biased score above minus infinity, where every score is. -/
theorem Routed.bot_lt (h : Routed b g i k) (hb : ∀ e, ⊥ < b e) : ⊥ < masked b g k := by
  obtain ⟨j, hj, hji⟩ : ∃ j : Fin 4, True ∧ ex g j ≠ i := by
    by_cases e : ex g 0 = i
    · refine ⟨1, trivial, fun e' => ?_⟩
      have := e.trans e'.symm
      simp [ex, Fin.ext_iff] at this
    · exact ⟨0, trivial, e⟩
  have h1 : masked b g (ex g j) = b (ex g j) := if_pos (Fin.ext (by simp [ex, grp]; omega))
  have h2 : masked b g (ex g j) ≤ masked b g k := by
    by_cases e : ex g j = k
    · rw [e]
    · exact (h.snd_k.2 _ hji e).le
  exact (hb _).trans_le (h1.symm.le.trans h2)

theorem Routed.grp_k (h : Routed b g i k) (hb : ∀ e, ⊥ < b e) : grp k = g := by
  by_contra e
  have := h.bot_lt hb
  rw [masked, if_neg e] at this
  exact lt_irrefl _ this
theorem Routed.grp_i (h : Routed b g i k) (hb : ∀ e, ⊥ < b e) : grp i = g := by
  by_contra e
  have := (h.bot_lt hb).trans_le (h.top_i.le k)
  rw [masked, if_neg e] at this
  exact lt_irrefl _ this

/-- The scores with the first expert's put to minus infinity have the second at the top. -/
theorem Routed.top_k (h : Routed b g i k) (hb : ∀ e, ⊥ < b e) :
    IsTop (fun e => if e = i then ⊥ else masked b g e) k := by
  intro j hj
  unfold Bef
  dsimp only
  rw [if_neg h.snd_k.1]
  by_cases e : j = i
  · rw [if_pos e]; exact Or.inl (h.bot_lt hb)
  · rw [if_neg e]; exact h.snd_k.2 j e hj

end

/-- The weight an expert gets. -/
def wt (s : Fin 16 → EReal) (i k e : Fin 16) : EReal :=
  (if e = i then Ideal.div (s i) (s i + s k) else 0) + (if e = k then Ideal.div (s k) (s i + s k) else 0)

/-! ## Folds -/

theorem fold_max_top {n : ℕ} (f : Fin (n + 1) → EReal) {i : Fin (n + 1)} (h : IsTop f i) :
    Finset.univ.fold max ⊥ f = f i := by
  apply le_antisymm
  · exact (Finset.fold_max_le _).2 ⟨bot_le, fun j _ => h.le j⟩
  · exact (Finset.le_fold_max _).2 (Or.inr ⟨i, Finset.mem_univ _, le_rfl⟩)

/-- The least index at which the greatest is attained is the one taken first. -/
theorem fold_min_top (f : Fin 16 → EReal) {i : Fin 16} (h : IsTop f i) :
    Finset.univ.fold min ⊤ (fun e => if f e = f i then ((e.val : ℝ) : EReal) else ((16 : ℝ) : EReal)) = ((i.val : ℝ) : EReal) := by
  apply le_antisymm
  · refine (Finset.fold_min_le _).2 (Or.inr ⟨i, Finset.mem_univ _, ?_⟩)
    rw [if_pos rfl]
  · refine (Finset.le_fold_min _).2 ⟨le_top, fun j _ => ?_⟩
    split
    · rename_i e
      rw [EReal.coe_le_coe_iff, Nat.cast_le]
      by_cases hj : j = i
      · rw [hj]
      · rcases h j hj with h1 | h1
        · exact absurd e (ne_of_lt h1)
        · exact le_of_lt h1.2
    · rw [EReal.coe_le_coe_iff]
      exact_mod_cast (by omega : i.val ≤ 16)

end Cert.Route
-- ==== Proof.MoeRoute.lean ====
/-
  The router over one tile at one token: its scores, its group, its two experts and their weights.
-/
module

public import proofs.«01_k».proof.Proof.MoeTile
public import proofs.«01_k».proof.Proof.MoeSpec

@[expose] public section

set_option maxRecDepth 16384

noncomputable section

namespace Cert.Kernel2Ideal.Val

open Cert.Kernel2Ideal Cert.Kernel2Ideal.Gen
open Cert.Route
open Idealize.ShloMosaic Idealize.ShloMosaic.TcCoe Idealize.ShloMosaic.Tactic

theorem two_f : Ideal.ofBits .f32 1073741824#32 = ((2 : ℝ) : EReal) := by
  have h1 : ∀ a b : ℕ, a >>> b = a / 2 ^ b := Nat.shiftRight_eq_div_pow
  unfold Ideal.ofBits; dsimp only; norm_num [Ideal.ieee, h1, BitVec.extractLsb', BitVec.toNat_ofNat]

theorem three_f : Ideal.ofBits .f32 1077936128#32 = ((3 : ℝ) : EReal) := by
  have h1 : ∀ a b : ℕ, a >>> b = a / 2 ^ b := Nat.shiftRight_eq_div_pow
  unfold Ideal.ofBits; dsimp only; norm_num [Ideal.ieee, h1, BitVec.extractLsb', BitVec.toNat_ofNat]

theorem four_f : Ideal.ofBits .f32 1082130432#32 = ((4 : ℝ) : EReal) := by
  have h1 : ∀ a b : ℕ, a >>> b = a / 2 ^ b := Nat.shiftRight_eq_div_pow
  unfold Ideal.ofBits; dsimp only; norm_num [Ideal.ieee, h1, BitVec.extractLsb', BitVec.toNat_ofNat]

theorem sixteen_f : Ideal.ofBits .f32 1098907648#32 = ((16 : ℝ) : EReal) := by
  have h1 : ∀ a b : ℕ, a >>> b = a / 2 ^ b := Nat.shiftRight_eq_div_pow
  unfold Ideal.ofBits; dsimp only; norm_num [Ideal.ieee, h1, BitVec.extractLsb', BitVec.toNat_ofNat]

theorem bot_f : Ideal.ofBits .f32 4286578688#32 = ⊥ := by
  have h1 : ∀ a b : ℕ, a >>> b = a / 2 ^ b := Nat.shiftRight_eq_div_pow
  unfold Ideal.ofBits; dsimp only; norm_num [Ideal.ieee, h1, BitVec.extractLsb', BitVec.toNat_ofNat]

theorem top_f : Ideal.ofBits .f32 2139095040#32 = ⊤ := by
  have h1 : ∀ a b : ℕ, a >>> b = a / 2 ^ b := Nat.shiftRight_eq_div_pow
  unfold Ideal.ofBits; dsimp only; norm_num [Ideal.ieee, h1, BitVec.extractLsb', BitVec.toNat_ofNat]

/-- The group named is the first at which the greatest is attained. -/
theorem first_group (G : Fin 4 → EReal) {g : Fin 4} (h : IsTop G g) :
    (if G 0 = max (max (max (G 0) (G 1)) (G 2)) (G 3) then (0 : EReal) else if G 1 = max (max (max (G 0) (G 1)) (G 2)) (G 3) then 1
      else if G 2 = max (max (max (G 0) (G 1)) (G 2)) (G 3) then ((2 : ℝ) : EReal) else if G 3 = max (max (max (G 0) (G 1)) (G 2)) (G 3) then ((3 : ℝ) : EReal)
      else ((4 : ℝ) : EReal)) = ((g.val : ℝ) : EReal) := by
  have hM : max (max (max (G 0) (G 1)) (G 2)) (G 3) = G g :=
    le_antisymm (max_le (max_le (max_le (h.le 0) (h.le 1)) (h.le 2)) (h.le 3)) (by fin_cases g <;> simp)
  rw [hM]
  have lt : ∀ j, j < g → ¬ G j = G g := fun j hj e => by
    rcases h j (ne_of_lt hj) with h1 | h1
    · exact absurd e (ne_of_lt h1)
    · exact absurd h1.2 (lt_asymm hj)
  have g4 : g = 0 ∨ g = 1 ∨ g = 2 ∨ g = 3 := by clear hM lt h; revert g; decide
  rcases g4 with rfl | rfl | rfl | rfl
  · simp
  · rw [if_neg (lt 0 (by decide)), if_pos rfl]; norm_num
  · rw [if_neg (lt 0 (by decide)), if_neg (lt 1 (by decide)), if_pos rfl]; norm_num
  · rw [if_neg (lt 0 (by decide)), if_neg (lt 1 (by decide)), if_neg (lt 2 (by decide)), if_pos rfl]; norm_num

section
variable (x : Vec Ideal S1x1024x1024 .f32) (rw' : Vec Ideal S16x1024 .f32) (rb : Vec Ideal S16x1 .f32)

/-- An expert's score of a token, -/
def score (t : Fin 1024) (e : Fin 16) : EReal := Ideal.logistic (∑ c : Fin 1024, rw' (ix2 e c) * x (ix3 0 t c))
/-- and with its bias. -/
def biased (t : Fin 1024) (e : Fin 16) : EReal := score x rw' t e + rb (ix2 e 0)

theorem pay10_apply (e : Fin 16) (t : Fin 1024) : (k0_pay10 x rw' (ix2 e t) : EReal)
    = Ideal.logistic ((∑ c : Fin 1024, (rw' (ix2 e c) : EReal) * x (ix3 0 t c)) + (∑ c : Fin 1024, ((rw' (ix2 e c) : EReal) - rw' (ix2 e c)) * x (ix3 0 t c))
        + ∑ c : Fin 1024, (rw' (ix2 e c) : EReal) * ((x (ix3 0 t c) : EReal) - x (ix3 0 t c))) := by
  pointwise [k0_pay10, k0_pay7]
  simp [Ideal.logistic]

theorem pay11_apply (e : Fin 16) (t : Fin 1024) : (k0_pay11 x rw' rb (ix2 e t) : EReal) = k0_pay10 x rw' (ix2 e t) + rb (ix2 e 0) := by
  pointwise [k0_pay11]

theorem pay12_apply (e : Fin 16) (t : Fin 1024) : (k0_pay12 (F := Ideal) (ix2 e t) : EReal) = ((e.val : ℝ) : EReal) := by
  pointwise [k0_pay12]
  exact sitofp_small _ (by omega)

theorem pay13_apply (e : Fin 16) (t : Fin 1024) : (k0_pay13 (F := Ideal) (iota .tc S16x1024 32 [0] iota_S16x1024_d0_w32) 2#32 (ix2 e t) : EReal) = (((grp e).val : ℝ) : EReal) := by
  pointwise [k0_pay13]
  have : ∀ e : Fin 16, IntOp.shrsi ArithUnit.vector (BitVec.ofNat 32 e.val) 2#32 = BitVec.ofNat 32 (e.val / 4) := by decide
  rw [this e]
  exact sitofp_small _ (by omega)

section
variable (v : FVec Ideal S16x1024 .f32) (t : Fin 1024)
theorem pay14_apply : (k0_pay14 v (ix2 0 t) : EReal) = gscore (fun e => v (ix2 e t)) 0 := by
  pointwise [k0_pay14]
  rfl
theorem pay15_apply : (k0_pay15 v (ix2 0 t) : EReal) = gscore (fun e => v (ix2 e t)) 1 := by
  pointwise [k0_pay15]
  rfl
theorem pay16_apply : (k0_pay16 v (ix2 0 t) : EReal) = gscore (fun e => v (ix2 e t)) 2 := by
  pointwise [k0_pay16]
  rfl
theorem pay22_apply (a b c : FVec Ideal S1x1024 .f32) : (k0_pay22 a b c (k0_pay18 v) (k0_pay19 v) (k0_pay20 v) (k0_pay21 v) (ix2 0 t) : EReal)
    = if (a (ix2 0 t) : EReal) = max (max (max (a (ix2 0 t)) (b (ix2 0 t))) (c (ix2 0 t))) (gscore (fun e => v (ix2 e t)) 3) then 0
      else if (b (ix2 0 t) : EReal) = max (max (max (a (ix2 0 t)) (b (ix2 0 t))) (c (ix2 0 t))) (gscore (fun e => v (ix2 e t)) 3) then 1
      else if (c (ix2 0 t) : EReal) = max (max (max (a (ix2 0 t)) (b (ix2 0 t))) (c (ix2 0 t))) (gscore (fun e => v (ix2 e t)) 3) then ((2 : ℝ) : EReal)
      else if gscore (fun e => v (ix2 e t)) 3 = max (max (max (a (ix2 0 t)) (b (ix2 0 t))) (c (ix2 0 t))) (gscore (fun e => v (ix2 e t)) 3) then ((3 : ℝ) : EReal)
      else ((4 : ℝ) : EReal) := by
  pointwise [k0_pay22, k0_pay18, k0_pay19, k0_pay20, k0_pay21, k0_pay17]
  rw [two_f, three_f, four_f]
  rfl
end

section
variable (v a b : FVec Ideal S16x1024 .f32) (p q r s u w z : FVec Ideal S1x1024 .f32) (j : Fin 16) (t : Fin 1024)
theorem pay23_apply : (k0_pay23 v a p q r s u w z (ix2 j t) : EReal)
    = if (a (ix2 j t) : EReal) = k0_pay22 p q r s u w z (ix2 0 t) then v (ix2 j t) else ⊥ := by
  pointwise [k0_pay23]
  rw [bot_f]
theorem pay24_apply : (k0_pay24 v a b p q r s u w z (ix2 0 t) : EReal)
    = Finset.univ.fold min ⊤ (fun x : Fin 16 => if (k0_pay23 v b p q r s u w z (ix2 x t) : EReal)
        = Finset.univ.fold max ⊥ (fun x : Fin 16 => (k0_pay23 v b p q r s u w z (ix2 x t) : EReal)) then (a (ix2 x t) : EReal) else ((16 : ℝ) : EReal)) := by
  pointwise [k0_pay24]
  simp only [bot_f, top_f, sixteen_f]
theorem pay25_apply : (k0_pay25 v a b p q r s u w z (ix2 0 t) : EReal)
    = Finset.univ.fold min ⊤ (fun x : Fin 16 => if (if (a (ix2 x t) : EReal) = k0_pay24 v a b p q r s u w z (ix2 0 t) then ⊥ else (k0_pay23 v b p q r s u w z (ix2 x t) : EReal))
        = Finset.univ.fold max ⊥ (fun x : Fin 16 => if (a (ix2 x t) : EReal) = k0_pay24 v a b p q r s u w z (ix2 0 t) then ⊥ else (k0_pay23 v b p q r s u w z (ix2 x t) : EReal))
        then (a (ix2 x t) : EReal) else ((16 : ℝ) : EReal)) := by
  pointwise [k0_pay25]
  simp only [bot_f, top_f, sixteen_f]
theorem pay28_apply (sc : FVec Ideal S16x1024 .f32) (p' q' : FVec Ideal S1x1024 .f32) : (k0_pay28 sc a p' q' (k0_pay26 v a b p q r s u w z) k0_pay27 (ix2 j t) : EReal)
    = (if (a (ix2 j t) : EReal) = p' (ix2 0 t) then
        Ideal.div (∑ x : Fin 16, if (a (ix2 x t) : EReal) = k0_pay24 v a b p q r s u w z (ix2 0 t) then (sc (ix2 x t) : EReal) else 0)
          ((∑ x : Fin 16, if (a (ix2 x t) : EReal) = k0_pay24 v a b p q r s u w z (ix2 0 t) then (sc (ix2 x t) : EReal) else 0) +
            ∑ x : Fin 16, if (a (ix2 x t) : EReal) = q' (ix2 0 t) then (sc (ix2 x t) : EReal) else 0)
      else 0) +
      if (a (ix2 j t) : EReal) = q' (ix2 0 t) then
        Ideal.div (∑ x : Fin 16, if (a (ix2 x t) : EReal) = q' (ix2 0 t) then (sc (ix2 x t) : EReal) else 0)
          ((∑ x : Fin 16, if (a (ix2 x t) : EReal) = k0_pay24 v a b p q r s u w z (ix2 0 t) then (sc (ix2 x t) : EReal) else 0) +
            ∑ x : Fin 16, if (a (ix2 x t) : EReal) = q' (ix2 0 t) then (sc (ix2 x t) : EReal) else 0)
      else 0 := by
  pointwise [k0_pay28, k0_pay26, k0_pay27]
end

theorem nat_eq (a b : ℕ) : ((((a : ℕ) : ℝ) : EReal) = (((b : ℕ) : ℝ) : EReal)) ↔ a = b := by rw [EReal.coe_eq_coe_iff, Nat.cast_inj]
theorem idx_eq {n : ℕ} (a b : Fin n) : ((((a.val : ℕ) : ℝ) : EReal) = (((b.val : ℕ) : ℝ) : EReal)) ↔ a = b := by rw [nat_eq, Fin.val_inj]

/-! ### With the token's routing given -/

section
variable (t : Fin 1024) {g : Fin 4} {i k : Fin 16}
  (hv : ∀ e, (bsF x rw' rb (ix2 e t) : EReal) = biased x rw' rb t e) (hb : ∀ e, ⊥ < biased x rw' rb t e)
  (h : Routed (biased x rw' rb t) g i k)
include hv h

theorem bgF_apply : (bgF x rw' rb (ix2 0 t) : EReal) = ((g.val : ℝ) : EReal) := by
  unfold bgF
  rw [pay22_apply, pay14_apply, pay15_apply, pay16_apply]
  simp only [hv]
  exact first_group _ h.top_g

theorem masked_apply (e : Fin 16) :
    (k0_pay23 (bsF x rw' rb) (k0_pay13 (iota .tc S16x1024 32 [0] iota_S16x1024_d0_w32) 2#32) (k0_pay14 (bsF x rw' rb)) (k0_pay15 (bsF x rw' rb)) (k0_pay16 (bsF x rw' rb)) (k0_pay18 (bsF x rw' rb)) (k0_pay19 (bsF x rw' rb)) (k0_pay20 (bsF x rw' rb)) (k0_pay21 (bsF x rw' rb)) (ix2 e t) : EReal)
      = masked (biased x rw' rb t) g e := by
  have hg := bgF_apply x rw' rb t hv h
  unfold bgF at hg
  rw [pay23_apply, hg, pay13_apply]
  simp only [idx_eq, hv, masked]

theorem i1F_apply : (i1F x rw' rb (ix2 0 t) : EReal) = ((i.val : ℝ) : EReal) := by
  unfold i1F
  rw [pay24_apply]
  simp only [masked_apply x rw' rb t hv h, pay12_apply]
  rw [fold_max_top _ h.top_i]
  exact fold_min_top _ h.top_i

include hb in
theorem i2F_apply : (i2F x rw' rb (ix2 0 t) : EReal) = ((k.val : ℝ) : EReal) := by
  have h1 := i1F_apply x rw' rb t hv h
  unfold i1F at h1
  unfold i2F
  rw [pay25_apply]
  simp only [h1, masked_apply x rw' rb t hv h, pay12_apply, idx_eq]
  rw [fold_max_top _ (h.top_k hb)]
  exact fold_min_top _ (h.top_k hb)

include hb in
theorem cwF_apply (hs : ∀ e, (k0_pay10 x rw' (ix2 e t) : EReal) = score x rw' t e) (e : Fin 16) :
    (cwF x rw' rb (ix2 e t) : EReal) = wt (score x rw' t) i k e := by
  have h1 := i1F_apply x rw' rb t hv h
  have h2 := i2F_apply x rw' rb t hv hb h
  unfold cwF e1F
  rw [pay28_apply]
  unfold i1F at h1
  simp only [h2, i1F, h1, pay12_apply, idx_eq, hs, Finset.sum_ite_eq', Finset.sum_ite_eq, Finset.mem_univ, if_true, wt]
end

/-! ### What the scratch holds -/

/-- Whatever the token, some group is taken. -/
theorem bgF_some (t : Fin 1024) : ∃ g : Fin 4, (bgF x rw' rb (ix2 0 t) : EReal) = ((g.val : ℝ) : EReal) := by
  obtain ⟨g, hg⟩ := exists_top (gscore fun e => (bsF x rw' rb (ix2 e t) : EReal))
  refine ⟨g, ?_⟩
  unfold bgF
  rw [pay22_apply, pay14_apply, pay15_apply, pay16_apply]
  exact first_group _ hg

theorem grpF_apply (s : Fin 8) (t : Fin 1024) : (grpF x rw' rb (ix2 s t) : EReal) = bgF x rw' rb (ix2 0 t) := by
  pointwise [grpF, k0_pay56]

section
variable (cw : FVec Ideal S16x1024 .f32) (j : Fin 4) (t : Fin 1024)
theorem pay54_apply : k0_pay54 cw (ix3 0 j t) = cw (ix2 (ex 3 j) t) := by pointwise [k0_pay54, ex]
theorem pay52_apply : k0_pay52 cw (ix3 0 j t) = cw (ix2 (ex 2 j) t) := by pointwise [k0_pay52, ex]
theorem pay31_apply : k0_pay31 (k0_pay10 x rw') k0_pay12 (i1F x rw' rb) (i2F x rw' rb) (e1F x rw' rb) k0_pay27 (ix3 0 j t) = cwF x rw' rb (ix2 (ex 1 j) t) := by
  unfold cwF k0_pay31
  generalize k0_pay28 (k0_pay10 x rw') k0_pay12 (i1F x rw' rb) (i2F x rw' rb) (e1F x rw' rb) k0_pay27 = cw
  pointwise [ex]
theorem pay29_apply : k0_pay29 (k0_pay10 x rw') k0_pay12 (i1F x rw' rb) (i2F x rw' rb) (e1F x rw' rb) k0_pay27 (ix3 0 j t) = cwF x rw' rb (ix2 (ex 0 j) t) := by
  unfold cwF k0_pay29
  generalize k0_pay28 (k0_pay10 x rw') k0_pay12 (i1F x rw' rb) (i2F x rw' rb) (e1F x rw' rb) k0_pay27 = cw
  pointwise [ex]
theorem pay55_apply : (k0_pay55 (F := Ideal) (ix3 0 j t) : EReal) = 0 := by pointwise [k0_pay55]
theorem pay53_apply : (k0_pay53 (F := Ideal) (ix3 0 j t) : EReal) = 0 := by pointwise [k0_pay53]
theorem pay51_apply : (k0_pay51 (F := Ideal) k0_pay32 (ix3 0 j t) : EReal) = 0 := by pointwise [k0_pay51, k0_pay32]
theorem pay30_apply : (k0_pay30 (F := Ideal) (ix3 0 j t) : EReal) = 0 := by pointwise [k0_pay30]
end

/-- A piece of the layout: rows `b` to `b + 3` of group `G`. -/
theorem tile_of (G : Fin 4) (b : ℕ) (w : S1x4x1024.Idx → EReal) (g : Fin 4) (j : Fin 8) (t : Fin 1024) (v : EReal)
    (h : ∀ j' : Fin 4, g = G → j.val = b + j'.val → w (ix3 0 j' t) = v) :
    View.TileAt (Val := Elt Ideal) (S := S4x8x1024) (e := .f32) (ix3 g j t) ![G.val, b, 0] S1x4x1024.size w v := by
  intro x hx
  have h0 := hx 0
  have h1 := hx 1
  have h2 := hx 2
  have e : x = ix3 0 (x 1) t := by
    funext a
    fin_cases a
    · exact Subsingleton.elim (α := Fin 1) _ _
    · rfl
    · apply Fin.ext; simp at h2; exact h2.symm
  rw [e]
  refine h (x 1) ?_ h1
  have : (x 0).val < 1 := (x 0).isLt
  apply Fin.ext
  simp at h0
  have e0 : (x 0).val = 0 := by omega
  exact h0.trans (by simp [e0])

/-- The combine weights' layout: each group's four experts, then four zero rows. -/
theorem combF_apply (g : Fin 4) (j : Fin 8) (t : Fin 1024) :
    (combF x rw' rb (ix3 g j t) : EReal) = if h : j.val < 4 then (cwF x rw' rb (ix2 (ex g ⟨j.val, h⟩) t) : EReal) else 0 := by
  unfold combF
  refine View.canon_eq_of_allAt _ _ _ (View.cover_of_tiled_head _ _ _ (by rfl) _) ?_
  unfold combL
  refine View.allAt_cons_unit _ _ _ _ _ (tile_of 3 4 _ g j t _ fun j' hg hj => ?_) ?_
  · rw [dif_neg (by omega)]; exact pay55_apply j' t
  refine View.allAt_cons_unit _ _ _ _ _ (tile_of 3 0 _ g j t _ fun j' hg hj => ?_) ?_
  · subst hg; rw [dif_pos (by omega)]; rw [show (⟨j.val, by omega⟩ : Fin 4) = j' from Fin.ext (by simpa using hj)]; exact pay54_apply _ j' t
  refine View.allAt_cons_unit _ _ _ _ _ (tile_of 2 4 _ g j t _ fun j' hg hj => ?_) ?_
  · rw [dif_neg (by omega)]; exact pay53_apply j' t
  refine View.allAt_cons_unit _ _ _ _ _ (tile_of 2 0 _ g j t _ fun j' hg hj => ?_) ?_
  · subst hg; rw [dif_pos (by omega)]; rw [show (⟨j.val, by omega⟩ : Fin 4) = j' from Fin.ext (by simpa using hj)]; exact pay52_apply _ j' t
  refine View.allAt_cons_unit _ _ _ _ _ (tile_of 1 4 _ g j t _ fun j' hg hj => ?_) ?_
  · rw [dif_neg (by omega)]; exact pay51_apply j' t
  refine View.allAt_cons_unit _ _ _ _ _ (tile_of 1 0 _ g j t _ fun j' hg hj => ?_) ?_
  · subst hg; rw [dif_pos (by omega)]; rw [show (⟨j.val, by omega⟩ : Fin 4) = j' from Fin.ext (by simpa using hj)]; exact pay31_apply x rw' rb j' t
  refine View.allAt_cons_unit _ _ _ _ _ (tile_of 0 4 _ g j t _ fun j' hg hj => ?_) ?_
  · rw [dif_neg (by omega)]; exact pay30_apply j' t
  refine View.allAt_cons_unit _ _ _ _ _ (tile_of 0 0 _ g j t _ fun j' hg hj => ?_) ?_
  · subst hg; rw [dif_pos (by omega)]; rw [show (⟨j.val, by omega⟩ : Fin 4) = j' from Fin.ext (by simpa using hj)]; exact pay29_apply x rw' rb j' t
  exact View.allAt_nil _ _

theorem combRow_apply (c : grid0.Coords) (comb : Vec Ideal S4x8x1024 .f32) (j : Fin 8) (t : Fin 1024) :
    combRow c comb (ix3 0 j t) = comb (ix3 ⟨(c 2).val, (c 2).isLt⟩ j t) := by
  unfold combRow
  refine View.ld_unit_apply_of _ _ _ _ _ _ fun a => ?_
  have h2 : (c 2).val < 4 := (c 2).isLt
  fin_cases a
  · simp [k0_off1, Scalar.indexCast]; omega
  · simp [k0_off1]
  · simp [k0_off1]

/-! ### Finite operands -/

section
variable {t : Fin 1024} (hx : ∀ c, ∃ r : ℝ, (x (ix3 0 t c) : EReal) = (r : EReal)) (hw : ∀ e c, ∃ r : ℝ, (rw' (ix2 e c) : EReal) = (r : EReal))
  (hbb : ∀ e, (⊥ : EReal) < rb (ix2 e 0))

theorem sub_self_real {a : EReal} (h : ∃ r : ℝ, a = (r : EReal)) : a - a = 0 := by
  obtain ⟨r, rfl⟩ := h; rw [← EReal.coe_sub, sub_self, EReal.coe_zero]

include hx hw
theorem score_pay (e : Fin 16) : (k0_pay10 x rw' (ix2 e t) : EReal) = score x rw' t e := by
  rw [pay10_apply]
  simp only [fun c => sub_self_real (hw e c), fun c => sub_self_real (hx c), zero_mul, mul_zero, Finset.sum_const_zero, add_zero]
  rfl

theorem score_real (e : Fin 16) : ∃ r : ℝ, 0 < r ∧ score x rw' t e = (r : EReal) := by
  choose X hX using hx
  choose W hW using hw
  have : (∑ c : Fin 1024, (rw' (ix2 e c) : EReal) * x (ix3 0 t c)) = ((∑ c : Fin 1024, W e c * X c : ℝ) : EReal) := by
    rw [Online.coe_sum]
    exact Finset.sum_congr rfl fun c _ => by rw [hW, hX, EReal.coe_mul]
  refine ⟨(1 + Real.exp (-(∑ c : Fin 1024, W e c * X c)))⁻¹, by positivity, ?_⟩
  unfold score
  rw [this, Ideal.logistic_coe]

theorem wt_real (i k e : Fin 16) : ∃ r : ℝ, wt (score x rw' t) i k e = (r : EReal) := by
  obtain ⟨a, ha, hi⟩ := score_real x rw' hx hw i
  obtain ⟨b, hb, hk⟩ := score_real x rw' hx hw k
  unfold wt
  rw [hi, hk, ← EReal.coe_add, Ideal.div_coe (by positivity), Ideal.div_coe (by positivity), ← EReal.coe_mul, ← EReal.coe_mul, ← EReal.coe_zero, real_ite, real_ite, ← EReal.coe_add]
  exact ⟨_, rfl⟩

include hbb
theorem biased_bot (e : Fin 16) : ⊥ < biased x rw' rb t e := by
  obtain ⟨a, _, hs⟩ := score_real x rw' hx hw e
  unfold biased
  rw [hs]
  exact bot_lt_iff_ne_bot.2 fun h => (EReal.add_eq_bot_iff.1 h).elim (EReal.coe_ne_bot _) (hbb e).ne'

omit hbb in
theorem biased_pay (e : Fin 16) : (bsF x rw' rb (ix2 e t) : EReal) = biased x rw' rb t e := by
  unfold bsF
  rw [pay11_apply, score_pay x rw' hx hw]
  rfl

/-- The scratch after a tile's first steps, for a finite token's routing given: the best group, -/
theorem grpF_routed {gr : Fin 4} {i k : Fin 16} (h : Routed (biased x rw' rb t) gr i k) (s : Fin 8) :
    (grpF x rw' rb (ix2 s t) : EReal) = ((gr.val : ℝ) : EReal) := by
  rw [grpF_apply]
  exact bgF_apply x rw' rb t (biased_pay x rw' rb hx hw) h

/-- and the combine weights. -/
theorem combF_routed {gr : Fin 4} {i k : Fin 16} (h : Routed (biased x rw' rb t) gr i k) (g : Fin 4) (j : Fin 8) :
    (combF x rw' rb (ix3 g j t) : EReal) = if h : j.val < 4 then wt (score x rw' t) i k (ex g ⟨j.val, h⟩) else 0 := by
  rw [combF_apply]
  split
  · exact cwF_apply x rw' rb t (biased_pay x rw' rb hx hw) (biased_bot x rw' rb hx hw hbb) h (score_pay x rw' hx hw) _
  · rfl
end
end

end Cert.Kernel2Ideal.Val
-- ==== Proof.MoeWant.lean ====
/-
  The grouped mixture of experts with its residual and layer norm, element by element, over the extended reals.
-/
module

public import proofs.«01_k».proof.Proof.MoeSpec
public import proofs.«01_k».proof.Proof.Online
public import Idealize.ShloMosaic.Lib.Pointwise

@[expose] public section

set_option maxRecDepth 16384

noncomputable section

namespace Cert.Route

open Idealize.ShloMosaic Idealize.ShloMosaic.TcCoe Idealize.ShloMosaic.Tactic

abbrev XArr : Type := (⟨3, ![2, 16384, 1024]⟩ : Shape).Idx → EReal
abbrev RArr : Type := (⟨2, ![1024, 16]⟩ : Shape).Idx → EReal
abbrev BArr : Type := (⟨1, ![16]⟩ : Shape).Idx → EReal
abbrev WArr : Type := (⟨3, ![16, 1024, 512]⟩ : Shape).Idx → EReal
abbrev DArr : Type := (⟨3, ![16, 512, 1024]⟩ : Shape).Idx → EReal
abbrev NArr : Type := (⟨1, ![1024]⟩ : Shape).Idx → EReal

/-- Every element is a real. -/
def Finite {s : Shape} (a : s.Idx → EReal) : Prop := ∀ i, ∃ r : ℝ, a i = (r : EReal)

variable (x : XArr) (rw' : RArr) (rb : BArr) (wg wu : WArr) (wd : DArr) (lg lb : NArr) (b : Fin 2) (n : Fin 16384)

/-- An expert's score of a token, -/
def tscore (e : Fin 16) : EReal := Ideal.logistic (∑ c : Fin 1024, x (ix3 b n c) * rw' (ix2 c e))
/-- and with its bias. -/
def tbiased (e : Fin 16) : EReal := tscore x rw' b n e + rb (ix1 e)

/-- The token's group and its two experts. -/
def gOf : Fin 4 := (exists_routed (tbiased x rw' rb b n)).choose
def iOf : Fin 16 := (exists_routed (tbiased x rw' rb b n)).choose_spec.choose
def kOf : Fin 16 := (exists_routed (tbiased x rw' rb b n)).choose_spec.choose_spec.choose
theorem routed : Routed (tbiased x rw' rb b n) (gOf x rw' rb b n) (iOf x rw' rb b n) (kOf x rw' rb b n) :=
  (exists_routed (tbiased x rw' rb b n)).choose_spec.choose_spec.choose_spec

/-- An expert's weight for a token. -/
def tweight (e : Fin 16) : EReal := wt (tscore x rw' b n) (iOf x rw' rb b n) (kOf x rw' rb b n) e

def swish (z : EReal) : EReal := z * Ideal.logistic z
/-- An expert's output for a token. -/
def ffn (e : Fin 16) (d : Fin 1024) : EReal :=
  ∑ f : Fin 512, swish (∑ c : Fin 1024, x (ix3 b n c) * wg (ix3 e c f)) * (∑ c : Fin 1024, x (ix3 b n c) * wu (ix3 e c f)) * wd (ix3 e f d)

/-- The experts' outputs, weighted. -/
def moe (d : Fin 1024) : EReal := ∑ e : Fin 16, tweight x rw' rb b n e * ffn x wg wu wd b n e d

/-- A row's mean, -/
def mean (h : Fin 1024 → EReal) : EReal := Ideal.div (∑ d : Fin 1024, h d) (Ideal.ofBits .f32 0x44800000#32)
/-- and the row's layer norm. -/
def norm (h g b : Fin 1024 → EReal) (d : Fin 1024) : EReal :=
  (h d - mean h) * Ideal.rsqrt (mean (fun d => (h d - mean h) * (h d - mean h)) + Ideal.ofBits .f32 0x3727C5AC#32) * g d + b d

/-- The layer's element. -/
def layer (d : Fin 1024) : EReal :=
  norm (fun d => Ideal.ofBits .f32 0x3FB504F3#32 * x (ix3 b n d) + moe x rw' rb wg wu wd b n d) (fun d => lg (ix1 d)) (fun d => lb (ix1 d)) d

/-- A sum over the experts that vanishes off a group. -/
theorem sum_group (F : Fin 16 → EReal) (g : Fin 4) (h : ∀ e, grp e ≠ g → F e = 0) :
    ∑ e : Fin 16, F e = F (ex g 0) + F (ex g 1) + F (ex g 2) + F (ex g 3) := by
  have e1 : ∑ e : Fin 16, F e = ∑ e ∈ (Finset.univ.map ⟨ex g, fun a b hab => by
      have := congrArg Fin.val hab; simp [ex] at this; exact Fin.ext this⟩ : Finset (Fin 16)), F e := by
    symm
    refine Finset.sum_subset (Finset.subset_univ _) fun e _ he => h e fun hg => he ?_
    simp only [Finset.mem_map, Finset.mem_univ, true_and, Function.Embedding.coeFn_mk]
    refine ⟨⟨e.val % 4, by omega⟩, Fin.ext ?_⟩
    have := congrArg Fin.val hg
    simp only [grp] at this
    show g.val * 4 + e.val % 4 = e.val
    omega
  rw [e1, Finset.sum_map, Fin.sum_univ_four]
  rfl

/-! ### A row with an infinite entry -/
section
variable (h g b : Fin 1024 → EReal)
theorem sum_bot (k : Fin 1024) (hk : h k = ⊥) : ∑ d : Fin 1024, h d = ⊥ := by
  rw [← Finset.add_sum_erase _ _ (Finset.mem_univ k), hk, EReal.bot_add]
theorem sum_top (k : Fin 1024) (hk : h k = ⊤) (hb : ∀ d, h d ≠ ⊥) : ∑ d : Fin 1024, h d = ⊤ := by
  rw [← Finset.add_sum_erase _ _ (Finset.mem_univ k), hk]
  refine EReal.top_add_of_ne_bot (Finset.sum_induction h (· ≠ ⊥) (fun a b ha hb e => ?_) EReal.zero_ne_bot fun d _ => hb d)
  exact (EReal.add_eq_bot_iff.1 e).elim ha hb
theorem f1024 : Ideal.ofBits .f32 0x44800000#32 = ((1024 : ℝ) : EReal) := by
  have h1 : ∀ a b : ℕ, a >>> b = a / 2 ^ b := Nat.shiftRight_eq_div_pow
  unfold Ideal.ofBits; dsimp only; norm_num [Ideal.ieee, h1, BitVec.extractLsb', BitVec.toNat_ofNat]
theorem mean_bot (hs : ∑ d : Fin 1024, h d = ⊥) : mean h = ⊥ := by
  unfold mean
  rw [hs, f1024, Ideal.div_coe (by norm_num), EReal.bot_mul_coe_of_pos (by norm_num)]
theorem mean_top (hs : ∑ d : Fin 1024, h d = ⊤) : mean h = ⊤ := by
  unfold mean
  rw [hs, f1024, Ideal.div_coe (by norm_num), EReal.top_mul_coe_of_pos (by norm_num)]
theorem eps_real : ∃ r : ℝ, Ideal.ofBits .f32 0x3727C5AC#32 = (r : EReal) := by
  have h1 : ∀ a b : ℕ, a >>> b = a / 2 ^ b := Nat.shiftRight_eq_div_pow
  refine ⟨10995116 / 2 ^ 40, ?_⟩
  unfold Ideal.ofBits; dsimp only; norm_num [Ideal.ieee, h1, BitVec.extractLsb', BitVec.toNat_ofNat]
theorem alpha_pos : 0 < Ideal.ofBits .f32 0x3FB504F3#32 := by
  have h1 : ∀ a b : ℕ, a >>> b = a / 2 ^ b := Nat.shiftRight_eq_div_pow
  have e : Ideal.ofBits .f32 0x3FB504F3#32 = ((11863283 / 2 ^ 23 : ℝ) : EReal) := by
    unfold Ideal.ofBits; dsimp only; norm_num [Ideal.ieee, h1, BitVec.extractLsb', BitVec.toNat_ofNat]
  rw [e]
  exact EReal.coe_pos.2 (by norm_num)
/-- The norm of a row with an infinite entry is its shift: every deviation is infinite, so that the variance is, and
    its inverse root nothing. -/
theorem norm_inf (d k : Fin 1024) (hk : h k = ⊤ ∨ h k = ⊥) : norm h g b d = b d := by
  have hd : ∀ d, h d - mean h = ⊤ ∨ h d - mean h = ⊥ := by
    by_cases hb : ∃ d, h d = ⊥
    · obtain ⟨q, hq⟩ := hb
      intro d
      rw [mean_bot h (sum_bot h q hq), sub_eq_add_neg, EReal.neg_bot]
      by_cases e : h d = ⊥
      · exact Or.inr (by rw [e, EReal.bot_add])
      · exact Or.inl (EReal.add_top_of_ne_bot e)
    · have hb' : ∀ d, h d ≠ ⊥ := fun d e => hb ⟨d, e⟩
      intro d
      rw [mean_top h (sum_top h k (hk.resolve_right (hb' k)) hb'), sub_eq_add_neg, EReal.neg_top]
      exact Or.inr (EReal.add_bot _)
  have hv : mean (fun d => (h d - mean h) * (h d - mean h)) = ⊤ := by
    have hsq : ∀ d, (h d - mean h) * (h d - mean h) = ⊤ := fun d => by
      rcases hd d with e | e <;> rw [e]
      · exact EReal.top_mul_top
      · exact EReal.bot_mul_bot
    exact mean_top _ (sum_top _ 0 (hsq 0) fun d => by rw [hsq]; exact (bot_ne_top (α := EReal)).symm)
  obtain ⟨r, hr⟩ := eps_real
  unfold norm
  rw [hv, hr, EReal.top_add_coe, Ideal.rsqrt_top, mul_zero, zero_mul, zero_add]
end

/-! ### Finite operands -/
section
variable {x rw' rb} (hx : ∀ c : Fin 1024, ∃ r : ℝ, x (ix3 b n c) = (r : EReal)) (hw : Finite rw') (hb : ∀ e : Fin 16, ⊥ < rb (ix1 e))
include hx hw
theorem tscore_real (e : Fin 16) : ∃ r : ℝ, 0 < r ∧ tscore x rw' b n e = (r : EReal) := by
  choose X hX using hx
  choose W hW using hw
  have : (∑ c : Fin 1024, x (ix3 b n c) * rw' (ix2 c e)) = ((∑ c : Fin 1024, X c * W (ix2 c e) : ℝ) : EReal) := by
    rw [Online.coe_sum]
    exact Finset.sum_congr rfl fun c _ => by rw [hW, hX, EReal.coe_mul]
  refine ⟨(1 + Real.exp (-(∑ c : Fin 1024, X c * W (ix2 c e))))⁻¹, by positivity, ?_⟩
  unfold tscore
  rw [this, Ideal.logistic_coe]
include hb
theorem tbiased_bot (e : Fin 16) : ⊥ < tbiased x rw' rb b n e := by
  obtain ⟨a, _, hs⟩ := tscore_real b n hx hw e
  unfold tbiased
  rw [hs]
  exact bot_lt_iff_ne_bot.2 fun h => (EReal.add_eq_bot_iff.1 h).elim (EReal.coe_ne_bot _) (hb e).ne'

/-- The experts of other groups weigh nothing, -/
theorem tweight_zero (e : Fin 16) (h : grp e ≠ gOf x rw' rb b n) : tweight x rw' rb b n e = 0 := by
  have r := routed x rw' rb b n
  have hi := r.grp_i (tbiased_bot b n hx hw hb)
  have hk := r.grp_k (tbiased_bot b n hx hw hb)
  unfold tweight wt
  rw [if_neg (fun he => h (by rw [he]; exact hi)), if_neg (fun he => h (by rw [he]; exact hk)), add_zero]

/-- so the sum runs over the group's four. -/
theorem moe_eq (wg wu : WArr) (wd : DArr) (d : Fin 1024) : moe x rw' rb wg wu wd b n d
    = tweight x rw' rb b n (ex (gOf x rw' rb b n) 0) * ffn x wg wu wd b n (ex (gOf x rw' rb b n) 0) d
      + tweight x rw' rb b n (ex (gOf x rw' rb b n) 1) * ffn x wg wu wd b n (ex (gOf x rw' rb b n) 1) d
      + tweight x rw' rb b n (ex (gOf x rw' rb b n) 2) * ffn x wg wu wd b n (ex (gOf x rw' rb b n) 2) d
      + tweight x rw' rb b n (ex (gOf x rw' rb b n) 3) * ffn x wg wu wd b n (ex (gOf x rw' rb b n) 3) d := by
  unfold moe
  have hz : ∀ e, grp e ≠ gOf x rw' rb b n → tweight x rw' rb b n e * ffn x wg wu wd b n e d = 0 := fun e he => by
    rw [tweight_zero b n hx hw hb e he, zero_mul]
  exact sum_group (fun e => tweight x rw' rb b n e * ffn x wg wu wd b n e d) _ hz
end
end Cert.Route
-- ==== Proof.MoeTrip.lean ====
/-
  What the loop over a group's sub-blocks leaves in the tile.
-/
module

public import proofs.«01_k».proof.Proof.MoeStep
public import Idealize.ShloMosaic.Lib.Pipeline.ReadBack

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable {sig : RefSig} {κ : Kind} {sp : Space} {sh : Shape} {e : EltTy}

/-- A store of the whole buffer is what is read back, -/
theorem rd_whole (v : View sig κ sp sh e) (f : v.ty.Contents (Elt F)) (o : Fin sh.rank → ℕ) (ho : o = fun _ => 0) (p : ∀ a, o a + sh.size a ≤ sh.size a)
    (w : (Rect.unit (s := sh) o sh.size p).shape.Idx → Elt F e) (L : List (View.Piece (Elt F) sh e)) :
    v.read (Elt F) (v.writes (Elt F) f (⟨Rect.unit (s := sh) o sh.size p, w⟩ :: L)) = w := by
  subst ho
  funext j
  have h := View.read_writes_cons_emb v f (Rect.unit (s := sh) (fun _ => 0) sh.size p) w L j
  have e : (Rect.unit (s := sh) (fun _ => 0) sh.size p).emb j = j := by
    funext a; apply Fin.ext; simp
  rw [e] at h; exact h

/-- and a load of the whole buffer reads it. -/
theorem ld_whole (v : View sig κ sp sh e) (f : v.ty.Contents (Elt F)) (o : Fin sh.rank → ℕ) (ho : o = fun _ => 0) (p : ∀ a, o a + sh.size a ≤ sh.size a) :
    v.readAt (Elt F) (Rect.unit (s := sh) o sh.size p).toLoadRect f = v.read (Elt F) f := by
  subst ho
  rw [View.readAt_eq_ld]
  funext j
  show v.read (Elt F) f _ = _
  congr 1
  funext a; apply Fin.ext; simp
end

theorem z2 : (![0, 0] : Fin 2 → ℕ) = fun _ => 0 := by decide
theorem z3 : (![0, 0, 0] : Fin 3 → ℕ) = fun _ => 0 := by decide

theorem rdG {κ : Kind} {sp : Space} (b : Memref sig κ sp S1x4x1024x512 .bf16) (hb : b.IsWhole) (x : Vec F S1x4x1024x512 .bf16) (j : Fin 4)
    {o : Fin 4 → ℕ} (e : o = ![0, j.val, 0, 0]) (p : ∀ a, o a + S1x1x1024x512.size a ≤ S1x4x1024x512.size a) :
    b.view.readAt (Elt F) (Rect.unit (s := S1x4x1024x512) o S1x1x1024x512.size p).toLoadRect (hb.unread x) = wgb x j := by
  subst e; rw [View.readAt_eq_ld, hb.read_unread]; rfl
theorem rdD {κ : Kind} {sp : Space} (b : Memref sig κ sp S1x4x512x1024 .bf16) (hb : b.IsWhole) (x : Vec F S1x4x512x1024 .bf16) (j : Fin 4)
    {o : Fin 4 → ℕ} (e : o = ![0, j.val, 0, 0]) (p : ∀ a, o a + S1x1x512x1024.size a ≤ S1x4x512x1024.size a) :
    b.view.readAt (Elt F) (Rect.unit (s := S1x4x512x1024) o S1x1x512x1024.size p).toLoadRect (hb.unread x) = wdb x j := by
  subst e; rw [View.readAt_eq_ld, hb.read_unread]; rfl

section
variable (c : Dev nD) (i : grid0.Coords) (arg3 : Memref sig .tc .vmem S16x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S16x1 .f32) (harg6 : arg6.IsWhole) (arg7 : Memref sig .tc .vmem S1x4x1024x512 .bf16) (harg7 : arg7.IsWhole) (arg8 : Memref sig .tc .vmem S1x4x1024x512 .bf16) (harg8 : arg8.IsWhole) (arg9 : Memref sig .tc .vmem S1x4x512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S4x8x1024 .f32) (harg14 : arg14.IsWhole) (arg15 : Memref sig .tc .vmem S8x1024 .f32) (harg15 : arg15.IsWhole) (arg16 : Memref sig .tc .vmem S1024x1024 .f32) (harg16 : arg16.IsWhole)
    (v20 : BitVec 32) (h : k0_chk1 v20) (v35 : FVec F S1024x1 .f32) (v36 : FVec F S1x1024 .f32) (v38 : Vec F S1x8x1024 .f32) (v44 : Vec F S1024x1024 .bf16)
    (x7 : Vec F S1x4x1024x512 .bf16) (x8 : Vec F S1x4x1024x512 .bf16) (x9 : Vec F S1x4x512x1024 .bf16)

set_option maxHeartbeats 4000000 in
/-- One trip. -/
theorem trip_read (k : Fin (k0_t1_loop v20).trips) (f g : arg16.view.ty.Contents (Elt F)) :
    arg16.view.read (Elt F) (arg16.view.writes (Elt F) g (tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 (harg7.unread x7) (harg8.unread x8) (harg9.unread x9) k f))
      = trip v20 v35 v36 v38 v44 x7 x8 x9 k (arg16.view.read (Elt F) f) := by
  have g0 := rdG arg7 harg7 x7 0 rfl inb_S1x4x1024x512_S1x1x1024x512_0_0_0_0
  have g1 := rdG arg7 harg7 x7 1 rfl inb_S1x4x1024x512_S1x1x1024x512_0_1_0_0
  have g2 := rdG arg7 harg7 x7 2 rfl inb_S1x4x1024x512_S1x1x1024x512_0_2_0_0
  have g3 := rdG arg7 harg7 x7 3 rfl inb_S1x4x1024x512_S1x1x1024x512_0_3_0_0
  have u0 := rdG arg8 harg8 x8 0 rfl inb_S1x4x1024x512_S1x1x1024x512_0_0_0_0
  have u1 := rdG arg8 harg8 x8 1 rfl inb_S1x4x1024x512_S1x1x1024x512_0_1_0_0
  have u2 := rdG arg8 harg8 x8 2 rfl inb_S1x4x1024x512_S1x1x1024x512_0_2_0_0
  have u3 := rdG arg8 harg8 x8 3 rfl inb_S1x4x1024x512_S1x1x1024x512_0_3_0_0
  have d0 := rdD arg9 harg9 x9 0 rfl inb_S1x4x512x1024_S1x1x512x1024_0_0_0_0
  have d1 := rdD arg9 harg9 x9 1 rfl inb_S1x4x512x1024_S1x1x512x1024_0_1_0_0
  have d2 := rdD arg9 harg9 x9 2 rfl inb_S1x4x512x1024_S1x1x512x1024_0_2_0_0
  have d3 := rdD arg9 harg9 x9 3 rfl inb_S1x4x512x1024_S1x1x512x1024_0_3_0_0
  have a := ld_whole (F := F) arg16.view f ![0, 0] z2 inb_S1024x1024_S1024x1024_0_0
  unfold tripL_k0_t1 trip_k0_t1
  dsimp only
  refine (rd_whole _ _ _ z2 _ _ _).trans ?_
  unfold trip; rw [← g0, ← g1, ← g2, ← g3, ← u0, ← u1, ← u2, ← u3, ← d0, ← d1, ← d2, ← d3, ← a]; rfl

/-- The trips before the `n`-th. -/
theorem pb_read (G : arg16.view.ty.Contents (Elt F)) (n : ℕ) (hn : n ≤ (k0_t1_loop v20).trips) :
    arg16.view.read (Elt F) (arg16.view.writes (Elt F) G (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 (harg7.unread x7) (harg8.unread x8) (harg9.unread x9) G n))
      = accN v20 v35 v36 v38 v44 x7 x8 x9 (arg16.view.read (Elt F) G) n := by
  induction n with
  | zero => rw [pb_k0_t1.eq_1]; rfl
  | succ n ih =>
    have e := pb_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 (harg7.unread x7) (harg8.unread x8) (harg9.unread x9) G ⟨n, by omega⟩
    rw [e, View.writes_append, trip_read, ih (by omega), accN, dif_pos (by omega)]

/-- Both loops, the second of no trips. -/
theorem loops_read (v67 : BitVec 32) (G G2 : arg16.view.ty.Contents (Elt F)) (n m : ℕ) (hn : n = (k0_t1_loop v20).trips) (hm : m = (k0_t2_loop v20).trips) :
    arg16.view.read (Elt F) (arg16.view.writes (Elt F) G (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 v67 (harg7.unread x7) (harg8.unread x8) (harg9.unread x9) G2 m ++ pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 (harg7.unread x7) (harg8.unread x8) (harg9.unread x9) G n))
      = accN v20 v35 v36 v38 v44 x7 x8 x9 (arg16.view.read (Elt F) G) (k0_t1_loop v20).trips := by
  subst hn hm
  rw [trips2, pb_k0_t2.eq_1, List.nil_append, pb_read _ _ _ _ _ _ _ _ _ _ _ _ _ _ _ _ _ _ _ _ _ _ _ _ _ _ _ _ _ _ _ _ _ _ _ _ _ _ _ _ _ le_rfl]

/-- The loops' tile as the step's function of what was loaded, -/
theorem loops_acc (g : Vec F S8x1024 .f32) (t : Vec F S1024x1024 .bf16) (comb : Vec F S4x8x1024 .f32) (xb : Vec F S1024x1024 .bf16) (acc : Vec F S1024x1024 .f32)
    (e20 : v20 = Scalar.fptosi 32 (k0_pay60 i g t)) (e35 : v35 = k0_pay61 i g t) (e36 : v36 = k0_pay62 i g t) (e38 : v38 = combRow i comb) (e44 : v44 = xb)
    (v67 : BitVec 32) (G G2 : arg16.view.ty.Contents (Elt F)) (n m : ℕ) (hn : n = (k0_t1_loop v20).trips) (hm : m = (k0_t2_loop v20).trips)
    (eG : arg16.view.read (Elt F) G = acc) :
    arg16.view.read (Elt F) (arg16.view.writes (Elt F) G (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 v67 (harg7.unread x7) (harg8.unread x8) (harg9.unread x9) G2 m ++ pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 (harg7.unread x7) (harg8.unread x8) (harg9.unread x9) G n))
      = accF i t x7 x8 x9 xb comb g acc := by
  rw [loops_read _ _ _ _ _ _ _ _ _ _ _ _ _ _ _ _ _ _ _ _ _ _ _ _ _ _ _ _ _ _ _ _ _ _ _ _ _ _ _ _ _ _ _ _ hn hm, eG]
  subst e20 e35 e36 e38 e44; rfl

/-- over what was stored before. -/
theorem loops_acc_over (g : Vec F S8x1024 .f32) (t : Vec F S1024x1024 .bf16) (comb : Vec F S4x8x1024 .f32) (xb : Vec F S1024x1024 .bf16) (acc : Vec F S1024x1024 .f32)
    (e20 : v20 = Scalar.fptosi 32 (k0_pay60 i g t)) (e35 : v35 = k0_pay61 i g t) (e36 : v36 = k0_pay62 i g t) (e38 : v38 = combRow i comb) (e44 : v44 = xb)
    (v67 : BitVec 32) (G0 G2 : arg16.view.ty.Contents (Elt F)) (L0 : List (View.Piece (Elt F) S1024x1024 .f32)) (n m : ℕ) (hn : n = (k0_t1_loop v20).trips) (hm : m = (k0_t2_loop v20).trips)
    (eG : arg16.view.read (Elt F) (arg16.view.writes (Elt F) G0 L0) = acc) :
    arg16.view.read (Elt F) (arg16.view.writes (Elt F) G0 (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 v67 (harg7.unread x7) (harg8.unread x8) (harg9.unread x9) G2 m ++ (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 (harg7.unread x7) (harg8.unread x8) (harg9.unread x9) (arg16.view.writes (Elt F) G0 L0) n ++ L0)))
      = accF i t x7 x8 x9 xb comb g acc := by
  rw [← List.append_assoc, View.writes_append]
  exact loops_acc c i arg3 harg3 arg4 harg4 arg5 harg5 arg6 harg6 arg7 harg7 arg8 harg8 arg9 harg9 arg10 harg10 arg11 harg11 arg12 harg12 arg13 harg13 arg14 harg14 arg15 harg15 arg16 harg16 v20 h v35 v36 v38 v44 x7 x8 x9 g t comb xb acc e20 e35 e36 e38 e44 v67 _ G2 n m hn hm eG
end

end Cert.Kernel2Ideal.Val
-- ==== Proof.MoeRun.lean ====
/-
  The kernel's body run on symbolic staging buffers, at any reading of the floats: at a tile's first group, at one in between and at its last.
-/
module

public import proofs.«01_k».proof.Proof.MoeTrip

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
theorem ex_here {α : Type*} {P : α → Prop} {a : α} {L : List α} (h : P a) : ∃ p ∈ a :: L, P p := ⟨a, List.mem_cons_self, h⟩
theorem ex_there {α : Type*} {P : α → Prop} {a : α} {L : List α} (h : ∃ p ∈ L, P p) : ∃ p ∈ a :: L, P p :=
  let ⟨p, hp, h⟩ := h; ⟨p, List.mem_cons_of_mem a hp, h⟩

/-- The pieces the combine weights are stored by cover their buffer. -/
theorem combL_covers (x : Vec F S1x1024x1024 .f32) (rw : Vec F S16x1024 .f32) (rb : Vec F S16x1 .f32) (y : S4x8x1024.Idx) : ∃ p ∈ combL x rw rb, y ∈ p.1.set := by
  have h0 : (y 0).val < 4 := (y 0).isLt
  have h1 : (y 1).val < 8 := (y 1).isLt
  have h2 : (y 2).val < 1024 := (y 2).isLt
  have key : ∀ (a b : ℕ) (inb : ∀ d, (![a, b, 0] : Fin 3 → ℕ) d + S1x4x1024.size d ≤ S4x8x1024.size d), (y 0).val = a → b ≤ (y 1).val → (y 1).val < b + 4 →
      y ∈ (Rect.unit (s := S4x8x1024) ![a, b, 0] S1x4x1024.size inb).set := by
    intro a b inb e l u
    rw [Rect.mem_set_unit]
    intro d
    fin_cases d
    · show a ≤ (y 0).val ∧ (y 0).val < a + 1; omega
    · exact ⟨l, u⟩
    · show 0 ≤ (y 2).val ∧ (y 2).val < 0 + 1024; omega
  unfold combL
  by_cases hb : (y 1).val < 4
  · have : (y 0).val = 0 ∨ (y 0).val = 1 ∨ (y 0).val = 2 ∨ (y 0).val = 3 := by omega
    rcases this with e | e | e | e
    · refine ex_there (ex_there (ex_there (ex_there (ex_there (ex_there (ex_there (ex_here ?_))))))); exact key 0 0 inb_S4x8x1024_S1x4x1024_0_0_0 e (by omega) (by omega)
    · refine ex_there (ex_there (ex_there (ex_there (ex_there (ex_here ?_))))); exact key 1 0 inb_S4x8x1024_S1x4x1024_1_0_0 e (by omega) (by omega)
    · refine ex_there (ex_there (ex_there (ex_here ?_))); exact key 2 0 inb_S4x8x1024_S1x4x1024_2_0_0 e (by omega) (by omega)
    · refine ex_there (ex_here ?_); exact key 3 0 inb_S4x8x1024_S1x4x1024_3_0_0 e (by omega) (by omega)
  · have : (y 0).val = 0 ∨ (y 0).val = 1 ∨ (y 0).val = 2 ∨ (y 0).val = 3 := by omega
    rcases this with e | e | e | e
    · refine ex_there (ex_there (ex_there (ex_there (ex_there (ex_there (ex_here ?_)))))); exact key 0 4 inb_S4x8x1024_S1x4x1024_0_4_0 e (by omega) (by omega)
    · refine ex_there (ex_there (ex_there (ex_there (ex_here ?_)))); exact key 1 4 inb_S4x8x1024_S1x4x1024_1_4_0 e (by omega) (by omega)
    · refine ex_there (ex_there (ex_here ?_)); exact key 2 4 inb_S4x8x1024_S1x4x1024_2_4_0 e (by omega) (by omega)
    · refine ex_here ?_; exact key 3 4 inb_S4x8x1024_S1x4x1024_3_4_0 e (by omega) (by omega)

set_option maxHeartbeats 8000000 in
/-- The first group. -/
theorem runA (c : Dev nD) (i : grid0.Coords) (hc1 : Scalar.cmpi .ne (Scalar.extui (Scalar.cmpi .eq (BitVec.ofNat 32 (i 2).val) 0#32)) 0#32 = 1#1) (hc2 : ¬ k0_cond2 i = 1#1) (arg3 : Memref sig .tc .vmem S16x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S16x1 .f32) (harg6 : arg6.IsWhole) (arg7 : Memref sig .tc .vmem S1x4x1024x512 .bf16) (harg7 : arg7.IsWhole) (arg8 : Memref sig .tc .vmem S1x4x1024x512 .bf16) (harg8 : arg8.IsWhole) (arg9 : Memref sig .tc .vmem S1x4x512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S4x8x1024 .f32) (harg14 : arg14.IsWhole) (arg15 : Memref sig .tc .vmem S8x1024 .f32) (harg15 : arg15.IsWhole) (arg16 : Memref sig .tc .vmem S1024x1024 .f32) (harg16 : arg16.IsWhole)
    (x3 : Vec F S16x1024 .f32) (x4 : Vec F S1x1024x1024 .f32) (x5 : Vec F S1024x1024 .bf16) (x6 : Vec F S16x1 .f32) (x7 : Vec F S1x4x1024x512 .bf16) (x8 : Vec F S1x4x1024x512 .bf16) (x9 : Vec F S1x4x512x1024 .bf16) (x10 : Vec F S1x1024 .f32) (x11 : Vec F S1x1024 .f32) (x12 : Vec F S1x1024x1024 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
            ∗ owns (c : Thread nD τ) arg12 fullShare x12 ∗ owns (c : Thread nD τ) arg13 fullShare (k0_pay8 x4) ∗ owns (c : Thread nD τ) arg14 fullShare (combF x4 x3 x6) ∗ owns (c : Thread nD τ) arg15 fullShare (grpF x4 x3 x6) ∗ owns (c : Thread nD τ) arg16 fullShare (accF i x5 x7 x8 x9 (k0_pay8 x4) (combF x4 x3 x6) (grpF x4 x3 x6) k0_pay9)) -∗ K ⟨⟩))
      ⊢ wp frame (wpE (defs₀ (F := F)) Variants.none c none) E
          (cc0_moe_ln2 i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_ln2_eq_skeleton]; unfold cc0_moe_ln2_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  obtain rfl := harg12.eq_unread hf12
  sl_exec (disch := first | sl_exact hc1 | sl_exact hc2 | exact chk_all _)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  have e5 := (ld_whole (F := F) arg5.view (harg5.unread x5) ![0, 0] z2 inb_S1024x1024_S1024x1024_0_0).trans (harg5.read_unread x5)
  have e3 := (ld_whole (F := F) arg3.view (harg3.unread x3) ![0, 0] z2 inb_S16x1024_S16x1024_0_0).trans (harg3.read_unread x3)
  have e6 := (ld_whole (F := F) arg6.view (harg6.unread x6) ![0, 0] z2 inb_S16x1_S16x1_0_0).trans (harg6.read_unread x6)
  have e4 := (ld_whole (F := F) arg4.view (harg4.unread x4) ![0, 0, 0] z3 inb_S1x1024x1024_S1x1024x1024_0_0_0).trans (harg4.read_unread x4)
  have h13 : arg13.view.read (Elt F) (arg13.view.writes (Elt F) arg13.view.junk (runA.sl.H13_1 c arg4 harg4 x4)) = k0_pay8 x4 := by
    unfold runA.sl.H13_1
    refine (rd_whole _ _ _ z2 _ _ _).trans ?_
    exact congrArg k0_pay8 e4
  have h15 : arg15.view.read (Elt F) (arg15.view.writes (Elt F) arg15.view.junk (runA.sl.H15_1 c arg3 harg3 arg4 harg4 arg6 harg6 x3 x4 x6)) = grpF x4 x3 x6 := by
    unfold runA.sl.H15_1
    refine (rd_whole _ _ _ z2 _ _ _).trans ?_
    unfold runA.sl.r_10 runA.sl.r_9 runA.sl.r_8 runA.sl.r_7 runA.sl.r_6 runA.sl.r_5 runA.sl.r_4 runA.sl.r_3 runA.sl.r_1
    rw [e4, e3, e6]; unfold grpF bgF bsF; rfl
  have h14 : arg14.view.read (Elt F) (arg14.view.writes (Elt F) arg14.view.junk (runA.sl.H14_8 c arg3 harg3 arg4 harg4 arg6 harg6 x3 x4 x6)) = combF x4 x3 x6 := by
    have hl : runA.sl.H14_8 c arg3 harg3 arg4 harg4 arg6 harg6 x3 x4 x6 = combL x4 x3 x6 := by
      unfold runA.sl.H14_8 runA.sl.r_14 runA.sl.r_13 runA.sl.r_12 runA.sl.r_11 runA.sl.r_9 runA.sl.r_8 runA.sl.r_7 runA.sl.r_6 runA.sl.r_5 runA.sl.r_4 runA.sl.r_3 runA.sl.r_2 runA.sl.r_1 runA.sl.r
      rw [e4, e3, e6]; unfold combL cwF e1F i2F i1F bsF; rfl
    rw [hl]
    exact View.read_writes_eq_canon _ _ _ (combL_covers x4 x3 x6)
  isplitl [H12]
  · iexists _; isplitr; · ipureintro; exact harg12.read_unread _
    iexact H12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  iexists _; isplitr; swap; · iexact H16
  ipureintro
  refine loops_acc_over (g := grpF x4 x3 x6) (t := x5) (comb := combF x4 x3 x6) (xb := k0_pay8 x4) (acc := k0_pay9) (e20 := ?_) (e35 := ?_) (e36 := ?_) (e38 := ?_) (e44 := ?_) (hn := rfl) (hm := rfl) (eG := ?_) ..
  · unfold runA.sl.v20 runA.sl.v3 View.readCov; exact congrArg₂ (fun a b => Scalar.fptosi 32 (k0_pay60 i a b)) ((ld_whole _ _ _ z2 _).trans h15) e5
  · unfold runA.sl.r_15 runA.sl.v3 View.readCov; exact congrArg₂ (fun a b => k0_pay61 i a b) ((ld_whole _ _ _ z2 _).trans h15) e5
  · unfold runA.sl.r_16 runA.sl.v3 View.readCov; exact congrArg₂ (fun a b => k0_pay62 i a b) ((ld_whole _ _ _ z2 _).trans h15) e5
  · unfold runA.sl.v38; exact (View.readAt_eq_ld _ _ _).trans (congrArg (combRow i) h14)
  · unfold runA.sl.v44 View.readCov; exact (ld_whole _ _ _ z2 _).trans h13
  · exact rd_whole _ _ _ z2 _ _ _

set_option maxHeartbeats 8000000 in
/-- A group after the first and before the last. -/
theorem runB (c : Dev nD) (i : grid0.Coords) (hc1 : ¬ Scalar.cmpi .ne (Scalar.extui (Scalar.cmpi .eq (BitVec.ofNat 32 (i 2).val) 0#32)) 0#32 = 1#1) (hc2 : ¬ k0_cond2 i = 1#1) (arg3 : Memref sig .tc .vmem S16x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S16x1 .f32) (harg6 : arg6.IsWhole) (arg7 : Memref sig .tc .vmem S1x4x1024x512 .bf16) (harg7 : arg7.IsWhole) (arg8 : Memref sig .tc .vmem S1x4x1024x512 .bf16) (harg8 : arg8.IsWhole) (arg9 : Memref sig .tc .vmem S1x4x512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S4x8x1024 .f32) (harg14 : arg14.IsWhole) (arg15 : Memref sig .tc .vmem S8x1024 .f32) (harg15 : arg15.IsWhole) (arg16 : Memref sig .tc .vmem S1024x1024 .f32) (harg16 : arg16.IsWhole)
    (x3 : Vec F S16x1024 .f32) (x4 : Vec F S1x1024x1024 .f32) (x5 : Vec F S1024x1024 .bf16) (x6 : Vec F S16x1 .f32) (x7 : Vec F S1x4x1024x512 .bf16) (x8 : Vec F S1x4x1024x512 .bf16) (x9 : Vec F S1x4x512x1024 .bf16) (x10 : Vec F S1x1024 .f32) (x11 : Vec F S1x1024 .f32) (x12 : Vec F S1x1024x1024 .f32) (x13 : Vec F S1024x1024 .bf16) (x14 : Vec F S4x8x1024 .f32) (x15 : Vec F S8x1024 .f32) (x16 : Vec F S1024x1024 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
            ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (accF i x5 x7 x8 x9 x13 x14 x15 x16)) -∗ K ⟨⟩))
      ⊢ wp frame (wpE (defs₀ (F := F)) Variants.none c none) E
          (cc0_moe_ln2 i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_ln2_eq_skeleton]; unfold cc0_moe_ln2_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  obtain rfl := harg12.eq_unread hf12; obtain rfl := harg13.eq_unread hf13; obtain rfl := harg14.eq_unread hf14; obtain rfl := harg15.eq_unread hf15; obtain rfl := harg16.eq_unread hf16
  sl_exec (disch := first | sl_exact hc1 | sl_exact hc2 | exact chk_all _)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; swap; · iexact H16
  ipureintro
  have e15 := (ld_whole (F := F) arg15.view (harg15.unread x15) ![0, 0] z2 inb_S8x1024_S8x1024_0_0).trans (harg15.read_unread x15)
  have e5 := (ld_whole (F := F) arg5.view (harg5.unread x5) ![0, 0] z2 inb_S1024x1024_S1024x1024_0_0).trans (harg5.read_unread x5)
  have e13 := (ld_whole (F := F) arg13.view (harg13.unread x13) ![0, 0] z2 inb_S1024x1024_S1024x1024_0_0).trans (harg13.read_unread x13)
  have e14 : arg14.view.readAt (Elt F) (Rect.unit (s := S4x8x1024) (k0_off1 i) S1x8x1024.size (k0_off1_inb i)).toLoadRect (harg14.unread x14) = combRow i x14 := by
    rw [View.readAt_eq_ld, harg14.read_unread]; rfl
  refine loops_acc (g := x15) (t := x5) (comb := x14) (xb := x13) (acc := x16) (e20 := ?_) (e35 := ?_) (e36 := ?_) (e38 := e14) (e44 := e13) (hn := rfl) (hm := rfl) (eG := harg16.read_unread _) ..
  · exact congrArg₂ (fun a b => Scalar.fptosi 32 (k0_pay60 i a b)) e15 e5
  · exact congrArg₂ (fun a b => k0_pay61 i a b) e15 e5
  · exact congrArg₂ (fun a b => k0_pay62 i a b) e15 e5

set_option maxHeartbeats 8000000 in
/-- The last group. -/
theorem runC (c : Dev nD) (i : grid0.Coords) (hc1 : ¬ Scalar.cmpi .ne (Scalar.extui (Scalar.cmpi .eq (BitVec.ofNat 32 (i 2).val) 0#32)) 0#32 = 1#1) (hc2 : k0_cond2 i = 1#1) (arg3 : Memref sig .tc .vmem S16x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S16x1 .f32) (harg6 : arg6.IsWhole) (arg7 : Memref sig .tc .vmem S1x4x1024x512 .bf16) (harg7 : arg7.IsWhole) (arg8 : Memref sig .tc .vmem S1x4x1024x512 .bf16) (harg8 : arg8.IsWhole) (arg9 : Memref sig .tc .vmem S1x4x512x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S4x8x1024 .f32) (harg14 : arg14.IsWhole) (arg15 : Memref sig .tc .vmem S8x1024 .f32) (harg15 : arg15.IsWhole) (arg16 : Memref sig .tc .vmem S1024x1024 .f32) (harg16 : arg16.IsWhole)
    (x3 : Vec F S16x1024 .f32) (x4 : Vec F S1x1024x1024 .f32) (x5 : Vec F S1024x1024 .bf16) (x6 : Vec F S16x1 .f32) (x7 : Vec F S1x4x1024x512 .bf16) (x8 : Vec F S1x4x1024x512 .bf16) (x9 : Vec F S1x4x512x1024 .bf16) (x10 : Vec F S1x1024 .f32) (x11 : Vec F S1x1024 .f32) (x13 : Vec F S1024x1024 .bf16) (x14 : Vec F S4x8x1024 .f32) (x15 : Vec F S8x1024 .f32) (x16 : Vec F S1024x1024 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
            ∗ owns (c : Thread nD τ) arg12 fullShare (k0_pay6 x4 (accF i x5 x7 x8 x9 x13 x14 x15 x16) x10 x11) ∗ owns (c : Thread nD τ) arg13 fullShare x13 ∗ owns (c : Thread nD τ) arg14 fullShare x14 ∗ owns (c : Thread nD τ) arg15 fullShare x15 ∗ owns (c : Thread nD τ) arg16 fullShare (accF i x5 x7 x8 x9 x13 x14 x15 x16)) -∗ K ⟨⟩))
      ⊢ wp frame (wpE (defs₀ (F := F)) Variants.none c none) E
          (cc0_moe_ln2 i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_moe_ln2_eq_skeleton]; unfold cc0_moe_ln2_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  obtain rfl := harg13.eq_unread hf13; obtain rfl := harg14.eq_unread hf14; obtain rfl := harg15.eq_unread hf15; obtain rfl := harg16.eq_unread hf16
  sl_exec (disch := first | sl_exact hc1 | sl_exact hc2 | exact chk_all _)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro; refine (rd_whole _ _ _ z3 _ _ _).trans ?_
    refine congr (congr (congr (congrArg k0_pay6 ?_) ?_) ?_) ?_
    · exact (ld_whole _ _ _ z3 _).trans (harg4.read_unread _)
    · unfold runC.sl.v75
      refine (ld_whole _ _ _ z2 _).trans ?_
      have e15 := (ld_whole (F := F) arg15.view (harg15.unread x15) ![0, 0] z2 inb_S8x1024_S8x1024_0_0).trans (harg15.read_unread x15)
      have e5 := (ld_whole (F := F) arg5.view (harg5.unread x5) ![0, 0] z2 inb_S1024x1024_S1024x1024_0_0).trans (harg5.read_unread x5)
      have e13 := (ld_whole (F := F) arg13.view (harg13.unread x13) ![0, 0] z2 inb_S1024x1024_S1024x1024_0_0).trans (harg13.read_unread x13)
      have e14 : arg14.view.readAt (Elt F) (Rect.unit (s := S4x8x1024) (k0_off1 i) S1x8x1024.size (k0_off1_inb i)).toLoadRect (harg14.unread x14) = combRow i x14 := by
        rw [View.readAt_eq_ld, harg14.read_unread]; rfl
      refine loops_acc (g := x15) (t := x5) (comb := x14) (xb := x13) (acc := x16) (e20 := ?_) (e35 := ?_) (e36 := ?_) (e38 := e14) (e44 := e13) (hn := rfl) (hm := rfl) (eG := harg16.read_unread _) ..
      · exact congrArg₂ (fun a b => Scalar.fptosi 32 (k0_pay60 i a b)) e15 e5
      · exact congrArg₂ (fun a b => k0_pay61 i a b) e15 e5
      · exact congrArg₂ (fun a b => k0_pay62 i a b) e15 e5
    · exact (ld_whole _ _ _ z2 _).trans (harg10.read_unread _)
    · exact (ld_whole _ _ _ z2 _).trans (harg11.read_unread _)
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; swap; · iexact H16
  ipureintro
  have e15 := (ld_whole (F := F) arg15.view (harg15.unread x15) ![0, 0] z2 inb_S8x1024_S8x1024_0_0).trans (harg15.read_unread x15)
  have e5 := (ld_whole (F := F) arg5.view (harg5.unread x5) ![0, 0] z2 inb_S1024x1024_S1024x1024_0_0).trans (harg5.read_unread x5)
  have e13 := (ld_whole (F := F) arg13.view (harg13.unread x13) ![0, 0] z2 inb_S1024x1024_S1024x1024_0_0).trans (harg13.read_unread x13)
  have e14 : arg14.view.readAt (Elt F) (Rect.unit (s := S4x8x1024) (k0_off1 i) S1x8x1024.size (k0_off1_inb i)).toLoadRect (harg14.unread x14) = combRow i x14 := by
    rw [View.readAt_eq_ld, harg14.read_unread]; rfl
  refine loops_acc (g := x15) (t := x5) (comb := x14) (xb := x13) (acc := x16) (e20 := ?_) (e35 := ?_) (e36 := ?_) (e38 := e14) (e44 := e13) (hn := rfl) (hm := rfl) (eG := harg16.read_unread _) ..
  · exact congrArg₂ (fun a b => Scalar.fptosi 32 (k0_pay60 i a b)) e15 e5
  · exact congrArg₂ (fun a b => k0_pay61 i a b) e15 e5
  · exact congrArg₂ (fun a b => k0_pay62 i a b) e15 e5

end Cert.Kernel2Ideal.Val
-- ==== Proof.MoeLaunch.lean ====
/-
  The launch of the experts' kernel: the body's triple at every point of the grid, what the scratch carries from one
  group of experts to the next, and the run of the whole program, at any float values.
-/
module

public import proofs.«01_k».proof.Proof.MoeRun
public import Idealize.ShloMosaic.Lib.Claim
public import Idealize.ShloMosaic.Lib.Pipeline.Value

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch carries -/

/-- The scratch's contents: the tile's rounded tokens, the combine weights, the best groups and the running sum. -/
abbrev Scr (F : FTy → Type) [FloatOps F] : Type := Vec F S1024x1024 .bf16 × Vec F S4x8x1024 .f32 × Vec F S8x1024 .f32 × Vec F S1024x1024 .f32

/-- A point's step on the sum, from the routing `q`. -/
def stepAt (c : Dev nD) (t : Fin cfg0.N) (q : Scr F) : Scr F :=
  (q.1, q.2.1, q.2.2.1, accF (grid0.coords t) (iblk m c 2 t) (iblk m c 4 t) (iblk m c 5 t) (iblk m c 6 t) q.1 q.2.1 q.2.2.1 q.2.2.2)

/-- What a tile's first point makes of its tokens. -/
def freshAt (c : Dev nD) (t : Fin cfg0.N) : Scr F :=
  (k0_pay8 (iblk m c 1 t), combF (iblk m c 1 t) (iblk m c 0 t) (iblk m c 3 t), grpF (iblk m c 1 t) (iblk m c 0 t) (iblk m c 3 t), k0_pay9)

/-- The scratch after the first `n` points. -/
def scr (c : Dev nD) : ℕ → Scr F
  | 0 => freshAt m c ⟨0, by decide⟩
  | n + 1 => if h : n < 128 then
      stepAt m c ⟨n, h⟩ (if n % 4 = 0 then freshAt m c ⟨n, h⟩ else scr c n)
    else scr c n

theorem scr_first (c : Dev nD) (t : Fin cfg0.N) (h : t.val % 4 = 0) : scr m c (t.val + 1) = stepAt m c t (freshAt m c t) := by
  rw [scr, dif_pos (show t.val < 128 from t.isLt), if_pos h]
theorem scr_next (c : Dev nD) (t : Fin cfg0.N) (h : ¬ t.val % 4 = 0) : scr m c (t.val + 1) = stepAt m c t (scr m c t.val) := by
  rw [scr, dif_pos (show t.val < 128 from t.isLt), if_neg h]

/-! ## The proof data -/

/-- Between points: at a tile's start the scratch at anything, within a tile at `scr`; and the generator. -/
def PhiN (c : Dev nD) (n : ℕ) : sProp 𝕄 :=
  if n % 4 = 0 then Pipeline.ΦA spec0 c else
    iprop(iprop(owns (c : Thread nD τ) (Memref.whole cc0_scratch0) fullShare (scr m c n).1 ∗ owns (c : Thread nD τ) (Memref.whole cc0_scratch1) fullShare (scr m c n).2.1
        ∗ owns (c : Thread nD τ) (Memref.whole cc0_scratch2) fullShare (scr m c n).2.2.1 ∗ owns (c : Thread nD τ) (Memref.whole cc0_scratch3) fullShare (scr m c n).2.2.2) ∗ (∃ r, prngReg c r))

/-- The arrays as the region finds them; after the body each operand's buffer at its block, and the result's, at a tile's
    last point, at the norm of the tokens plus the sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay6 (iblk m c 1 t) (scr m c (t.val + 1)).2.2.2 (iblk m c 7 t) (iblk m c 8 t)
  Φ t := PhiN m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) :
    (dats m 0 c).after 9 t = k0_pay6 (iblk m c 1 t) (scr m c (t.val + 1)).2.2.2 (iblk m c 7 t) (iblk m c 8 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t)
    ∗ (match cfg0.idle 9 (cfg0.grid.coords t) with
      | true => match (cfg0.win 9).flush t with
        | false => iprop(∃ d, owns (c : Thread nD τ) (st0_9 t) fullShare ((dats m 0 c).before 9 t d))
        | true => owns (c : Thread nD τ) (st0_9 t) fullShare ((dats m 0 c).after 9 t)
      | false => owns (c : Thread nD τ) (st0_9 t) fullShare ((dats m 0 c).after 9 t)))

/-- What the region keeps between points at a tile's start. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]
  simp only [owns_whole]

theorem coords_g : ∀ t : Fin cfg0.N, (grid0.coords t 2).val = t.val % 4 := by decide +kernel
theorem first_iff : ∀ i : grid0.Coords, (Scalar.cmpi .ne (Scalar.extui (Scalar.cmpi .eq (BitVec.ofNat 32 (i 2).val) 0#32)) 0#32 = 1#1) ↔ (i 2).val = 0 := by decide +kernel
theorem last_iff : ∀ i : grid0.Coords, k0_cond2 i = 1#1 ↔ (i 2).val = 3 := by decide +kernel
theorem idle_of (t : Fin cfg0.N) (h : ¬ t.val % 4 = 3) : idle0 9 (grid0.coords t) = true := by
  have : ¬ k0_cond2 (grid0.coords t) = 1#1 := by rw [last_iff, coords_g]; exact h
  show (!(k0_cond2 (grid0.coords t) == 1#1)) = true
  simp [this]
theorem busy_of (t : Fin cfg0.N) (h : t.val % 4 = 3) : idle0 9 (grid0.coords t) = false := by
  have : k0_cond2 (grid0.coords t) = 1#1 := by rw [last_iff, coords_g]; exact h
  show (!(k0_cond2 (grid0.coords t) == 1#1)) = false
  simp [this]
theorem flush_of (t : Fin cfg0.N) (h : ¬ t.val % 4 = 3) : (win0 9).flush t = false := by
  rw [Bool.eq_false_iff]; intro e; exact h ((flush0_9 t).1 e)

theorem Phi_start (c : Dev nD) (n : ℕ) (h : n % 4 = 0) : PhiN (F := F) m c n = Pipeline.ΦA spec0 c := if_pos h
theorem Phi_within (c : Dev nD) (n : ℕ) (h : ¬ n % 4 = 0) : PhiN (F := F) m c n =
    iprop(iprop(owns (c : Thread nD τ) (Memref.whole cc0_scratch0) fullShare (scr m c n).1 ∗ owns (c : Thread nD τ) (Memref.whole cc0_scratch1) fullShare (scr m c n).2.1
        ∗ owns (c : Thread nD τ) (Memref.whole cc0_scratch2) fullShare (scr m c n).2.2.1 ∗ owns (c : Thread nD τ) (Memref.whole cc0_scratch3) fullShare (scr m c n).2.2.2) ∗ (∃ r, prngReg c r)) := if_neg h

set_option maxHeartbeats 4000000 in
theorem sound_first (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4, after0_5, after0_6, after0_7, after0_8, after0_9]
  have g1 := (first_iff (grid0.coords t)).trans (by rw [coords_g t] : ((grid0.coords t 2).val = 0) ↔ t.val % 4 = 0)
  have g2 := (last_iff (grid0.coords t)).trans (by rw [coords_g t] : ((grid0.coords t 2).val = 3) ↔ t.val % 4 = 3)
  have hn3 : ¬ t.val % 4 = 3 := by omega
  rw [idle_of t hn3, flush_of t hn3, Phi_start m c _ h0, Phi_within m c (t.val + 1) (by omega), PhiA_eq, scr_first m c t h0]
  simp only [stepAt, freshAt]
  iintro ⟨⟨⟨H13, H14, H15, H16⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords t) (g1.2 h0) (fun e => hn3 (g2.1 e)) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  iintro ⟨H0, H1, H2, H3, H4, H5, H6, H7, H8, H9, H13, H14, H15, H16⟩
  isplitl [Hr H13 H14 H15 H16]
  · isplitl [H13 H14 H15 H16]
    · isplitl [H13]; · iexact H13
      isplitl [H14]; · iexact H14
      isplitl [H15]; · iexact H15
      iexact H16
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

set_option maxHeartbeats 4000000 in
theorem sound_last (c : Dev nD) (t : Fin cfg0.N) (h0 : ¬ t.val % 4 = 0) (h3 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4, after0_5, after0_6, after0_7, after0_8, after0_9]
  have g1 := (first_iff (grid0.coords t)).trans (by rw [coords_g t] : ((grid0.coords t 2).val = 0) ↔ t.val % 4 = 0)
  have g2 := (last_iff (grid0.coords t)).trans (by rw [coords_g t] : ((grid0.coords t 2).val = 3) ↔ t.val % 4 = 3)
  rw [busy_of t h3, Phi_within m c _ h0, Phi_start m c (t.val + 1) (by omega), PhiA_eq, scr_next m c t h0]
  simp only [stepAt]
  iintro ⟨⟨⟨H13, H14, H15, H16⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runC c (grid0.coords t) (fun e => h0 (g1.1 e)) (g2.2 h3) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H13]; · iexact H13
  isplitl [H14]; · iexact H14
  isplitl [H15]; · iexact H15
  isplitl [H16]; · iexact H16
  iintro ⟨H0, H1, H2, H3, H4, H5, H6, H7, H8, H9, H13, H14, H15, H16⟩
  isplitl [Hr H13 H14 H15 H16]
  · isplitl [H13 H14 H15 H16]
    · isplitl [H13]; · iexists _; iexact H13
      isplitl [H14]; · iexists _; iexact H14
      isplitl [H15]; · iexists _; iexact H15
      iexists _; iexact H16
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
theorem sound_mid (c : Dev nD) (t : Fin cfg0.N) (h0 : ¬ t.val % 4 = 0) (h3 : ¬ t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4, after0_5, after0_6, after0_7, after0_8, after0_9]
  have g1 := (first_iff (grid0.coords t)).trans (by rw [coords_g t] : ((grid0.coords t 2).val = 0) ↔ t.val % 4 = 0)
  have g2 := (last_iff (grid0.coords t)).trans (by rw [coords_g t] : ((grid0.coords t 2).val = 3) ↔ t.val % 4 = 3)
  rw [idle_of t h3, flush_of t h3, Phi_within m c _ h0, Phi_within m c (t.val + 1) (by omega), scr_next m c t h0]
  simp only [stepAt]
  iintro ⟨⟨⟨H13, H14, H15, H16⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t) (fun e => h0 (g1.1 e)) (fun e => h3 (g2.1 e)) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  isplitl [H16]; · iexact H16
  iintro ⟨H0, H1, H2, H3, H4, H5, H6, H7, H8, H9, H13, H14, H15, H16⟩
  isplitl [Hr H13 H14 H15 H16]
  · isplitl [H13 H14 H15 H16]
    · isplitl [H13]; · iexact H13
      isplitl [H14]; · iexact H14
      isplitl [H15]; · iexact H15
      iexact H16
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  · by_cases h3 : t.val % 4 = 3
    · exact sound_last m c t h0 h3
    · exact sound_mid m c t h0 h3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = PhiN m c 0 from rfl, Phi_start m c 0 rfl])
    (hout := fun c => by rw [show (dats m 0 c).Φ (Fin.last cfg0.N) = PhiN m c 128 from rfl, Phi_start m c 128 rfl])

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel2Ideal.Val
-- ==== Proof.MoeResult.lean ====
/-
  What the experts' kernel leaves in the result's array.
-/
module

public import proofs.«01_k».proof.Proof.MoeRoute
public import proofs.«01_k».proof.Proof.MoeWant
public import proofs.«01_k».proof.Proof.MoeLaunch
public import Idealize.ShloMosaic.Lib.Pipeline.ValueKit
public import Idealize.ShloMosaic.Lib.StableHlo.ReadAt

@[expose] public section

set_option maxRecDepth 16384

noncomputable section

namespace Cert.Kernel2Ideal.Val

open Cert.Kernel2Ideal Cert.Kernel2Ideal.Gen
open Cert.Route
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- The arguments. -/
def xA (c : Dev nD) : XArr := m (c, Proc.tc.devRef main_arg0)
def rA (c : Dev nD) : RArr := m (c, Proc.tc.devRef main_arg1)
def bA (c : Dev nD) : BArr := m (c, Proc.tc.devRef main_arg2)
def gA (c : Dev nD) : WArr := m (c, Proc.tc.devRef main_arg3)
def uA (c : Dev nD) : WArr := m (c, Proc.tc.devRef main_arg4)
def dA (c : Dev nD) : DArr := m (c, Proc.tc.devRef main_arg5)
def lgA (c : Dev nD) : NArr := m (c, Proc.tc.devRef main_arg6)
def lbA (c : Dev nD) : NArr := m (c, Proc.tc.devRef main_arg7)

/-- The operands as the launch finds them. -/
def rO (c : Dev nD) : (⟨2, ![16, 1024]⟩ : Shape).Idx → EReal := V m c main_v0
def bO (c : Dev nD) : (⟨2, ![16, 1]⟩ : Shape).Idx → EReal := V m c main_v1
def tO (c : Dev nD) : (⟨2, ![1024, 1024]⟩ : Shape).Idx → EReal := V m c main_v11
def gO (c : Dev nD) : (⟨4, ![4, 4, 1024, 512]⟩ : Shape).Idx → EReal := V m c main_v12
def uO (c : Dev nD) : (⟨4, ![4, 4, 1024, 512]⟩ : Shape).Idx → EReal := V m c main_v13
def dO (c : Dev nD) : (⟨4, ![4, 4, 512, 1024]⟩ : Shape).Idx → EReal := V m c main_v14
def lgO (c : Dev nD) : (⟨2, ![1, 1024]⟩ : Shape).Idx → EReal := V m c main_v5
def lbO (c : Dev nD) : (⟨2, ![1, 1024]⟩ : Shape).Idx → EReal := V m c main_v6

theorem rO_apply (c : Dev nD) (e : Fin 16) (k : Fin 1024) : rO m c (ix2 e k) = rA m c (ix2 k e) := by
  unfold rO V rA
  after_reads_at
theorem bO_apply (c : Dev nD) (e : Fin 16) : bO m c (ix2 e 0) = bA m c (ix1 e) := by
  unfold bO V bA
  after_reads_at
theorem gO_apply (c : Dev nD) (g j : Fin 4) (k : Fin 1024) (f : Fin 512) : gO m c (ix4 g j k f) = gA m c (ix3 (ex g j) k f) := by
  unfold gO V gA ex
  after_reads_at
theorem uO_apply (c : Dev nD) (g j : Fin 4) (k : Fin 1024) (f : Fin 512) : uO m c (ix4 g j k f) = uA m c (ix3 (ex g j) k f) := by
  unfold uO V uA ex
  after_reads_at
theorem dO_apply (c : Dev nD) (g j : Fin 4) (f : Fin 512) (d : Fin 1024) : dO m c (ix4 g j f d) = dA m c (ix3 (ex g j) f d) := by
  unfold dO V dA ex
  after_reads_at
theorem lgO_apply (c : Dev nD) (d : Fin 1024) : lgO m c (ix2 0 d) = lgA m c (ix1 d) := by
  unfold lgO V lgA
  after_reads_at
theorem lbO_apply (c : Dev nD) (d : Fin 1024) : lbO m c (ix2 0 d) = lbA m c (ix1 d) := by
  unfold lbO V lbA
  after_reads_at
theorem tO_apply (c : Dev nD) (u t : Fin 1024) : tO m c (ix2 u t) = if u ≤ t then 1 else 0 := by
  unfold tO V
  after_reads_at
  have h : (IntOp.cmpi .sle (BitVec.ofNat 32 u.val) (BitVec.ofNat 32 t.val)) = BitVec.ofBool (decide (u ≤ t)) := by
    show BitVec.ofBool (BitVec.sle (BitVec.ofNat 32 u.val) (BitVec.ofNat 32 t.val)) = _
    congr 1
    rw [BitVec.sle_eq_decide, toInt_small _ (by omega), toInt_small _ (by omega)]
    simp only [Nat.cast_le, Fin.val_fin_le]
  rw [h]
  by_cases e : u ≤ t
  · rw [if_pos e, decide_eq_true e]
    show (((1#1).toNat : ℝ) : EReal) = 1
    norm_num
  · rw [if_neg e, decide_eq_false e]
    show (((0#1).toNat : ℝ) : EReal) = 0
    norm_num

/-- The blocks' places at a point. -/
theorem idx (t : Fin cfg0.N) :
    win0_0.index t = ![0, 0] ∧ win0_1.index t = ![(grid0.coords t 0).val, (grid0.coords t 1).val, 0]
    ∧ win0_2.index t = ![0, 0] ∧ win0_3.index t = ![0, 0]
    ∧ win0_4.index t = ![(grid0.coords t 2).val, 0, 0, 0] ∧ win0_5.index t = ![(grid0.coords t 2).val, 0, 0, 0]
    ∧ win0_6.index t = ![(grid0.coords t 2).val, 0, 0, 0] ∧ win0_7.index t = ![0, 0] ∧ win0_8.index t = ![0, 0]
    ∧ win0_9.index t = ![(grid0.coords t 0).val, (grid0.coords t 1).val, 0] := by
  revert t; decide +kernel

/-- The grid's coordinates of a point: batch, tile, group. -/
def pb (t : Fin cfg0.N) : Fin 2 := grid0.coords t 0
def pi (t : Fin cfg0.N) : Fin 16 := grid0.coords t 1
def pg (t : Fin cfg0.N) : Fin 4 := grid0.coords t 2
/-- A token of a tile. -/
def tok (i : Fin 16) (y : Fin 1024) : Fin 16384 := ⟨i.val * 1024 + y.val, by omega⟩

theorem blk0 (c : Dev nD) (t : Fin cfg0.N) (e : Fin 16) (k : Fin 1024) : (iblk m c 0 t (ix2 e k) : EReal) = rO m c (ix2 e k) := by
  unfold rO
  blk_ext [iblk, idx t]
theorem blk1 (c : Dev nD) (t : Fin cfg0.N) (y k : Fin 1024) : (iblk m c 1 t (ix3 0 y k) : EReal) = xA m c (ix3 (pb t) (tok (pi t) y) k) := by
  rw [show xA m c = V m c main_arg0 from (V_main_arg0 m c).symm]
  unfold pb pi tok
  blk_ext [iblk, idx t]
theorem blk2 (c : Dev nD) (t : Fin cfg0.N) (u y : Fin 1024) : (iblk m c 2 t (ix2 u y) : EReal) = tO m c (ix2 u y) := by
  unfold tO
  blk_ext [iblk, idx t]
theorem blk3 (c : Dev nD) (t : Fin cfg0.N) (e : Fin 16) : (iblk m c 3 t (ix2 e 0) : EReal) = bO m c (ix2 e 0) := by
  unfold bO
  blk_ext [iblk, idx t]
theorem blk4 (c : Dev nD) (t : Fin cfg0.N) (j : Fin 4) (k : Fin 1024) (f : Fin 512) : (iblk m c 4 t (ix4 0 j k f) : EReal) = gO m c (ix4 (pg t) j k f) := by
  unfold gO pg
  blk_ext [iblk, idx t]
theorem blk5 (c : Dev nD) (t : Fin cfg0.N) (j : Fin 4) (k : Fin 1024) (f : Fin 512) : (iblk m c 5 t (ix4 0 j k f) : EReal) = uO m c (ix4 (pg t) j k f) := by
  unfold uO pg
  blk_ext [iblk, idx t]
theorem blk6 (c : Dev nD) (t : Fin cfg0.N) (j : Fin 4) (f : Fin 512) (d : Fin 1024) : (iblk m c 6 t (ix4 0 j f d) : EReal) = dO m c (ix4 (pg t) j f d) := by
  unfold dO pg
  blk_ext [iblk, idx t]
theorem blk7 (c : Dev nD) (t : Fin cfg0.N) (d : Fin 1024) : (iblk m c 7 t (ix2 0 d) : EReal) = lgO m c (ix2 0 d) := by
  unfold lgO
  blk_ext [iblk, idx t]
theorem blk8 (c : Dev nD) (t : Fin cfg0.N) (d : Fin 1024) : (iblk m c 8 t (ix2 0 d) : EReal) = lbO m c (ix2 0 d) := by
  unfold lbO
  blk_ext [iblk, idx t]

/-! ### The scratch within a tile -/

/-- A token all of whose entries are reals. -/
def TokFin (c : Dev nD) (b : Fin 2) (n : Fin 16384) : Prop := ∀ k : Fin 1024, ∃ r : ℝ, xA m c (ix3 b n k) = (r : EReal)

/-- The scratch of tile `i` of batch `b` once the first `n` groups are in; of a token that is not finite, only that it
    goes to some one group. -/
structure Held (c : Dev nD) (b : Fin 2) (i : Fin 16) (n : ℕ) (s : Scr Ideal) : Prop where
  tok : ∀ y k : Fin 1024, (s.1 (ix2 y k) : EReal) = xA m c (ix3 b (tok i y) k)
  comb : ∀ y : Fin 1024, TokFin m c b (Val.tok i y) → ∀ (g : Fin 4) (j : Fin 8), (s.2.1 (ix3 g j y) : EReal)
    = if h : j.val < 4 then tweight (xA m c) (rA m c) (bA m c) b (Val.tok i y) (ex g ⟨j.val, h⟩) else 0
  grp : ∃ gr : Fin 1024 → Fin 4, (∀ (k : Fin 8) (y : Fin 1024), (s.2.2.1 (ix2 k y) : EReal) = (((gr y).val : ℝ) : EReal))
    ∧ ∀ y, TokFin m c b (Val.tok i y) → gr y = gOf (xA m c) (rA m c) (bA m c) b (Val.tok i y)
  acc : ∀ y : Fin 1024, TokFin m c b (Val.tok i y) → ∀ d : Fin 1024, (s.2.2.2 (ix2 y d) : EReal)
    = if (gOf (xA m c) (rA m c) (bA m c) b (Val.tok i y)).val < n then moe (xA m c) (rA m c) (bA m c) (gA m c) (uA m c) (dA m c) b (Val.tok i y) d else 0

variable (hr : ∀ c, Finite (rA m c)) (hb : ∀ c, ∀ e : Fin 16, ⊥ < bA m c (ix1 e))

theorem pay8_apply (x : Vec Ideal S1x1024x1024 .f32) (y k : Fin 1024) : (k0_pay8 x (ix2 y k) : EReal) = x (ix3 0 y k) := by
  pointwise [k0_pay8, k0_pay7]
theorem pay9_apply (y k : Fin 1024) : (k0_pay9 (F := Ideal) (ix2 y k) : EReal) = 0 := by
  pointwise [k0_pay9]

theorem score_blk (c : Dev nD) (t : Fin cfg0.N) (y : Fin 1024) : score (iblk m c 1 t) (iblk m c 0 t) y = tscore (xA m c) (rA m c) (pb t) (tok (pi t) y) := by
  funext e
  unfold score tscore
  congr 1
  refine Finset.sum_congr rfl fun k _ => ?_
  rw [blk0, blk1, rO_apply, mul_comm]
theorem biased_blk (c : Dev nD) (t : Fin cfg0.N) (y : Fin 1024) : biased (iblk m c 1 t) (iblk m c 0 t) (iblk m c 3 t) y = tbiased (xA m c) (rA m c) (bA m c) (pb t) (tok (pi t) y) := by
  funext e
  unfold biased tbiased
  rw [score_blk, blk3, bO_apply]

include hr hb
theorem held_fresh (c : Dev nD) (t : Fin cfg0.N) : Held m c (pb t) (pi t) 0 (freshAt m c t) := by
  have hx' : ∀ y, TokFin m c (pb t) (tok (pi t) y) → ∀ k, ∃ r : ℝ, (iblk m c 1 t (ix3 0 y k) : EReal) = (r : EReal) := fun y hy k => by
    rw [blk1]; exact hy k
  have hr' : ∀ e k, ∃ r : ℝ, (iblk m c 0 t (ix2 e k) : EReal) = (r : EReal) := fun y k => by rw [blk0, rO_apply]; exact hr c _
  have hb' : ∀ e, (⊥ : EReal) < iblk m c 3 t (ix2 e 0) := fun e => by rw [blk3, bO_apply]; exact hb c e
  have hR : ∀ y, Routed (biased (iblk m c 1 t) (iblk m c 0 t) (iblk m c 3 t) y) (gOf (xA m c) (rA m c) (bA m c) (pb t) (tok (pi t) y)) (iOf (xA m c) (rA m c) (bA m c) (pb t) (tok (pi t) y)) (kOf (xA m c) (rA m c) (bA m c) (pb t) (tok (pi t) y)) := fun y => by
    rw [biased_blk]; exact routed _ _ _ _ _
  constructor
  · intro y k
    show (k0_pay8 (iblk m c 1 t) (ix2 y k) : EReal) = _
    rw [pay8_apply, blk1]
  · intro y hy g j
    show (combF (iblk m c 1 t) (iblk m c 0 t) (iblk m c 3 t) (ix3 g j y) : EReal) = _
    rw [combF_routed _ _ _ (hx' y hy) hr' hb' (hR y), score_blk]
    rfl
  · choose gr hgr using bgF_some (iblk m c 1 t) (iblk m c 0 t) (iblk m c 3 t)
    have hg : ∀ (k : Fin 8) (y : Fin 1024), (grpF (iblk m c 1 t) (iblk m c 0 t) (iblk m c 3 t) (ix2 k y) : EReal) = (((gr y).val : ℝ) : EReal) :=
      fun k y => (grpF_apply _ _ _ k y).trans (hgr y)
    refine ⟨gr, fun k y => ?_, fun y hy => ?_⟩
    · simp only [freshAt]
      exact hg k y
    · have h := grpF_routed _ _ _ (hx' y hy) hr' hb' (hR y) 0
      rw [hg] at h
      exact (idx_eq _ _).1 h
  · intro y _ d
    show (k0_pay9 (F := Ideal) (ix2 y d) : EReal) = _
    rw [pay9_apply, if_neg (by omega)]

omit hb in
theorem tweight_real (c : Dev nD) (b : Fin 2) (n : Fin 16384) (hn : TokFin m c b n) (e : Fin 16) : ∃ r : ℝ, tweight (xA m c) (rA m c) (bA m c) b n e = (r : EReal) := by
  obtain ⟨a, ha, hi⟩ := tscore_real b n hn (hr c) (iOf (xA m c) (rA m c) (bA m c) b n)
  obtain ⟨a', ha', hk⟩ := tscore_real b n hn (hr c) (kOf (xA m c) (rA m c) (bA m c) b n)
  unfold tweight wt
  rw [hi, hk, ← EReal.coe_add, Ideal.div_coe (by positivity), Ideal.div_coe (by positivity), ← EReal.coe_mul, ← EReal.coe_mul, ← EReal.coe_zero, real_ite, real_ite, ← EReal.coe_add]
  exact ⟨_, rfl⟩

theorem held_step (c : Dev nD) (t : Fin cfg0.N) (s : Scr Ideal) (h : Held m c (pb t) (pi t) (pg t).val s) :
    Held m c (pb t) (pi t) ((pg t).val + 1) (stepAt m c t s) := by
  refine ⟨h.tok, h.comb, h.grp, fun y hy d => ?_⟩
  obtain ⟨gr, hg, hge⟩ := h.grp
  choose W hW using tweight_real m hr c (pb t) (tok (pi t) y) hy
  show (accF (grid0.coords t) (iblk m c 2 t) (iblk m c 4 t) (iblk m c 5 t) (iblk m c 6 t) s.1 s.2.1 s.2.2.1 s.2.2.2 (ix2 y d) : EReal) = _
  rw [accF_apply (grid0.coords t) s.2.2.1 (iblk m c 2 t) gr (iblk m c 4 t) (iblk m c 5 t) (iblk m c 6 t) s.1 s.2.1 s.2.2.2
    (fun j _ => if e : j.val < 4 then W (ex (pg t) ⟨j.val, e⟩) else 0) hg (fun u y => by rw [blk2, tO_apply]) y d
    (fun j => by
      rw [combRow_apply, h.comb y hy]
      by_cases e : j.val < 4
      · rw [dif_pos e, dif_pos e, hW]; rfl
      · rw [dif_neg e, dif_neg e, EReal.coe_zero]), h.acc y hy, hge y hy]
  have hpg : ((grid0.coords t) 2).val = (pg t).val := rfl
  rw [hpg]
  by_cases e : (gOf (xA m c) (rA m c) (bA m c) (pb t) (tok (pi t) y)).val = (pg t).val
  · have e' : gOf (xA m c) (rA m c) (bA m c) (pb t) (tok (pi t) y) = pg t := Fin.ext e
    rw [if_pos e, if_neg (by omega), if_pos (by omega), zero_add, moe_eq (pb t) (tok (pi t) y) hy (hr c) (hb c), e']
    unfold mix expert ffn
    simp only [blk4, blk5, blk6, gO_apply, uO_apply, dO_apply, h.tok, hW]
    rfl
  · rw [if_neg e, add_zero]
    by_cases e2 : (gOf (xA m c) (rA m c) (bA m c) (pb t) (tok (pi t) y)).val < (pg t).val
    · rw [if_pos e2, if_pos (by omega)]
    · rw [if_neg e2, if_neg (by omega)]

omit hr hb in
theorem prev_point : ∀ t : Fin cfg0.N, t.val % 4 ≠ 0 → ∀ h : t.val - 1 < cfg0.N, pb ⟨t.val - 1, h⟩ = pb t ∧ pi ⟨t.val - 1, h⟩ = pi t := by
  intro t ht h
  have p : ∀ t : Fin cfg0.N, (pb t).val = t.val / 64 ∧ (pi t).val = t.val / 4 % 16 := by
    clear ht h t
    unfold pb pi
    decide +kernel
  have a := p t
  have a' := p ⟨t.val - 1, h⟩
  dsimp only at a'
  exact ⟨Fin.ext (by omega), Fin.ext (by omega)⟩

theorem held (c : Dev nD) : ∀ (n : ℕ) (hn : n < cfg0.N), Held m c (pb ⟨n, hn⟩) (pi ⟨n, hn⟩) (n % 4 + 1) (scr m c (n + 1)) := by
  intro n
  induction n with
  | zero =>
    intro hn
    rw [show scr m c (0 + 1) = _ from scr_first m c ⟨0, hn⟩ rfl]
    have hg : (pg ⟨0, hn⟩).val = 0 := coords_g ⟨0, hn⟩
    have := held_step m hr hb c ⟨0, hn⟩ (freshAt m c ⟨0, hn⟩) (by rw [hg]; exact held_fresh m hr hb c ⟨0, hn⟩)
    rw [hg] at this
    exact this
  | succ n ih =>
    intro hn
    have hg : (pg ⟨n + 1, hn⟩).val = (n + 1) % 4 := coords_g ⟨n + 1, hn⟩
    rw [← hg]
    by_cases h0 : (n + 1) % 4 = 0
    · rw [show scr m c (n + 1 + 1) = _ from scr_first m c ⟨n + 1, hn⟩ h0]
      refine held_step m hr hb c ⟨n + 1, hn⟩ _ ?_
      rw [hg, h0]
      exact held_fresh m hr hb c ⟨n + 1, hn⟩
    · rw [show scr m c (n + 1 + 1) = _ from scr_next m c ⟨n + 1, hn⟩ h0]
      refine held_step m hr hb c ⟨n + 1, hn⟩ _ ?_
      have hp := prev_point ⟨n + 1, hn⟩ h0 (by dsimp only; omega)
      rw [← hp.1, ← hp.2, hg, show (n + 1) % 4 = n % 4 + 1 by omega]
      exact ih (by omega)

omit hr hb in
theorem pay6_apply (x : Vec Ideal S1x1024x1024 .f32) (a : Vec Ideal S1024x1024 .f32) (g b : Vec Ideal S1x1024 .f32) (y d : Fin 1024) :
    (k0_pay6 x a g b (ix3 0 y d) : EReal)
      = norm (fun d => Ideal.ofBits .f32 0x3FB504F3#32 * x (ix3 0 y d) + a (ix2 y d)) (fun d => g (ix2 0 d)) (fun d => b (ix2 0 d)) d := by
  pointwise [k0_pay6]
  rfl

/-- The whole result. -/
def G (c : Dev nD) : S2x16384x1024.Idx → EReal := fun z =>
  layer (xA m c) (rA m c) (bA m c) (gA m c) (uA m c) (dA m c) (lgA m c) (lbA m c) (z 0) (z 1) (z 2)

omit hr hb in
/-- The residual of an infinite entry is infinite, whatever is added. -/
theorem row_inf {x : EReal} (h : x = ⊤ ∨ x = ⊥) (a : EReal) :
    Ideal.ofBits .f32 0x3FB504F3#32 * x + a = ⊤ ∨ Ideal.ofBits .f32 0x3FB504F3#32 * x + a = ⊥ := by
  rcases h with rfl | rfl
  · rw [EReal.mul_top_of_pos alpha_pos]
    by_cases e : a = ⊥
    · exact Or.inr (by rw [e, EReal.add_bot])
    · exact Or.inl (EReal.top_add_of_ne_bot e)
  · rw [EReal.mul_bot_of_pos alpha_pos, EReal.bot_add]
    exact Or.inr rfl

/-- The result's array after the run. -/
theorem result (c : Dev nD) : (dats m 0 c).arrAt 9 cfg0.N = G m c := by
  refine (dats m 0 c).arrAt_eq_of_covers 9 _ (by decide +kernel) fun t hf y => ?_
  have h3 : t.val % 4 = 3 := (flush0_9 t).1 hf
  blk_simp
  rw [after0_9]
  obtain ⟨y1, y2, rfl⟩ : ∃ (y1 y2 : Fin 1024), y = (ix3 0 y1 y2 : S1x1024x1024.Idx) := by
    refine ⟨y 1, y 2, ?_⟩
    funext a
    apply Fin.ext
    match a with
    | ⟨0, _⟩ => exact Nat.lt_one_iff.1 (y 0).isLt
    | ⟨1, _⟩ => rfl
    | ⟨2, _⟩ => rfl
  have e : (win0_9.blk t).view.emb (ix3 0 y1 y2 : S1x1024x1024.Idx)
      = (ix3 (pb t) (tok (pi t) y1) y2 : S2x16384x1024.Idx) := by
    unfold pb pi tok
    blk_ext [idx t]
  rw [e]
  refine (pay6_apply _ _ _ _ y1 y2).trans ?_
  by_cases hy : TokFin m c (pb t) (tok (pi t) y1)
  · have H := held m hr hb c t.val t.isLt
    rw [h3] at H
    have hacc : ∀ d, ((scr m c (t.val + 1)).2.2.2 (ix2 y1 d) : EReal) = moe (xA m c) (rA m c) (bA m c) (gA m c) (uA m c) (dA m c) (pb t) (tok (pi t) y1) d := fun d => by
      rw [H.acc y1 hy, if_pos (by omega)]
    simp only [hacc, blk1, blk7, blk8, lgO_apply, lbO_apply]
    rfl
  · obtain ⟨k, hk⟩ := not_forall.1 hy
    have hi : xA m c (ix3 (pb t) (tok (pi t) y1) k) = ⊤ ∨ xA m c (ix3 (pb t) (tok (pi t) y1) k) = ⊥ := by
      revert hk
      generalize xA m c (ix3 (pb t) (tok (pi t) y1) k) = z
      induction z with
      | bot => exact fun _ => Or.inr rfl
      | top => exact fun _ => Or.inl rfl
      | coe r => exact fun h => absurd ⟨r, rfl⟩ h
    show _ = layer (xA m c) (rA m c) (bA m c) (gA m c) (uA m c) (dA m c) (lgA m c) (lbA m c) (pb t) (tok (pi t) y1) y2
    unfold layer
    refine (norm_inf _ _ _ y2 k ?_).trans (Eq.trans ?_ (norm_inf _ _ _ y2 k ?_).symm)
    · rw [blk1]; exact row_inf hi _
    · rw [blk8, lbO_apply]
    · exact row_inf hi _

end Cert.Kernel2Ideal.Val
-- ==== Proof.MoeTop.lean ====
/-
  A row's greatest elements, as the host's top-k gives them, over the extended reals.
-/
module

public import proofs.«01_k».proof.Proof.MoeSpec
public import proofs.«01_k».proof.Proof.MoeRead
public import Idealize.ShloMosaic.Lib.Pointwise
public import Idealize.ShloMosaic.Lib.ValueIdx

@[expose] public section

set_option maxRecDepth 16384

noncomputable section

namespace Cert.Route

open Idealize.ShloMosaic Idealize.ShloMosaic.TcCoe Idealize.ShloMosaic.Tactic

theorem gt_word (a b : EReal) : ((FloatOps.cmpfTotal (F := Ideal) (φ := .f32) .gt a b) == 1#1) = decide (b < a) := by
  rw [Ideal.cmpfTotal_def]
  show (BitVec.ofBool (decide (b < a)) == 1#1) = decide (b < a)
  by_cases h : b < a
  · rw [decide_eq_true h]; rfl
  · rw [decide_eq_false h]; rfl

/-- The position of the `k`-th greatest. -/
def pos {N : ℕ} (f : Fin N → EReal) (k : Fin N) : Fin N := sortedFrom (fun a b => decide (f b < f a)) k

section
variable {R N K : ℕ} (hK : K ≤ N)
theorem along2 (r : Fin R) (k a : Fin N) : (ix2 r k : (⟨2, ![R, N]⟩ : Shape).Idx).along 1 a = ix2 r a := by
  funext d
  unfold Shape.Idx.along
  match d with
  | ⟨0, _⟩ => rfl
  | ⟨1, _⟩ => rfl
theorem topK2 (x : (⟨2, ![R, N]⟩ : Shape).Idx → EReal) (h : (⟨2, ![R, N]⟩ : Shape).Slices (fun _ => 0) ⟨2, ![R, K]⟩) (r : Fin R) (k : Fin K) :
    (Host.topK ⟨2, ![R, K]⟩ 1 (FloatOps.cmpfTotal (F := Ideal) (φ := .f32) .gt) x h).2 (ix2 r k)
      = BitVec.ofNat 32 (pos (fun a => x (ix2 r a)) (k.castLE hK)).val := by
  have e : (Host.topK ⟨2, ![R, K]⟩ 1 (FloatOps.cmpfTotal (F := Ideal) (φ := .f32) .gt) x h).2 (ix2 r k)
      = (Host.sort2 ⟨2, ![R, N]⟩ 1 (fun l r => (FloatOps.cmpfTotal (F := Ideal) (φ := .f32) .gt) l.1 r.1) x
          (fun i => if hd : 1 < (⟨2, ![R, N]⟩ : Shape).rank then iotaInDim ⟨2, ![R, N]⟩ 32 ⟨1, hd⟩ i else 0#32)).2 (ix2 r (k.castLE hK)) := by
    unfold Host.topK
    dsimp only
    refine extractStridedSlice_apply _ _ h _ _ fun a => ?_
    match a with
    | ⟨0, _⟩ => exact (Nat.zero_add _).symm
    | ⟨1, _⟩ => exact (Nat.zero_add _).symm
  rw [e]
  unfold Host.sort2
  rw [dif_pos (show 1 < (⟨2, ![R, N]⟩ : Shape).rank from Nat.lt_succ_self 1)]
  simp only [gt_word]
  refine (congrArg (fun j : (⟨2, ![R, N]⟩ : Shape).Idx => BitVec.ofNat 32 (j 1).val) (along2 r (k.castLE hK) _)).trans ?_
  unfold pos
  refine congrArg (fun p => BitVec.ofNat 32 (sortedFrom p (k.castLE hK)).val) ?_
  funext a b
  rw [show Shape.Idx.along (s := ⟨2, ![R, N]⟩) (ix2 r (k.castLE hK)) ⟨1, Nat.lt_succ_self 1⟩ a = ix2 r a from along2 r _ a, show Shape.Idx.along (s := ⟨2, ![R, N]⟩) (ix2 r (k.castLE hK)) ⟨1, Nat.lt_succ_self 1⟩ b = ix2 r b from along2 r _ b]
  rfl
end

section
variable {R G N K : ℕ} (hK : K ≤ N)
theorem along3 (r : Fin R) (g : Fin G) (k a : Fin N) : (ix3 r g k : (⟨3, ![R, G, N]⟩ : Shape).Idx).along 2 a = ix3 r g a := by
  funext d
  unfold Shape.Idx.along
  match d with
  | ⟨0, _⟩ => rfl
  | ⟨1, _⟩ => rfl
  | ⟨2, _⟩ => rfl
theorem topK3 (x : (⟨3, ![R, G, N]⟩ : Shape).Idx → EReal) (h : (⟨3, ![R, G, N]⟩ : Shape).Slices (fun _ => 0) ⟨3, ![R, G, K]⟩) (r : Fin R) (g : Fin G) (k : Fin K) :
    (Host.topK ⟨3, ![R, G, K]⟩ 2 (FloatOps.cmpfTotal (F := Ideal) (φ := .f32) .gt) x h).1 (ix3 r g k)
      = x (ix3 r g (pos (fun a => x (ix3 r g a)) (k.castLE hK))) := by
  have e : (Host.topK ⟨3, ![R, G, K]⟩ 2 (FloatOps.cmpfTotal (F := Ideal) (φ := .f32) .gt) x h).1 (ix3 r g k)
      = (Host.sort2 ⟨3, ![R, G, N]⟩ 2 (fun l r => (FloatOps.cmpfTotal (F := Ideal) (φ := .f32) .gt) l.1 r.1) x
          (fun i => if hd : 2 < (⟨3, ![R, G, N]⟩ : Shape).rank then iotaInDim ⟨3, ![R, G, N]⟩ 32 ⟨2, hd⟩ i else 0#32)).1 (ix3 r g (k.castLE hK)) := by
    unfold Host.topK
    dsimp only
    refine extractStridedSlice_apply _ _ h _ _ fun a => ?_
    match a with
    | ⟨0, _⟩ => exact (Nat.zero_add _).symm
    | ⟨1, _⟩ => exact (Nat.zero_add _).symm
    | ⟨2, _⟩ => exact (Nat.zero_add _).symm
  rw [e]
  unfold Host.sort2
  rw [dif_pos (show 2 < (⟨3, ![R, G, N]⟩ : Shape).rank from Nat.lt_succ_self 2)]
  simp only [gt_word]
  refine (congrArg x (along3 r g (k.castLE hK) _)).trans ?_
  unfold pos
  congr 3
  funext a b
  rw [show Shape.Idx.along (s := ⟨3, ![R, G, N]⟩) (ix3 r g (k.castLE hK)) ⟨2, Nat.lt_succ_self 2⟩ a = ix3 r g a from along3 r g _ a, show Shape.Idx.along (s := ⟨3, ![R, G, N]⟩) (ix3 r g (k.castLE hK)) ⟨2, Nat.lt_succ_self 2⟩ b = ix3 r g b from along3 r g _ b]
  rfl
end

/-! ### An element taken along a row -/
section
variable {α : Type} {R N K : ℕ}
abbrev takeCols (R N K : ℕ) (wf : GatherDims.WF ⟨2, ![R, N]⟩ ⟨3, ![R, K, 1]⟩ ⟨2, ![R, K]⟩ [] [1] [0] [1] [0] 2 ![1, 1]) :
    GatherDims ⟨2, ![R, N]⟩ ⟨3, ![R, K, 1]⟩ ⟨2, ![R, K]⟩ where
  offsetDims := []
  collapsedSliceDims := [1]
  operandBatchingDims := [0]
  startIndicesBatchingDims := [0]
  startIndexMap := [1]
  indexVectorDim := 2
  sliceSizes := ![1, 1]
  wf := wf
theorem take_cols (wf : GatherDims.WF ⟨2, ![R, N]⟩ ⟨3, ![R, K, 1]⟩ ⟨2, ![R, K]⟩ [] [1] [0] [1] [0] 2 ![1, 1])
    (x : (⟨2, ![R, N]⟩ : Shape).Idx → α) (ix : IVec ⟨3, ![R, K, 1]⟩ 32) (r : Fin R) (k : Fin K) (e : Fin N) (hN : N < 2 ^ 31)
    (h : ix (ix3 r k 0) = BitVec.ofNat 32 e.val) : Host.gather (takeCols R N K wf) x ix (ix2 r k) = x (ix2 r e) := by
  unfold Host.gather
  congr 1
  funext a
  refine Fin.ext ?_
  show (takeCols R N K wf).start (ix2 r k) ix a + (takeCols R N K wf).batchCoord (ix2 r k) a + (takeCols R N K wf).offCoord (ix2 r k) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeCols R N K wf).startIndexMap from List.mem_singleton.mpr rfl)]
    have hsi : (takeCols R N K wf).siIdx (ix2 r k) ⟨List.idxOf (1 : Fin 2) (takeCols R N K wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi, h, Cert.Kernel2Ideal.Val.toInt_small _ (by omega)]
    show min e.val (N - 1) = e.val
    omega
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
end
end Cert.Route
-- ==== Proof.MoeRef.lean ====
/-
  The reference of the experts: the layer's element.
-/
module

public import proofs.«01_k».proof.Proof.MoeTop
public import proofs.«01_k».proof.Proof.MoeWant
public import proofs.«01_k».proof.Proof.Gen.Reference2Ideal.Read
public import Idealize.ShloMosaic.Lib.ReduceAll

@[expose] public section

set_option maxRecDepth 16384

noncomputable section

namespace Cert.Reference2Ideal.Read

open Cert.Reference2Ideal Cert.Reference2Ideal.Gen Cert.Route Idealize.ShloMosaic
open Cert.Kernel2Ideal.Val (one_f select_eq sitofp_small toInt_small)

/-- A token's row among all the batches' rows. -/
def row (b : Fin 2) (n : Fin 16384) : Fin 32768 := ⟨b.val * 16384 + n.val, by omega⟩

variable (x : XArr) (rw' : RArr) (rb : BArr) (wg wu : WArr) (wd : DArr) (lg lb : NArr) (b : Fin 2) (n : Fin 16384)

theorem v0_at (c : Fin 1024) : (val_main_v0 (F := Ideal) x (ix2 (row b n) c) : EReal) = x (ix3 b n c) := by
  rw [val_main_v0_apply]
  refine congrArg x (funext fun a => Fin.ext ?_)
  match a with
  | ⟨0, _⟩ => show ((b.val * 16384 + n.val) * 1024 + c.val) / 16777216 = b.val; omega
  | ⟨1, _⟩ => show ((b.val * 16384 + n.val) * 1024 + c.val) / 1024 % 16384 = n.val; omega
  | ⟨2, _⟩ => show ((b.val * 16384 + n.val) * 1024 + c.val) % 1024 = c.val; omega

theorem v1_at (e : Fin 16) : (val_main_v1 (F := Ideal) x rw' (ix2 (row b n) e) : EReal) = ∑ c : Fin 1024, x (ix3 b n c) * rw' (ix2 c e) := by
  rw [val_main_v1_apply]
  refine Finset.sum_congr rfl fun c _ => ?_
  rw [show lidx_main_v1 (ix2 (row b n) e) c = ix2 (row b n) c from by funext a; match a with | ⟨0, _⟩ => rfl | ⟨1, _⟩ => rfl, v0_at]
  congr 2
  funext a; match a with | ⟨0, _⟩ => rfl | ⟨1, _⟩ => rfl

/-- The scores, -/
theorem v7_at (e : Fin 16) : (val_main_v7 (F := Ideal) x rw' (ix2 (row b n) e) : EReal) = tscore x rw' b n e := by
  have h := v1_at x rw' b n e
  unfold tscore
  rw [← h]
  unfold val_main_v7 val_main_v6 val_main_v5 val_main_v4 val_main_v3 val_main_v2 val_main_cst val_main_cst_0
  generalize val_main_v1 (F := Ideal) x rw' = y
  pointwise []
  rfl

/-- with the bias, in groups. -/
theorem v11_at (g j : Fin 4) : (val_main_v11 (F := Ideal) x rw' rb (ix3 (row b n) g j) : EReal) = tbiased x rw' rb b n (ex g j) := by
  rw [val_main_v11_apply, show idx_main_v11 (ix3 (row b n) g j) = ix2 (row b n) (ex g j) from by
    funext a; apply Fin.ext
    match a with
    | ⟨0, _⟩ => show (((b.val * 16384 + n.val) * 4 + g.val) * 4 + j.val) / 16 = b.val * 16384 + n.val; omega
    | ⟨1, _⟩ => show (((b.val * 16384 + n.val) * 4 + g.val) * 4 + j.val) % 16 = g.val * 4 + j.val; omega]
  have h := v7_at x rw' b n (ex g j)
  unfold tbiased
  rw [← h]
  rw [val_main_v10_apply, val_main_v9_apply, val_main_v8_apply]
  show _ + _ = _ + _
  congr 2
  funext a; match a with | ⟨0, _⟩ => rfl

/-- The groups' scores. -/
theorem v12_at (g : Fin 4) : (val_main_v12 (F := Ideal) x rw' rb (ix2 (row b n) g) : EReal) = gscore (tbiased x rw' rb b n) g := by
  have hv : ∀ k : Fin 2, (val_main_values (F := Ideal) x rw' rb (ix3 (row b n) g k) : EReal)
      = (fun j => tbiased x rw' rb b n (ex g j)) (pos (fun j => tbiased x rw' rb b n (ex g j)) (k.castLE (by decide))) := fun k => by
    unfold val_main_values
    rw [show (Host.topK S32768x4x2 2 (FloatOps.cmpfTotal (F := Ideal) (φ := .f32) .gt) (val_main_v11 (F := Ideal) x rw' rb) sliceFits_S32768x4x4_S32768x4x2).1 (ix3 (row b n) g k) = _ from topK3 (by decide) _ _ _ _ _]
    simp only [v11_at]
  rw [val_main_v12_apply, Fin.sum_univ_two]
  rw [show idx_main_v12 (ix2 (row b n) g) 0 = ix3 (row b n) g 0 from by funext a; match a with | ⟨0, _⟩ => rfl | ⟨1, _⟩ => rfl | ⟨2, _⟩ => rfl, show idx_main_v12 (ix2 (row b n) g) 1 = ix3 (row b n) g 1 from by funext a; match a with | ⟨0, _⟩ => rfl | ⟨1, _⟩ => rfl | ⟨2, _⟩ => rfl, hv, hv]
  unfold gscore
  rw [pairMax_eq _ (isTop_sorted _) (isSnd_sorted _)]
  rw [val_main_cst_1_apply, Ideal.ofBits_def, Ideal.ofBits_zero_f32, zero_add]
  rfl

/-- The best group. -/
theorem best_at : val_main_indices_3 (F := Ideal) x rw' rb (ix2 (row b n) 0) = BitVec.ofNat 32 (gOf x rw' rb b n).val := by
  unfold val_main_indices_3
  rw [show (Host.topK S32768x1 1 (FloatOps.cmpfTotal (F := Ideal) (φ := .f32) .gt) (val_main_v12 (F := Ideal) x rw' rb) sliceFits_S32768x4_S32768x1).2 (ix2 (row b n) 0) = _ from topK2 (by decide) _ _ _ _]
  simp only [v12_at]
  rw [IsTop.unique (routed x rw' rb b n).top_g (isTop_sorted (gscore (tbiased x rw' rb b n)))]
  rfl

theorem neg_inf : Ideal.ofBits .f32 0xFF800000#32 = ⊥ := by simp [Ideal.ofBits, Ideal.ieee]

/-- The biased scores outside the best group masked. -/
theorem v21_at (g j : Fin 4) : (val_main_v21 (F := Ideal) x rw' rb (ix3 (row b n) g j) : EReal) = masked (tbiased x rw' rb b n) (gOf x rw' rb b n) (ex g j) := by
  have h := v11_at x rw' rb b n g j
  have hb := best_at x rw' rb b n
  unfold masked
  rw [← h, show grp (ex g j) = g from Fin.ext (by show (g.val * 4 + j.val) / 4 = g.val; omega)]
  unfold val_main_v21 val_main_call0_v1 val_main_call0_v2 val_main_v20 val_main_v19 val_main_v18 val_main_v17 val_main_v16 val_main_v15 val_main_v14 val_main_v13
  generalize val_main_v11 (F := Ideal) x rw' rb = y at *
  generalize val_main_indices_3 (F := Ideal) x rw' rb = z at *
  pointwise []
  rw [hb, select_eq _ _ (by omega) (by omega)]
  have q : g.val = (gOf x rw' rb b n).val ↔ g = gOf x rw' rb b n := Fin.val_inj
  simp only [q]
  congr 1
theorem v22_at (e : Fin 16) : (val_main_v22 (F := Ideal) x rw' rb (ix2 (row b n) e) : EReal) = masked (tbiased x rw' rb b n) (gOf x rw' rb b n) e := by
  rw [val_main_v22_apply, show idx_main_v22 (ix2 (row b n) e) = ix3 (row b n) ⟨e.val / 4, by omega⟩ ⟨e.val % 4, by omega⟩ from by
    funext a; apply Fin.ext
    match a with
    | ⟨0, _⟩ => show ((b.val * 16384 + n.val) * 16 + e.val) / 16 = b.val * 16384 + n.val; omega
    | ⟨1, _⟩ => show ((b.val * 16384 + n.val) * 16 + e.val) / 4 % 4 = e.val / 4; omega
    | ⟨2, _⟩ => show ((b.val * 16384 + n.val) * 16 + e.val) % 4 = e.val % 4; omega, v21_at]
  congr 1
  exact Fin.ext (by show e.val / 4 * 4 + e.val % 4 = e.val; omega)

/-- The two experts. -/
def sel (k : Fin 2) : Fin 16 := if k = 0 then iOf x rw' rb b n else kOf x rw' rb b n
theorem sel_at (k : Fin 2) : val_main_indices_6 (F := Ideal) x rw' rb (ix2 (row b n) k) = BitVec.ofNat 32 (sel x rw' rb b n k).val := by
  have r := routed x rw' rb b n
  have e1 := IsTop.unique r.top_i (isTop_sorted (masked (tbiased x rw' rb b n) (gOf x rw' rb b n)))
  have e2 : IsSnd _ _ _ := r.snd_k
  rw [e1] at e2
  have e3 := IsSnd.unique e2 (isSnd_sorted (masked (tbiased x rw' rb b n) (gOf x rw' rb b n)))
  unfold val_main_indices_6
  rw [show (Host.topK S32768x2 1 (FloatOps.cmpfTotal (F := Ideal) (φ := .f32) .gt) (val_main_v22 (F := Ideal) x rw' rb) sliceFits_S32768x16_S32768x2).2 (ix2 (row b n) k) = _ from topK2 (by decide) _ _ _ _]
  simp only [v22_at]
  unfold sel
  have hk : k = 0 ∨ k = 1 := by omega
  rcases hk with rfl | rfl
  · rw [if_pos rfl, e1]; rfl
  · rw [if_neg (by decide), e3]; rfl

/-- The words the scores are taken by, -/
theorem word_at (k : Fin 2) : val_main_call1_v5 (F := Ideal) x rw' rb (ix3 (row b n) k 0) = BitVec.ofNat 32 (sel x rw' rb b n k).val := by
  have h := sel_at x rw' rb b n k
  rw [val_main_call1_v5_apply, show idx_main_call1_v5 (ix3 (row b n) k 0) = ix2 (row b n) k from by
    funext a; apply Fin.ext
    match a with
    | ⟨0, _⟩ => show (((b.val * 16384 + n.val) * 2 + k.val) * 1 + 0) / 2 = b.val * 16384 + n.val; omega
    | ⟨1, _⟩ => show (((b.val * 16384 + n.val) * 2 + k.val) * 1 + 0) % 2 = k.val; omega]
  rw [val_main_call1_v4_apply, val_main_call1_v1_apply, h, val_main_call1_v0_apply, val_main_call1_c_apply]
  generalize sel x rw' rb b n k = e
  have : IntOp.cmpi .slt (BitVec.ofNat 32 e.val) 0#32 = 0#1 := by revert e; decide
  rw [this]
  rfl

/-- in range, -/
theorem in_range (k : Fin 2) : val_main_call1_v12 (F := Ideal) x rw' rb (ix2 (row b n) k) = 1#1 := by
  unfold val_main_call1_v12
  refine Host.reduce_andi_one _ _ _ _ _ rfl fun i => ?_
  obtain ⟨b', n', k', rfl⟩ : ∃ (b' : Fin 2) (n' : Fin 16384) (k' : Fin 2), i = (ix3 (row b' n') k' 0 : S32768x2x1.Idx) := by
    have h0 : (i 0).val < 32768 := (i 0).isLt
    refine ⟨⟨(i 0).val / 16384, by omega⟩, ⟨(i 0).val % 16384, by omega⟩, i 1, ?_⟩
    funext a
    apply Fin.ext
    match a with
    | ⟨0, _⟩ => show (i 0).val = (i 0).val / 16384 * 16384 + (i 0).val % 16384; omega
    | ⟨1, _⟩ => rfl
    | ⟨2, _⟩ => exact Nat.lt_one_iff.1 (i 2).isLt
  rw [val_main_call1_v11_apply, val_main_call1_v7_apply, val_main_call1_v10_apply, word_at, val_main_call1_v6_apply, val_main_call1_v9_apply, val_main_call1_v8_apply, val_main_call1_c_2_apply, val_main_call1_c_1_apply]
  generalize sel x rw' rb b' n' k' = e
  revert e; decide

/-- the scores taken, -/
theorem v23_at (k : Fin 2) : (val_main_v23 (F := Ideal) x rw' rb (ix2 (row b n) k) : EReal) = tscore x rw' b n (sel x rw' rb b n k) := by
  rw [val_main_v23_apply, in_range]
  show (val_main_call1_v13 (F := Ideal) x rw' rb (ix2 (row b n) k) : EReal) = _
  rw [← v7_at]
  unfold val_main_call1_v13
  exact take_cols _ _ _ (row b n) k (sel x rw' rb b n k) (by decide) (word_at x rw' rb b n k)

/-- and normalised. -/
theorem v27_at (k : Fin 2) : (val_main_v27 (F := Ideal) x rw' rb (ix2 (row b n) k) : EReal)
    = Ideal.div (tscore x rw' b n (sel x rw' rb b n k)) (tscore x rw' b n (iOf x rw' rb b n) + tscore x rw' b n (kOf x rw' rb b n)) := by
  rw [val_main_v27_apply, v23_at, val_main_v26_apply, val_main_v25_apply, val_main_v24_apply, Fin.sum_univ_two, val_main_cst_7_apply, Ideal.ofBits_def, Ideal.ofBits_zero_f32, zero_add]
  rw [show idx_main_v24 (idx_main_v25 (idx_main_v26 (ix2 (row b n) k))) 0 = ix2 (row b n) 0 from by funext a; match a with | ⟨0, _⟩ => rfl | ⟨1, _⟩ => rfl, show idx_main_v24 (idx_main_v25 (idx_main_v26 (ix2 (row b n) k))) 1 = ix2 (row b n) 1 from by funext a; match a with | ⟨0, _⟩ => rfl | ⟨1, _⟩ => rfl, v23_at, v23_at]
  rfl

/-- The combine weights. -/
theorem v32_at (e : Fin 16) : (val_main_v32 (F := Ideal) x rw' rb (ix2 (row b n) e) : EReal) = tweight x rw' rb b n e := by
  have hv : ∀ k : Fin 2, (val_main_v31 (F := Ideal) x rw' rb (ix3 (row b n) k e) : EReal)
      = if e = sel x rw' rb b n k then Ideal.div (tscore x rw' b n (sel x rw' rb b n k)) (tscore x rw' b n (iOf x rw' rb b n) + tscore x rw' b n (kOf x rw' rb b n)) else 0 := fun k => by
    have h1 := v27_at x rw' rb b n k
    have h2 := sel_at x rw' rb b n k
    unfold val_main_v31 val_main_v30 val_main_v29 val_main_v28 val_main_call2_v4 val_main_call2_v3 val_main_call2_v2 val_main_call2_v1 val_main_call2_v0
    rw [← h1]
    generalize val_main_v27 (F := Ideal) x rw' rb = y at *
    generalize val_main_indices_6 (F := Ideal) x rw' rb = z at *
    pointwise []
    rw [h2]
    generalize y (ix2 (row b n) k) = w
    generalize sel x rw' rb b n k = f
    by_cases he : e = f
    · rw [if_pos he, he]
      have : FloatOps.uitofp (F := Ideal) FTy.f32 (IntOp.cmpi .eq (BitVec.ofNat 32 f.val) (BitVec.ofNat 32 f.val)) = (1 : EReal) := by
        rw [show IntOp.cmpi .eq (BitVec.ofNat 32 f.val) (BitVec.ofNat 32 f.val) = 1#1 from by clear he; revert f; decide]
        show (((1#1).toNat : ℝ) : EReal) = 1
        norm_num
      rw [this, one_mul]
    · rw [if_neg he]
      have : FloatOps.uitofp (F := Ideal) FTy.f32 (IntOp.cmpi .eq (BitVec.ofNat 32 f.val) (BitVec.ofNat 32 e.val)) = (0 : EReal) := by
        rw [show IntOp.cmpi .eq (BitVec.ofNat 32 f.val) (BitVec.ofNat 32 e.val) = 0#1 from by revert he; clear * -; revert e f; decide]
        show (((0#1).toNat : ℝ) : EReal) = 0
        norm_num
      rw [this, zero_mul]
  rw [val_main_v32_apply, Fin.sum_univ_two]
  rw [show idx_main_v32 (ix2 (row b n) e) 0 = ix3 (row b n) 0 e from by funext a; match a with | ⟨0, _⟩ => rfl | ⟨1, _⟩ => rfl | ⟨2, _⟩ => rfl, show idx_main_v32 (ix2 (row b n) e) 1 = ix3 (row b n) 1 e from by funext a; match a with | ⟨0, _⟩ => rfl | ⟨1, _⟩ => rfl | ⟨2, _⟩ => rfl, hv, hv]
  rw [val_main_cst_8_apply, Ideal.ofBits_def, Ideal.ofBits_zero_f32, zero_add]
  rfl

/-- The experts' outputs. -/
theorem v39_at (e : Fin 16) (d : Fin 1024) : (val_main_v39 (F := Ideal) x wg wu wd (ix3 e (row b n) d) : EReal) = ffn x wg wu wd b n e d := by
  have h := v0_at x b n
  unfold ffn
  unfold val_main_v39 val_main_v38 val_main_v37 val_main_call3_v5 val_main_call3_v4 val_main_call3_v3 val_main_call3_v2 val_main_call3_v1 val_main_call3_v0 val_main_call3_cst val_main_call3_cst_0 val_main_v36 val_main_v35 val_main_v34 val_main_v33
  simp only [← h]
  generalize val_main_v0 (F := Ideal) x = y at *
  pointwise []
  have e1 : ∀ (w : WArr) (f : Fin 512), (∑ c : Fin 1024, w (ix3 e c f) * (y (ix2 (row b n) c) : EReal)) = ∑ c : Fin 1024, (y (ix2 (row b n) c) : EReal) * w (ix3 e c f) :=
    fun w f => Finset.sum_congr rfl fun c _ => mul_comm _ _
  simp only [e1]
  rfl

theorem v44_at (d : Fin 1024) : (val_main_v44 (F := Ideal) x rw' rb wg wu wd (ix2 (row b n) d) : EReal) = moe x rw' rb wg wu wd b n d := by
  unfold moe
  rw [val_main_v44_apply, val_main_cst_9_apply, Ideal.ofBits_def, Ideal.ofBits_zero_f32, zero_add]
  refine Finset.sum_congr rfl fun e _ => ?_
  rw [show idx_main_v44 (ix2 (row b n) d) e = ix3 e (row b n) d from by funext a; match a with | ⟨0, _⟩ => rfl | ⟨1, _⟩ => rfl | ⟨2, _⟩ => rfl]
  rw [← v39_at, ← v32_at]
  rw [val_main_v43_apply, val_main_v42_apply, val_main_v41_apply, val_main_v40_apply]
  show _ * _ = _ * _
  congr 2
  funext a; match a with | ⟨0, _⟩ => rfl | ⟨1, _⟩ => rfl

theorem v48_at (d : Fin 1024) : (val_main_v48 (F := Ideal) x rw' rb wg wu wd (ix3 b n d) : EReal) = Ideal.ofBits .f32 0x3FB504F3#32 * x (ix3 b n d) + moe x rw' rb wg wu wd b n d := by
  rw [val_main_v48_apply, val_main_v47_apply, show idx_main_v47 (ix3 b n d) = ix2 (row b n) d from by
    funext a; apply Fin.ext
    match a with
    | ⟨0, _⟩ => show ((b.val * 16384 + n.val) * 1024 + d.val) / 1024 = b.val * 16384 + n.val; omega
    | ⟨1, _⟩ => show ((b.val * 16384 + n.val) * 1024 + d.val) % 1024 = d.val; omega, v44_at]
  rw [val_main_v46_apply, val_main_v45_apply, val_main_cst_10_apply]
  rfl

/-- The reference's element. -/
theorem v72_at (d : Fin 1024) : (val_main_v72 (F := Ideal) x rw' rb wg wu wd lg lb (ix3 b n d) : EReal) = layer x rw' rb wg wu wd lg lb b n d := by
  have h := v48_at x rw' rb wg wu wd b n
  unfold layer
  simp only [← h]
  unfold val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_cst_11 val_main_cst_12 val_main_cst_13 val_main_cst_14 val_main_cst_15
  generalize val_main_v48 (F := Ideal) x rw' rb wg wu wd = y at *
  pointwise []
  rfl

end Cert.Reference2Ideal.Read
-- ==== Proof.MoePre.lean ====
/-
  The experts' precondition read: every entry of the router is a real, and no bias is minus infinity.
-/
module

public import proofs.«01_k».proof.Proof.Pre
public import proofs.«01_k».proof.Proof.MoeWant
public import proofs.«01_k».proof.Proof.Gen.Pre_finite_routing

@[expose] public section

noncomputable section

namespace Cert.Pre_finite_routing.Val

open Cert.Pre_finite_routing Cert.Pre_finite_routing.Gen
open Idealize.ShloMosaic Cert.Route
open Cert.Pre_finite_qk.Val (pos_inf real_of_abs and_one)

/-- One element whose comparison came out true. -/
theorem real_of_bit (x : EReal) (h : BitVec.ofBool (decide (FloatOps.absf (F := Ideal) (φ := .f32) x < (⊤ : EReal))) = 1#1) :
    ∃ r : ℝ, x = (r : EReal) := by
  by_cases e : FloatOps.absf (F := Ideal) (φ := .f32) x < (⊤ : EReal)
  · exact real_of_abs _ e
  · rw [decide_eq_false e] at h; exact absurd h (by decide)

theorem all_r (x : RArr) (j : S_.Idx)
    (h : Host.reduce IntOp.andi (cmpf (F := Ideal) (φ := .f32) .olt (Host.absf x) (broadcastInDim S1024x16 ![] bcast_S_S1024x16 (constant S_ .f32 0x7F800000#32)))
      (constantI S_ 1 1#1) reducesTo_S1024x16_S_d0_1 h_S_ j = 1#1) : Finite x := by
  intro i
  have h' := Host.reduce_andi_all _ _ _ _ j h i
  pointwise at h'
  rw [pos_inf] at h'
  exact real_of_bit _ h'

theorem neg_inf : Ideal.ofBits .f32 0xFF800000#32 = ⊥ := by simp [Ideal.ofBits, Ideal.ieee]

/-- One element that came out above minus infinity. -/
theorem bot_of_bit (x : EReal) (h : BitVec.ofBool (decide ((⊥ : EReal) < x)) = 1#1) : ⊥ < x := by
  by_cases e : (⊥ : EReal) < x
  · exact e
  · rw [decide_eq_false e] at h; exact absurd h (by decide)

theorem all_b (x : BArr) (j : S_.Idx)
    (h : Host.reduce IntOp.andi (cmpf (F := Ideal) (φ := .f32) .ogt x (broadcastInDim S16 ![] bcast_S_S16 (constant S_ .f32 0xFF800000#32)))
      (constantI S_ 1 1#1) reducesTo_S16_S_d0 h_S_ j = 1#1) (e : Fin 16) : ⊥ < x (ix1 e) := by
  have h' := Host.reduce_andi_all _ _ _ _ j h (ix1 e)
  pointwise at h'
  rw [neg_inf] at h'
  exact bot_of_bit _ h'

theorem finite (x : XArr) (r : RArr) (b : BArr) (wg wu : WArr) (wd : DArr) (lg lb : NArr)
    (h : Cert.Pre_finite_routing.fn (F := Ideal) x r b wg wu wd lg lb = fun _ => 1#1) : Finite r ∧ ∀ e : Fin 16, ⊥ < b (ix1 e) := by
  have h := congrFun h ix0
  dsimp only [fn] at h
  obtain ⟨h2, h3⟩ := and_one _ _ h
  exact ⟨all_r r ix0 h2, all_b b ix0 h3⟩

end Cert.Pre_finite_routing.Val

end
-- ==== Proof.PrjRun.lean ====
/-
  The input projection's body on symbolic staging buffers and its launch over the grid, at any reading of the floats.
-/
module

public import proofs.«01_k».proof.Proof.Gen.Kernel3Ideal.Frame
public import proofs.«01_k».proof.Proof.Gen.Kernel3Ideal.Skeleton
public import proofs.«01_k».proof.Proof.MoeTrip
public import Idealize.ShloMosaic.Lib.Claim
public import Idealize.ShloMosaic.Lib.Pipeline.Value

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Val (rd_whole ld_whole z2 z3)

variable {F : FTy → Type} [FloatOps F]

local notation "𝕄" => MT nD τ sig Unit (Elt F) ℕ (UR sig nD τ) ℕ

set_option maxHeartbeats 4000000 in
/-- A tile's first column block: the tile is rounded into the scratch and multiplied. -/
theorem runA (c : Dev nD) (i : grid0.Coords) (hc1 : Scalar.cmpi .ne (Scalar.extui (Scalar.cmpi .eq (BitVec.ofNat 32 (i 2).val) 0#32)) 0#32 = 1#1) (hc2 : k0_cond2 i = 1#1) (hc3 : ¬ k0_cond3 i = 1#1) (arg3 : Memref sig .tc .vmem S1x1024x1024 .f32) (harg3 : arg3.IsWhole) (arg4 : Memref sig .tc .vmem S1024x1024 .bf16) (harg4 : arg4.IsWhole) (arg5 : Memref sig .tc .vmem S1024x768 .bf16) (harg5 : arg5.IsWhole) (arg6 : Memref sig .tc .vmem S1x1024x1024 .bf16) (harg6 : arg6.IsWhole) (arg7 : Memref sig .tc .vmem S1x1024x768 .f32) (harg7 : arg7.IsWhole) (arg8 : Memref sig .tc .vmem S1024x1024 .bf16) (harg8 : arg8.IsWhole)
    (x3 : Vec F S1x1024x1024 .f32) (x4 : Vec F S1024x1024 .bf16) (x5 : Vec F S1024x768 .bf16) (x7 : Vec F S1x1024x768 .f32) (E : Set ℕ) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ (∃ d, owns (c : Thread nD τ) arg8 fullShare d)
        ∗ (iprop(owns (c : Thread nD τ) arg3 fullShare x3 ∗ owns (c : Thread nD τ) arg4 fullShare x4 ∗ owns (c : Thread nD τ) arg5 fullShare x5 ∗ owns (c : Thread nD τ) arg6 fullShare (k0_pay2 (k0_pay1 x3) x4) ∗ owns (c : Thread nD τ) arg7 fullShare x7 ∗ owns (c : Thread nD τ) arg8 fullShare (k0_pay1 x3)) -∗ K ⟨⟩))
      ⊢ wp frame (wpE (defs₀ (F := F)) Variants.none c none) E (cc0_inproj i arg3 harg3 arg4 harg4 arg5 harg5 arg6 harg6 arg7 harg7 arg8 harg8) K := by
  simp only [cc0_inproj_eq_skeleton]; unfold cc0_inproj_skel
  unfold owns
  iintro ⟨⟨%f3, %hf3, H3⟩, ⟨%f4, %hf4, H4⟩, ⟨%f5, %hf5, H5⟩, ⟨%d6, %f6, -, H6⟩, ⟨%f7, %hf7, H7⟩, ⟨%d8, %f8, -, H8⟩, Hk⟩
  obtain rfl := harg3.eq_unread hf3
  obtain rfl := harg4.eq_unread hf4
  obtain rfl := harg5.eq_unread hf5
  obtain rfl := harg7.eq_unread hf7
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (rd_whole _ _ _ z3 _ _ _).trans (congrArg₂ k0_pay2 ?_ ((ld_whole (F := F) _ _ _ z2 _).trans (harg4.read_unread _)))
    unfold runA.sl.v9 View.readCov runA.sl.H8_1
    exact (ld_whole _ _ _ z2 _).trans ((rd_whole _ _ _ z2 _ _ _).trans (congrArg k0_pay1 ((ld_whole (F := F) _ _ _ z3 _).trans (harg3.read_unread _))))
  isplitl [H7]
  · iexists _; isplitr; · ipureintro; exact harg7.read_unread _
    iexact H7
  iexists _; isplitr; swap; · iexact H8
  ipureintro
  unfold runA.sl.H8_1; exact (rd_whole _ _ _ z2 _ _ _).trans (congrArg k0_pay1 ((ld_whole (F := F) _ _ _ z3 _).trans (harg3.read_unread _)))

set_option maxHeartbeats 4000000 in
/-- The column blocks after it. -/
theorem runB (c : Dev nD) (i : grid0.Coords) (hc1 : ¬ Scalar.cmpi .ne (Scalar.extui (Scalar.cmpi .eq (BitVec.ofNat 32 (i 2).val) 0#32)) 0#32 = 1#1) (hc2 : k0_cond2 i = 1#1) (hc3 : ¬ k0_cond3 i = 1#1) (arg3 : Memref sig .tc .vmem S1x1024x1024 .f32) (harg3 : arg3.IsWhole) (arg4 : Memref sig .tc .vmem S1024x1024 .bf16) (harg4 : arg4.IsWhole) (arg5 : Memref sig .tc .vmem S1024x768 .bf16) (harg5 : arg5.IsWhole) (arg6 : Memref sig .tc .vmem S1x1024x1024 .bf16) (harg6 : arg6.IsWhole) (arg7 : Memref sig .tc .vmem S1x1024x768 .f32) (harg7 : arg7.IsWhole) (arg8 : Memref sig .tc .vmem S1024x1024 .bf16) (harg8 : arg8.IsWhole)
    (x3 : Vec F S1x1024x1024 .f32) (x4 : Vec F S1024x1024 .bf16) (x5 : Vec F S1024x768 .bf16) (x7 : Vec F S1x1024x768 .f32) (x8 : Vec F S1024x1024 .bf16) (E : Set ℕ) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8
        ∗ (iprop(owns (c : Thread nD τ) arg3 fullShare x3 ∗ owns (c : Thread nD τ) arg4 fullShare x4 ∗ owns (c : Thread nD τ) arg5 fullShare x5 ∗ owns (c : Thread nD τ) arg6 fullShare (k0_pay2 x8 x4) ∗ owns (c : Thread nD τ) arg7 fullShare x7 ∗ owns (c : Thread nD τ) arg8 fullShare x8) -∗ K ⟨⟩))
      ⊢ wp frame (wpE (defs₀ (F := F)) Variants.none c none) E (cc0_inproj i arg3 harg3 arg4 harg4 arg5 harg5 arg6 harg6 arg7 harg7 arg8 harg8) K := by
  simp only [cc0_inproj_eq_skeleton]; unfold cc0_inproj_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg3.eq_unread hf3
  obtain rfl := harg4.eq_unread hf4
  obtain rfl := harg5.eq_unread hf5
  obtain rfl := harg7.eq_unread hf7
  obtain rfl := harg8.eq_unread hf8
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact (rd_whole _ _ _ z3 _ _ _).trans (congrArg₂ k0_pay2 ((ld_whole (F := F) _ _ _ z2 _).trans (harg8.read_unread _)) ((ld_whole (F := F) _ _ _ z2 _).trans (harg4.read_unread _)))
  isplitl [H7]
  · iexists _; isplitr; · ipureintro; exact harg7.read_unread _
    iexact H7
  iexists _; isplitr; · ipureintro; exact harg8.read_unread _
  iexact H8

set_option maxHeartbeats 4000000 in
/-- The tile's last point: the columns kept wide. -/
theorem runC (c : Dev nD) (i : grid0.Coords) (hc1 : ¬ Scalar.cmpi .ne (Scalar.extui (Scalar.cmpi .eq (BitVec.ofNat 32 (i 2).val) 0#32)) 0#32 = 1#1) (hc2 : ¬ k0_cond2 i = 1#1) (hc3 : k0_cond3 i = 1#1) (arg3 : Memref sig .tc .vmem S1x1024x1024 .f32) (harg3 : arg3.IsWhole) (arg4 : Memref sig .tc .vmem S1024x1024 .bf16) (harg4 : arg4.IsWhole) (arg5 : Memref sig .tc .vmem S1024x768 .bf16) (harg5 : arg5.IsWhole) (arg6 : Memref sig .tc .vmem S1x1024x1024 .bf16) (harg6 : arg6.IsWhole) (arg7 : Memref sig .tc .vmem S1x1024x768 .f32) (harg7 : arg7.IsWhole) (arg8 : Memref sig .tc .vmem S1024x1024 .bf16) (harg8 : arg8.IsWhole)
    (x3 : Vec F S1x1024x1024 .f32) (x4 : Vec F S1024x1024 .bf16) (x5 : Vec F S1024x768 .bf16) (x6 : Vec F S1x1024x1024 .bf16) (x8 : Vec F S1024x1024 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay3 x8 x5) ∗ owns (c : Thread nD τ) arg8 fullShare x8) -∗ K ⟨⟩))
      ⊢ wp frame (wpE (defs₀ (F := F)) Variants.none c none) E (cc0_inproj i arg3 harg3 arg4 harg4 arg5 harg5 arg6 harg6 arg7 harg7 arg8 harg8) K := by
  simp only [cc0_inproj_eq_skeleton]; unfold cc0_inproj_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3
  obtain rfl := harg4.eq_unread hf4
  obtain rfl := harg5.eq_unread hf5
  obtain rfl := harg6.eq_unread hf6
  obtain rfl := harg8.eq_unread hf8
  sl_exec (disch := first | sl_exact hc1 | sl_exact hc2 | sl_exact hc3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    exact (rd_whole _ _ _ z3 _ _ _).trans (congrArg₂ k0_pay3 ((ld_whole (F := F) _ _ _ z2 _).trans (harg8.read_unread _)) ((ld_whole (F := F) _ _ _ z2 _).trans (harg5.read_unread _)))
  iexists _; isplitr; · ipureintro; exact harg8.read_unread _
  iexact H8

variable (m : (ℓ : Loc nD τ sig) → Buf (Elt F) ℓ) (ρ : Dev nD → PrngReg)

/-! ## The proof data -/

/-- The rounded tile the scratch holds after `n` points. -/
def xbN (c : Dev nD) (n : ℕ) : Vec F S1024x1024 .bf16 :=
  if h : n - 1 < 320 then k0_pay1 (iblk m c 0 ⟨n - 1, h⟩) else k0_pay1 (iblk m c 0 ⟨0, by decide⟩)

/-- Between points: at a tile's start the scratch at anything, within a tile at the rounded tile; and the generator. -/
def PhiN (c : Dev nD) (n : ℕ) : sProp 𝕄 :=
  if n % 10 = 0 then Pipeline.ΦA spec0 c else
    iprop(owns (c : Thread nD τ) (Memref.whole cc0_scratch0) fullShare (xbN m c n) ∗ (∃ r, prngReg c r))

/-- The arrays as the region finds them; after the body each operand's buffer at its block, the narrow result's at the
    product of the tile and the column block, the wide one's at the product of the tile and the wide columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (k0_pay1 (iblk m c 0 t)) (iblk m c 1 t)
    | ⟨4, _⟩ => k0_pay3 (k0_pay1 (iblk m c 0 t)) (iblk m c 2 t)
  Φ t := PhiN m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (k0_pay1 (iblk m c 0 t)) (iblk m c 1 t) := by dsimp only [dats]
theorem after0_4 (c : Dev nD) (t : Fin cfg0.N) : (dats m 0 c).after 4 t = k0_pay3 (k0_pay1 (iblk m c 0 t)) (iblk m c 2 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-! ## Where the blocks stay -/

/-- The point before. -/
def prev (t : Fin cfg0.N) : Fin cfg0.N := ⟨t.val - 1, Nat.lt_of_le_of_lt (Nat.sub_le _ _) t.isLt⟩

theorem fetch0_1 : ∀ t : Fin cfg0.N, t.val % 10 = 9 → (cfg0.win 1).fetch t = false := by decide +kernel
theorem flush0_3 : ∀ t : Fin cfg0.N, t.val % 10 = 8 → (cfg0.win 3).flush t = false := by decide +kernel
theorem flush0_3' : ∀ t : Fin cfg0.N, ¬ t.val % 10 = 8 → (cfg0.win 3).flush t = true := by decide +kernel

/-- Within a tile the tile stays, -/
theorem iblk0_prev (c : Dev nD) (t : Fin cfg0.N) (h : ¬ t.val % 10 = 0) : iblk m c 0 t = iblk m c 0 (prev t) := by
  have hf : (cfg0.win 0).fetch t = false := by rw [Bool.eq_false_iff]; intro e; exact h ((fetch0_0 t).1 e)
  have d : ((cfg0.win 0).block).Idx → Elt F (cfg0.win 0).elt := iblk m c 0 t
  rw [← before0_0 m c t d, (dats m 0 c).before_unfetched_in 0 rfl t hf (fun _ => rfl)]
  unfold Dat.kept; dsimp only [dats]; rfl
/-- and the last point is still on the last column block. -/
theorem iblk1_prev (c : Dev nD) (t : Fin cfg0.N) (h : t.val % 10 = 9) : iblk m c 1 t = iblk m c 1 (prev t) := by
  have hf : (cfg0.win 1).fetch t = false := fetch0_1 t h
  have d : ((cfg0.win 1).block).Idx → Elt F (cfg0.win 1).elt := iblk m c 1 t
  rw [← before0_1 m c t d, (dats m 0 c).before_unfetched_in 1 rfl t hf (fun _ => rfl)]
  unfold Dat.kept; dsimp only [dats]; rfl

theorem xb_succ (c : Dev nD) (t : Fin cfg0.N) : xbN m c (t.val + 1) = k0_pay1 (iblk m c 0 t) := by
  unfold xbN; rw [dif_pos (show t.val + 1 - 1 < 320 from t.isLt)]; rfl
theorem xb_here (c : Dev nD) (t : Fin cfg0.N) (h : ¬ t.val % 10 = 0) : xbN m c t.val = k0_pay1 (iblk m c 0 t) := by
  unfold xbN; rw [dif_pos (show t.val - 1 < 320 from (prev t).isLt), iblk0_prev m c t h]; rfl

theorem coords_j : ∀ t : Fin cfg0.N, (grid0.coords t 2).val = t.val % 10 := by decide +kernel
theorem first_iff : ∀ i : grid0.Coords, (Scalar.cmpi .ne (Scalar.extui (Scalar.cmpi .eq (BitVec.ofNat 32 (i 2).val) 0#32)) 0#32 = 1#1) ↔ (i 2).val = 0 := by decide +kernel
theorem mid_iff : ∀ i : grid0.Coords, k0_cond2 i = 1#1 ↔ ¬ (i 2).val = 9 := by decide +kernel
theorem last_iff : ∀ i : grid0.Coords, k0_cond3 i = 1#1 ↔ (i 2).val = 9 := by decide +kernel

theorem first_at (t : Fin cfg0.N) : (Scalar.cmpi .ne (Scalar.extui (Scalar.cmpi .eq (BitVec.ofNat 32 (grid0.coords t 2).val) 0#32)) 0#32 = 1#1) ↔ t.val % 10 = 0 := by rw [first_iff, coords_j]
theorem mid_at (t : Fin cfg0.N) : k0_cond2 (grid0.coords t) = 1#1 ↔ ¬ t.val % 10 = 9 := by rw [mid_iff, coords_j]
theorem last_at (t : Fin cfg0.N) : k0_cond3 (grid0.coords t) = 1#1 ↔ t.val % 10 = 9 := by rw [last_iff, coords_j]

theorem idle3 (t : Fin cfg0.N) (h : t.val % 10 = 9) : idle0 3 (grid0.coords t) = true := by
  have : ¬ k0_cond2 (grid0.coords t) = 1#1 := by rw [mid_at]; exact fun e => e h
  show (!(k0_cond2 (grid0.coords t) == 1#1)) = true
  simp [this]
theorem busy3 (t : Fin cfg0.N) (h : ¬ t.val % 10 = 9) : idle0 3 (grid0.coords t) = false := by
  have : k0_cond2 (grid0.coords t) = 1#1 := by rw [mid_at]; exact h
  show (!(k0_cond2 (grid0.coords t) == 1#1)) = false
  simp [this]
theorem idle4 (t : Fin cfg0.N) (h : ¬ t.val % 10 = 9) : idle0 4 (grid0.coords t) = true := by
  have : ¬ k0_cond3 (grid0.coords t) = 1#1 := by rw [last_at]; exact h
  show (!(k0_cond3 (grid0.coords t) == 1#1)) = true
  simp [this]
theorem busy4 (t : Fin cfg0.N) (h : t.val % 10 = 9) : idle0 4 (grid0.coords t) = false := by
  have : k0_cond3 (grid0.coords t) = 1#1 := by rw [last_at]; exact h
  show (!(k0_cond3 (grid0.coords t) == 1#1)) = false
  simp [this]
theorem flush4 (t : Fin cfg0.N) (h : ¬ t.val % 10 = 9) : (win0 4).flush t = false := by
  rw [Bool.eq_false_iff]; intro e; exact h ((flush0_4 t).1 e)

/-- At a tile's last point the narrow result's buffer holds what the point before left. -/
theorem before3_last (c : Dev nD) (t : Fin cfg0.N) (h : t.val % 10 = 9) (d) :
    (dats m 0 c).before 3 t d = k0_pay2 (k0_pay1 (iblk m c 0 t)) (iblk m c 1 t) := by
  have hf : (cfg0.win 3).flush (prev t) = false := flush0_3 _ (show (t.val - 1) % 10 = 8 by omega)
  have hb : cfg0.idle 3 (cfg0.grid.coords (prev t)) = false := busy3 (prev t) (show ¬ (t.val - 1) % 10 = 9 by omega)
  rw [(dats m 0 c).before_of_pos 3 t (by omega) ((cfg0.win 3).fetch_out rfl t), iblk1_prev m c t h, iblk0_prev m c t (by omega)]
  refine (if_neg (by rw [show (⟨t.val - 1, _⟩ : Fin cfg0.N) = prev t from rfl, hf]; exact Bool.false_ne_true)).trans ?_
  unfold Dat.left
  rw [show (⟨t.val - 1, _⟩ : Fin cfg0.N) = prev t from rfl, hb]
  unfold Dat.kept; dsimp only [dats]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t)
    ∗ (match cfg0.idle 3 (cfg0.grid.coords t) with
      | true => match (cfg0.win 3).flush t with
        | false => iprop(∃ d, owns (c : Thread nD τ) (st0_3 t) fullShare ((dats m 0 c).before 3 t d))
        | true => owns (c : Thread nD τ) (st0_3 t) fullShare ((dats m 0 c).after 3 t)
      | false => owns (c : Thread nD τ) (st0_3 t) fullShare ((dats m 0 c).after 3 t))
    ∗ (match cfg0.idle 4 (cfg0.grid.coords t) with
      | true => match (cfg0.win 4).flush t with
        | false => iprop(∃ d, owns (c : Thread nD τ) (st0_4 t) fullShare ((dats m 0 c).before 4 t d))
        | true => owns (c : Thread nD τ) (st0_4 t) fullShare ((dats m 0 c).after 4 t)
      | false => owns (c : Thread nD τ) (st0_4 t) fullShare ((dats m 0 c).after 4 t)))

/-- What the region keeps between points at a tile's start. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]

theorem Phi_start (c : Dev nD) (n : ℕ) (h : n % 10 = 0) : PhiN (F := F) m c n = Pipeline.ΦA spec0 c := if_pos h
theorem Phi_within (c : Dev nD) (n : ℕ) (h : ¬ n % 10 = 0) : PhiN (F := F) m c n =
    iprop(owns (c : Thread nD τ) (Memref.whole cc0_scratch0) fullShare (xbN m c n) ∗ (∃ r, prngReg c r)) := if_neg h

set_option maxHeartbeats 4000000 in
theorem sound_first (c : Dev nD) (t : Fin cfg0.N) (h : t.val % 10 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4]
  rw [busy3 t (by omega), idle4 t (by omega), flush4 t (by omega), Phi_start m c _ h, Phi_within m c (t.val + 1) (by omega), PhiA_eq, xb_succ]
  iintro ⟨⟨H8, Hr⟩, Ho, ⟨%d0, H0⟩, ⟨%d1, H1⟩, ⟨%d2, H2⟩, ⟨%d3, H3⟩, ⟨%d4, H4⟩⟩
  iapply (runA c (grid0.coords t) ((first_at t).2 h) ((mid_at t).2 (by omega)) (fun e => absurd ((last_at t).1 e) (by omega)) _ _ _ _ _ _ _ _ _ _ _ _ (iblk m c 0 t) (iblk m c 1 t) (iblk m c 2 t) ((dats m 0 c).before 4 t d4) Set.univ _)
  isplitl [H0]; · iexact H0
  isplitl [H1]; · iexact H1
  isplitl [H2]; · iexact H2
  isplitl [H3]; · iexists _; iexact H3
  isplitl [H4]; · iexact H4
  isplitl [H8]; · iexact H8
  iintro ⟨H0, H1, H2, H3, H4, H8⟩
  isplitl [Hr H8]
  · isplitl [H8]; · iexact H8
    iexact Hr
  isplitl [Ho]; · iexact Ho
  isplitl [H0]; · iexact H0
  isplitl [H1]; · iexact H1
  isplitl [H2]; · iexact H2
  isplitl [H3]; · iexact H3
  iexists d4; iexact H4

set_option maxHeartbeats 4000000 in
theorem sound_mid (c : Dev nD) (t : Fin cfg0.N) (h : ¬ t.val % 10 = 0) (h9 : ¬ t.val % 10 = 9) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4]
  rw [busy3 t h9, idle4 t h9, flush4 t h9, Phi_within m c _ h, Phi_within m c (t.val + 1) (by omega), xb_succ, xb_here m c t h]
  iintro ⟨⟨H8, Hr⟩, Ho, ⟨%d0, H0⟩, ⟨%d1, H1⟩, ⟨%d2, H2⟩, ⟨%d3, H3⟩, ⟨%d4, H4⟩⟩
  iapply (runB c (grid0.coords t) (fun e => h ((first_at t).1 e)) ((mid_at t).2 h9) (fun e => h9 ((last_at t).1 e)) _ _ _ _ _ _ _ _ _ _ _ _ (iblk m c 0 t) (iblk m c 1 t) (iblk m c 2 t) ((dats m 0 c).before 4 t d4) (k0_pay1 (iblk m c 0 t)) Set.univ _)
  isplitl [H0]; · iexact H0
  isplitl [H1]; · iexact H1
  isplitl [H2]; · iexact H2
  isplitl [H3]; · iexists _; iexact H3
  isplitl [H4]; · iexact H4
  isplitl [H8]; · iexact H8
  iintro ⟨H0, H1, H2, H3, H4, H8⟩
  isplitl [Hr H8]
  · isplitl [H8]; · iexact H8
    iexact Hr
  isplitl [Ho]; · iexact Ho
  isplitl [H0]; · iexact H0
  isplitl [H1]; · iexact H1
  isplitl [H2]; · iexact H2
  isplitl [H3]; · iexact H3
  iexists d4; iexact H4

set_option maxHeartbeats 4000000 in
theorem sound_last (c : Dev nD) (t : Fin cfg0.N) (h : t.val % 10 = 9) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4]
  rw [idle3 t h, flush0_3' t (by omega), busy4 t h, Phi_within m c _ (by omega), Phi_start m c (t.val + 1) (by omega), PhiA_eq, xb_here m c t (by omega)]
  simp only [before3_last m c t h]
  iintro ⟨⟨H8, Hr⟩, Ho, ⟨%d0, H0⟩, ⟨%d1, H1⟩, ⟨%d2, H2⟩, ⟨%d3, H3⟩, ⟨%d4, H4⟩⟩
  iapply (runC c (grid0.coords t) (fun e => absurd ((first_at t).1 e) (by omega)) (fun e => (mid_at t).1 e h) ((last_at t).2 h) _ _ _ _ _ _ _ _ _ _ _ _ (iblk m c 0 t) (iblk m c 1 t) (iblk m c 2 t) (k0_pay2 (k0_pay1 (iblk m c 0 t)) (iblk m c 1 t)) (k0_pay1 (iblk m c 0 t)) Set.univ _)
  isplitl [H0]; · iexact H0
  isplitl [H1]; · iexact H1
  isplitl [H2]; · iexact H2
  isplitl [H3]; · iexact H3
  isplitl [H4]; · iexists _; iexact H4
  isplitl [H8]; · iexact H8
  iintro ⟨H0, H1, H2, H3, H4, H8⟩
  isplitl [Hr H8]
  · isplitl [H8]; · iexists _; iexact H8
    iexact Hr
  isplitl [Ho]; · iexact Ho
  isplitl [H0]; · iexact H0
  isplitl [H1]; · iexact H1
  isplitl [H2]; · iexact H2
  isplitl [H3]; · iexact H3
  iexact H4

theorem sound_body (c : Dev nD) (t : Fin cfg0.N) :
    bodyPre m c t ⊢ wp frame (wpE (defs₀ (F := F)) Variants.none c none) Set.univ (bodyAt0 t) (fun _ => bodyPost m c t) := by
  by_cases h : t.val % 10 = 0
  · exact sound_first m c t h
  · by_cases h9 : t.val % 10 = 9
    · exact sound_last m c t h9
    · exact sound_mid m c t h h9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = PhiN m c 0 from rfl, Phi_start m c 0 rfl])
    (hout := fun c => by rw [show (dats m 0 c).Φ (Fin.last cfg0.N) = PhiN m c 320 from rfl, Phi_start m c 320 rfl])

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.Val
-- ==== Proof.PrjResult.lean ====
/-
  What the input projection leaves in its two results' arrays.
-/
module

public import proofs.«01_k».proof.Proof.PrjRun
public import proofs.«01_k».proof.Proof.MoeWant
public import Idealize.ShloMosaic.Lib.Pipeline.ValueKit
public import Idealize.ShloMosaic.Lib.StableHlo.ReadAt

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.Tactic

open Idealize.ShloMosaic.Pipeline (Dat Cfg Window BodyObligation cellOf)

variable (m : (ℓ : Loc nD τ sig) → Buf (Elt Ideal) ℓ)

/-- The arguments. -/
def xA (c : Dev nD) : (⟨3, ![2, 16384, 1024]⟩ : Shape).Idx → EReal := m (c, Proc.tc.devRef main_arg0)
def wA (c : Dev nD) : (⟨2, ![1024, 9912]⟩ : Shape).Idx → EReal := m (c, Proc.tc.devRef main_arg1)
def vA (c : Dev nD) : (⟨2, ![1024, 32]⟩ : Shape).Idx → EReal := m (c, Proc.tc.devRef main_arg2)

/-- The packed weights as the launch finds them. -/
def wO (c : Dev nD) : (⟨2, ![1024, 9216]⟩ : Shape).Idx → EReal := V m c main_v9
def fO (c : Dev nD) : (⟨2, ![1024, 768]⟩ : Shape).Idx → EReal := V m c main_v20

/-- A column of the weights by its number. -/
def col {n : ℕ} (W : (⟨2, ![1024, n]⟩ : Shape).Idx → EReal) (k : Fin 1024) (a : ℕ) : EReal := if h : a < n then W (ix2 k ⟨a, h⟩) else 0
theorem col_eq {n : ℕ} (W : (⟨2, ![1024, n]⟩ : Shape).Idx → EReal) (k : Fin 1024) {a a' : ℕ} (h : a < n) (e : a = a') : W (ix2 k ⟨a, h⟩) = col W k a' := by
  subst e; unfold col; rw [dif_pos h]

/-- The weights' column behind a column of the narrow result, -/
def wcol (j : ℕ) : ℕ := if j < 4096 then j + 5816 else if j < 5120 then j - 3680 else if j < 7168 then j - 3664 else j - 3656
/-- and what is behind a column of the wide one. -/
def fcol (W : (⟨2, ![1024, 9912]⟩ : Shape).Idx → EReal) (U : (⟨2, ![1024, 32]⟩ : Shape).Idx → EReal) (k : Fin 1024) (j : ℕ) : EReal :=
  if j < 256 then col W k j else if j < 512 then col W k (j + 5304) else if j < 672 then col W k (j - 256) else if j < 688 then col W k (j + 768)
    else if j < 696 then col W k (j + 2816) else if j < 728 then col U k (j - 696) else 0

theorem dite_to {p : Prop} [Decidable p] {a : p → EReal} {b : ¬p → EReal} {z : EReal} (h : ∀ q, a q = z) (h' : ∀ q, b q = z) : dite p a b = z := by
  by_cases q : p
  · rw [dif_pos q]; exact h q
  · rw [dif_neg q]; exact h' q

theorem wO_apply (c : Dev nD) (k : Fin 1024) (j : Fin 9216) : wO m c (ix2 k j) = col (wA m c) k (wcol j) := by
  have hj := j.isLt
  unfold wO V
  after_reads_at
  repeat' with_reducible refine dite_to (fun _ => ?_) (fun _ => ?_)
  all_goals after_reads_at
  all_goals refine col_eq (wA m c) k _ ?_
  all_goals (unfold wcol; split_ifs <;> omega)

theorem fcol_w {W : (⟨2, ![1024, 9912]⟩ : Shape).Idx → EReal} {U : (⟨2, ![1024, 32]⟩ : Shape).Idx → EReal} {k : Fin 1024} {j a : ℕ} (ha : a < 9912)
    (h : (j < 256 ∧ a = j) ∨ (256 ≤ j ∧ j < 512 ∧ a = j + 5304) ∨ (512 ≤ j ∧ j < 672 ∧ a = j - 256) ∨ (672 ≤ j ∧ j < 688 ∧ a = j + 768) ∨ (688 ≤ j ∧ j < 696 ∧ a = j + 2816)) :
    W (ix2 k ⟨a, ha⟩) = fcol W U k j := by
  rw [col_eq W k ha rfl]
  unfold fcol
  split_ifs <;> first | omega | (congr 1 <;> omega)
theorem fcol_v {W : (⟨2, ![1024, 9912]⟩ : Shape).Idx → EReal} {U : (⟨2, ![1024, 32]⟩ : Shape).Idx → EReal} {k : Fin 1024} {j a : ℕ} (ha : a < 32) (h : 696 ≤ j) (e : a = j - 696) :
    U (ix2 k ⟨a, ha⟩) = fcol W U k j := by
  rw [col_eq U k ha rfl]
  unfold fcol
  split_ifs <;> first | omega | (congr 1 <;> omega)
theorem fcol_0 {W : (⟨2, ![1024, 9912]⟩ : Shape).Idx → EReal} {U : (⟨2, ![1024, 32]⟩ : Shape).Idx → EReal} {k : Fin 1024} {j : ℕ} (h : 728 ≤ j) : 0 = fcol W U k j := by
  unfold fcol
  split_ifs <;> first | omega | rfl

theorem fO_apply (c : Dev nD) (k : Fin 1024) (j : Fin 768) : fO m c (ix2 k j) = fcol (wA m c) (vA m c) k j := by
  have hj := j.isLt
  unfold fO V
  after_reads_at
  repeat' with_reducible refine dite_to (fun _ => ?_) (fun _ => ?_)
  all_goals after_reads_at
  all_goals repeat' with_reducible refine dite_to (fun _ => ?_) (fun _ => ?_)
  all_goals try after_reads_at
  all_goals first
    | exact fcol_w (W := wA m c) (U := vA m c) (by omega) (by omega)
    | exact fcol_v (W := wA m c) (U := vA m c) (by omega) (by omega) (by omega)
    | (refine Eq.trans ?_ (fcol_0 (by omega)); show (((0#32 : BitVec 32).toInt : ℝ) : EReal) = 0; norm_num)

/-- The blocks' places at a point. -/
theorem idx (t : Fin cfg0.N) :
    win0_0.index t = ![(grid0.coords t 0).val, (grid0.coords t 1).val, 0] ∧ win0_1.index t = ![0, min (grid0.coords t 2).val 8]
    ∧ win0_2.index t = ![0, 0] ∧ win0_3.index t = ![(grid0.coords t 0).val, (grid0.coords t 1).val, min (grid0.coords t 2).val 8]
    ∧ win0_4.index t = ![(grid0.coords t 0).val, (grid0.coords t 1).val, 0] := by
  revert t; decide +kernel

/-- A point's batch, tile and column block. -/
def pb (t : Fin cfg0.N) : Fin 2 := grid0.coords t 0
def pi (t : Fin cfg0.N) : Fin 16 := grid0.coords t 1
def pj (t : Fin cfg0.N) : Fin 9 := ⟨min (grid0.coords t 2).val 8, by omega⟩
/-- A token of a tile, a column of a column block. -/
def tok (i : Fin 16) (y : Fin 1024) : Fin 16384 := ⟨i.val * 1024 + y.val, by omega⟩
def clm (j : Fin 9) (y : Fin 1024) : Fin 9216 := ⟨j.val * 1024 + y.val, by omega⟩

theorem blk0 (c : Dev nD) (t : Fin cfg0.N) (y k : Fin 1024) : (iblk m c 0 t (ix3 0 y k) : EReal) = xA m c (ix3 (pb t) (tok (pi t) y) k) := by
  rw [show xA m c = V m c main_arg0 from (V_main_arg0 m c).symm]
  unfold pb pi tok
  blk_ext [iblk, idx t]
theorem blk1 (c : Dev nD) (t : Fin cfg0.N) (k y : Fin 1024) : (iblk m c 1 t (ix2 k y) : EReal) = wO m c (ix2 k (clm (pj t) y)) := by
  unfold wO clm pj
  blk_ext [iblk, idx t]
theorem blk2 (c : Dev nD) (t : Fin cfg0.N) (k : Fin 1024) (y : Fin 768) : (iblk m c 2 t (ix2 k y) : EReal) = fO m c (ix2 k y) := by
  unfold fO
  blk_ext [iblk, idx t]

theorem pay21_apply (x : Vec Ideal S1x1024x1024 .f32) (w : Vec Ideal S1024x1024 .bf16) (y d : Fin 1024) :
    (k0_pay2 (k0_pay1 x) w (ix3 0 y d) : EReal) = ∑ k : Fin 1024, x (ix3 0 y k) * w (ix2 k d) := by
  pointwise [k0_pay2, k0_pay1]
theorem pay31_apply (x : Vec Ideal S1x1024x1024 .f32) (w : Vec Ideal S1024x768 .bf16) (y : Fin 1024) (d : Fin 768) :
    (k0_pay3 (k0_pay1 x) w (ix3 0 y d) : EReal) = ∑ k : Fin 1024, x (ix3 0 y k) * w (ix2 k d) := by
  pointwise [k0_pay3, k0_pay1]

/-- The two results. -/
def G16 (c : Dev nD) : S2x16384x9216.Idx → EReal := fun z => ∑ k : Fin 1024, xA m c (ix3 (z 0) (z 1) k) * col (wA m c) k (wcol (z 2).val)
def G32 (c : Dev nD) : S2x16384x768.Idx → EReal := fun z => ∑ k : Fin 1024, xA m c (ix3 (z 0) (z 1) k) * fcol (wA m c) (vA m c) k (z 2).val

theorem result16 (c : Dev nD) : (dats m 0 c).arrAt 3 cfg0.N = G16 m c := by
  refine (dats m 0 c).arrAt_eq_of_covers 3 _ (by decide +kernel) fun t hf y => ?_
  blk_simp
  rw [after0_3]
  obtain ⟨y1, y2, rfl⟩ : ∃ (y1 y2 : Fin 1024), y = (ix3 0 y1 y2 : S1x1024x1024.Idx) := by
    refine ⟨y 1, y 2, ?_⟩
    funext a
    apply Fin.ext
    match a with
    | ⟨0, _⟩ => exact Nat.lt_one_iff.1 (y 0).isLt
    | ⟨1, _⟩ => rfl
    | ⟨2, _⟩ => rfl
  have e : (win0_3.blk t).view.emb (ix3 0 y1 y2 : S1x1024x1024.Idx)
      = (ix3 (pb t) (tok (pi t) y1) (clm (pj t) y2) : S2x16384x9216.Idx) := by
    unfold pb pi tok clm pj
    blk_ext [idx t]
  rw [e]
  refine (pay21_apply _ _ y1 y2).trans ?_
  simp only [blk0, blk1, wO_apply]
  rfl

theorem result32 (c : Dev nD) : (dats m 0 c).arrAt 4 cfg0.N = G32 m c := by
  refine (dats m 0 c).arrAt_eq_of_covers 4 _ (by decide +kernel) fun t hf y => ?_
  blk_simp
  rw [after0_4]
  obtain ⟨y1, y2, rfl⟩ : ∃ (y1 : Fin 1024) (y2 : Fin 768), y = (ix3 0 y1 y2 : S1x1024x768.Idx) := by
    refine ⟨y 1, y 2, ?_⟩
    funext a
    apply Fin.ext
    match a with
    | ⟨0, _⟩ => exact Nat.lt_one_iff.1 (y 0).isLt
    | ⟨1, _⟩ => rfl
    | ⟨2, _⟩ => rfl
  have e : (win0_4.blk t).view.emb (ix3 0 y1 y2 : S1x1024x768.Idx)
      = (ix3 (pb t) (tok (pi t) y1) y2 : S2x16384x768.Idx) := by
    unfold pb pi tok
    blk_ext [idx t]
  rw [e]
  refine (pay31_apply _ _ y1 y2).trans ?_
  simp only [blk0, blk2, fO_apply]
  rfl

end Cert.Kernel3Ideal.Val
-- ==== Proof.PrjRef.lean ====
/-
  What the input projection's reference leaves.
-/
module

public import proofs.«01_k».proof.Proof.PrjResult
public import proofs.«01_k».proof.Proof.Gen.Reference3Ideal.Read

@[expose] public section

set_option maxRecDepth 16384

noncomputable section

namespace Cert.Reference3Ideal.Val

open Cert.Reference3Ideal Cert.Reference3Ideal.Read
open Cert.Kernel3Ideal.Val (col col_eq wcol fcol fcol_w fcol_v fcol_0 dite_to)
open Idealize.ShloMosaic Idealize.ShloMosaic.TcCoe Idealize.ShloMosaic.Tactic

variable (x0 : (⟨S2x16384x1024, .f32⟩ : BufTy).Contents (Elt Ideal)) (x1 : (⟨S1024x9912, .f32⟩ : BufTy).Contents (Elt Ideal)) (x2 : (⟨S1024x32, .f32⟩ : BufTy).Contents (Elt Ideal))

/-- The joined weights. -/
theorem v0_apply (k : Fin 1024) (a : Fin 9944) : (val_main_v0 (F := Ideal) x1 x2 (ix2 k a) : EReal) = if a.val < 9912 then col x1 k a.val else col x2 k (a.val - 9912) := by
  have ha := a.isLt
  pointwise [val_main_v0]
  refine dite_to (fun h => ?_) (fun h => ?_)
  · rw [if_pos h]; exact col_eq x1 k _ rfl
  · rw [if_neg h]; exact col_eq x2 k _ rfl

/-- The joined product. -/
theorem v1_apply (b : Fin 2) (n : Fin 16384) (a : Fin 9944) : (val_main_v1 (F := Ideal) x0 x1 x2 (ix3 b n a) : EReal)
    = ∑ k : Fin 1024, x0 (ix3 b n k) * (if a.val < 9912 then col x1 k a.val else col x2 k (a.val - 9912)) := by
  rw [val_main_v1_apply]
  refine Finset.sum_congr rfl fun k _ => ?_
  have e1 : lidx_main_v1 (ix3 b n a) k = ix3 b n k := by
    funext i; match i with | ⟨0, _⟩ => rfl | ⟨1, _⟩ => rfl | ⟨2, _⟩ => rfl
  have e2 : ridx_main_v1 (ix3 b n a) k = ix2 k a := by
    funext i; match i with | ⟨0, _⟩ => rfl | ⟨1, _⟩ => rfl
  rw [e1, e2, v0_apply]

theorem v1_w (b : Fin 2) (n : Fin 16384) {a a' : ℕ} (ha : a < 9944) (h : a < 9912) (e : a = a') : (val_main_v1 (F := Ideal) x0 x1 x2 (ix3 b n ⟨a, ha⟩) : EReal)
    = ∑ k : Fin 1024, x0 (ix3 b n k) * col x1 k a' := by
  subst e
  rw [v1_apply]
  refine Finset.sum_congr rfl fun k _ => ?_
  rw [if_pos (show (⟨a, ha⟩ : Fin 9944).val < 9912 from h)]
theorem v1_f (b : Fin 2) (n : Fin 16384) {a j : ℕ} (ha : a < 9944)
    (h : (j < 256 ∧ a = j) ∨ (256 ≤ j ∧ j < 512 ∧ a = j + 5304) ∨ (512 ≤ j ∧ j < 672 ∧ a = j - 256) ∨ (672 ≤ j ∧ j < 688 ∧ a = j + 768) ∨ (688 ≤ j ∧ j < 696 ∧ a = j + 2816)
      ∨ (696 ≤ j ∧ j < 728 ∧ a = j + 9216)) : (val_main_v1 (F := Ideal) x0 x1 x2 (ix3 b n ⟨a, ha⟩) : EReal)
    = ∑ k : Fin 1024, x0 (ix3 b n k) * fcol x1 x2 k j := by
  rw [v1_apply]
  refine Finset.sum_congr rfl fun k _ => ?_
  dsimp only
  congr 1
  by_cases q : a < 9912
  · rw [if_pos q, ← fcol_w (W := x1) (U := x2) (k := k) q (by omega)]; exact (col_eq x1 k q rfl).symm
  · rw [if_neg q, ← fcol_v (W := x1) (U := x2) (k := k) (show a - 9912 < 32 by omega) (by omega) (by omega)]; exact (col_eq x2 k _ rfl).symm

theorem v21_apply (b : Fin 2) (n : Fin 16384) (j : Fin 9216) : (val_main_v21 (F := Ideal) x0 x1 x2 (ix3 b n j) : EReal)
    = ∑ k : Fin 1024, x0 (ix3 b n k) * col x1 k (wcol j.val) := by
  have hj := j.isLt
  rw [val_main_v21_apply]
  pointwise [val_main_v18, val_main_v16, val_main_v5, val_main_v6, val_main_v7, val_main_v9, val_main_v10, val_main_v13, val_main_v14]
  repeat' with_reducible refine dite_to (fun _ => ?_) (fun _ => ?_)
  all_goals refine v1_w x0 x1 x2 b n _ (by omega) ?_
  all_goals (unfold wcol; split_ifs <;> omega)

theorem v20_apply (b : Fin 2) (n : Fin 16384) (j : Fin 768) : (val_main_v20 (F := Ideal) x0 x1 x2 (ix3 b n j) : EReal)
    = ∑ k : Fin 1024, x0 (ix3 b n k) * fcol x1 x2 k j.val := by
  have hj := j.isLt
  pointwise [val_main_v20, val_main_v19, val_main_cst, val_main_v2, val_main_v15, val_main_v3, val_main_v4, val_main_v8, val_main_v11, val_main_v12, val_main_v17]
  repeat' with_reducible refine dite_to (fun _ => ?_) (fun _ => ?_)
  all_goals first
    | exact v1_f x0 x1 x2 b n _ (by omega)
    | exact (Finset.sum_eq_zero fun k _ => by rw [← fcol_0 (W := x1) (U := x2) (k := k) (j := j.val) (by omega), mul_zero]).symm

end Cert.Reference3Ideal.Val
-- ==== Proof.MrgResult.lean ====
/-
  What the merge leaves in the result's array.
-/
module

public import proofs.«01_k».proof.Proof.MoeTrip
public import proofs.«01_k».proof.Proof.MoeWant
public import proofs.«01_k».proof.Proof.Gen.Kernel4Ideal.Value
public import Idealize.ShloMosaic.Lib.Pipeline.ValueKit
public import Idealize.ShloMosaic.Lib.StableHlo.ReadAt

@[expose] public section

set_option maxRecDepth 16384

noncomputable section

namespace Cert.Kernel4Ideal.Val

open Cert.Kernel4Ideal Cert.Kernel4Ideal.Gen
open Idealize.ShloMosaic Idealize.ShloMosaic.TcCoe Idealize.ShloMosaic.Tactic

open Idealize.ShloMosaic.Pipeline (Dat Cfg Window BodyObligation cellOf)
open Cert.Route (norm mean)
open Cert.Kernel2Ideal.Val (rd_whole ld_whole z2 z3)

section
variable {F : FTy → Type} [FloatOps F]

/-- A branch's gates in the block of gates, -/
def gb (x : Vec F S1x512x4096 .bf16) (q : Fin 4) : Vec F S1x512x1024 .bf16 :=
  View.ld x (Rect.unit (s := S1x512x4096) ![0, 0, q.val * 1024] S1x512x1024.size (by revert q; decide))
/-- and its weights. -/
def wb (x : Vec F S4x512x1024 .bf16) (q : Fin 4) : Vec F S1x512x1024 .bf16 :=
  View.ld x (Rect.unit (s := S4x512x1024) ![q.val, 0, 0] S1x512x1024.size (by revert q; decide))

theorem rdG {κ : Kind} {sp : Space} (b : Memref sig κ sp S1x512x4096 .bf16) (hb : b.IsWhole) (x : Vec F S1x512x4096 .bf16) (q : Fin 4)
    {o : Fin 3 → ℕ} (e : o = ![0, 0, q.val * 1024]) (p : ∀ a, o a + S1x512x1024.size a ≤ S1x512x4096.size a) :
    b.view.readAt (Elt F) (Rect.unit (s := S1x512x4096) o S1x512x1024.size p).toLoadRect (hb.unread x) = gb x q := by
  subst e; rw [View.readAt_eq_ld, hb.read_unread]; rfl
theorem rdW {κ : Kind} {sp : Space} (b : Memref sig κ sp S4x512x1024 .bf16) (hb : b.IsWhole) (x : Vec F S4x512x1024 .bf16) (q : Fin 4)
    {o : Fin 3 → ℕ} (e : o = ![q.val, 0, 0]) (p : ∀ a, o a + S1x512x1024.size a ≤ S4x512x1024.size a) :
    b.view.readAt (Elt F) (Rect.unit (s := S4x512x1024) o S1x512x1024.size p).toLoadRect (hb.unread x) = wb x q := by
  subst e; rw [View.readAt_eq_ld, hb.read_unread]; rfl

/-- The block a point writes back. -/
def body (x0 : Vec F S1x512x512 .bf16) (x1 : Vec F S1x512x512 .bf16) (x2 : Vec F S1x512x512 .bf16) (x3 : Vec F S1x512x512 .bf16) (x4 : Vec F S1x512x4096 .bf16) (x5 : Vec F S1x512x1024 .f32) (x6 : Vec F S4x512x1024 .bf16) (x7 : Vec F S1024x1024 .bf16) (x8 : Vec F S1x1024 .f32) (x9 : Vec F S1x1024 .f32) : Vec F S1x512x1024 .f32 :=
  k0_pay1 (k0_pay4 (k0_pay2 (gb x4 0) x0 (wb x6 0)) (k0_pay3 (gb x4 1) x1 (wb x6 1)) (gb x4 2) x2 (wb x6 2)) (k0_pay5 (gb x4 3) x3 (wb x6 3)) x7 x5 x8 x9

set_option maxHeartbeats 4000000 in
theorem out_eq (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x4096 .bf16) (harg6 : arg6.IsWhole) (arg7 : Memref sig .tc .vmem S1x512x1024 .f32) (harg7 : arg7.IsWhole) (arg8 : Memref sig .tc .vmem S4x512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x512x1024 .f32) (harg12 : arg12.IsWhole) (x0 : Vec F S1x512x512 .bf16) (x1 : Vec F S1x512x512 .bf16) (x2 : Vec F S1x512x512 .bf16) (x3 : Vec F S1x512x512 .bf16) (x4 : Vec F S1x512x4096 .bf16) (x5 : Vec F S1x512x1024 .f32) (x6 : Vec F S4x512x1024 .bf16) (x7 : Vec F S1024x1024 .bf16) (x8 : Vec F S1x1024 .f32) (x9 : Vec F S1x1024 .f32) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 = body x0 x1 x2 x3 x4 x5 x6 x7 x8 x9 := by
  have w2 := (ld_whole (F := F) arg2.view (harg2.unread x0) ![0, 0, 0] z3 inb_S1x512x512_S1x512x512_0_0_0).trans (harg2.read_unread x0)
  have w3 := (ld_whole (F := F) arg3.view (harg3.unread x1) ![0, 0, 0] z3 inb_S1x512x512_S1x512x512_0_0_0).trans (harg3.read_unread x1)
  have w4 := (ld_whole (F := F) arg4.view (harg4.unread x2) ![0, 0, 0] z3 inb_S1x512x512_S1x512x512_0_0_0).trans (harg4.read_unread x2)
  have w5 := (ld_whole (F := F) arg5.view (harg5.unread x3) ![0, 0, 0] z3 inb_S1x512x512_S1x512x512_0_0_0).trans (harg5.read_unread x3)
  have w7 := (ld_whole (F := F) arg7.view (harg7.unread x5) ![0, 0, 0] z3 inb_S1x512x1024_S1x512x1024_0_0_0).trans (harg7.read_unread x5)
  have w9 := (ld_whole (F := F) arg9.view (harg9.unread x7) ![0, 0] z2 inb_S1024x1024_S1024x1024_0_0).trans (harg9.read_unread x7)
  have w10 := (ld_whole (F := F) arg10.view (harg10.unread x8) ![0, 0] z2 inb_S1x1024_S1x1024_0_0).trans (harg10.read_unread x8)
  have w11 := (ld_whole (F := F) arg11.view (harg11.unread x9) ![0, 0] z2 inb_S1x1024_S1x1024_0_0).trans (harg11.read_unread x9)
  have g0 := rdG arg6 harg6 x4 0 rfl inb_S1x512x4096_S1x512x1024_0_0_0
  have g1 := rdG arg6 harg6 x4 1 rfl inb_S1x512x4096_S1x512x1024_0_0_1024
  have g2 := rdG arg6 harg6 x4 2 rfl inb_S1x512x4096_S1x512x1024_0_0_2048
  have g3 := rdG arg6 harg6 x4 3 rfl inb_S1x512x4096_S1x512x1024_0_0_3072
  have u0 := rdW arg8 harg8 x6 0 rfl inb_S4x512x1024_S1x512x1024_0_0_0
  have u1 := rdW arg8 harg8 x6 1 rfl inb_S4x512x1024_S1x512x1024_1_0_0
  have u2 := rdW arg8 harg8 x6 2 rfl inb_S4x512x1024_S1x512x1024_2_0_0
  have u3 := rdW arg8 harg8 x6 3 rfl inb_S4x512x1024_S1x512x1024_3_0_0
  unfold out0_A_10 kernelRun0_A
  refine (rd_whole _ _ _ z3 _ _ _).trans ?_
  unfold body
  rw [← g0, ← g1, ← g2, ← g3, ← u0, ← u1, ← u2, ← u3]
  refine congr (congr (congr (congr (congr (congrArg k0_pay1 ?_) ?_) w9) w7) w10) w11
  · exact congr (congr (congr (congr (congrArg k0_pay4 (congrFun (congrArg (k0_pay2 _) w2) _)) (congrFun (congrArg (k0_pay3 _) w3) _)) rfl) w4) rfl
  · exact congrFun (congrArg (k0_pay5 _) w5) _
end

theorem gb_apply (x : Vec Ideal S1x512x4096 .bf16) (q : Fin 4) (y : Fin 512) (d : Fin 1024) : (gb x q (ix3 0 y d) : EReal) = x (ix3 0 y ⟨q.val * 1024 + d.val, by omega⟩) := by
  refine congrArg x (funext fun a => Fin.ext ?_)
  match a with | ⟨0, _⟩ => rfl | ⟨1, _⟩ => (show 0 + 1 * y.val = y.val; omega) | ⟨2, _⟩ => (show q.val * 1024 + 1 * d.val = q.val * 1024 + d.val; omega)
theorem wb_apply (x : Vec Ideal S4x512x1024 .bf16) (q : Fin 4) (k : Fin 512) (d : Fin 1024) : (wb x q (ix3 0 k d) : EReal) = x (ix3 q k d) := by
  refine congrArg x (funext fun a => Fin.ext ?_)
  match a with | ⟨0, _⟩ => (show q.val + 1 * 0 = q.val; omega) | ⟨1, _⟩ => (show 0 + 1 * k.val = k.val; omega) | ⟨2, _⟩ => (show 0 + 1 * d.val = d.val; omega)

/-- A gate. -/
def gate (z : EReal) : EReal := Ideal.div 1 (1 + Ideal.exp (0 - z))

theorem pay2_apply (g : Vec Ideal S1x512x1024 .bf16) (y : Vec Ideal S1x512x512 .bf16) (w : Vec Ideal S1x512x1024 .bf16) (n : Fin 512) (d : Fin 1024) :
    (k0_pay2 g y w (ix2 n d) : EReal) = gate (g (ix3 0 n d)) * ∑ k : Fin 512, y (ix3 0 n k) * w (ix3 0 k d) := by
  pointwise [k0_pay2]
  rfl
theorem pay3_apply (g : Vec Ideal S1x512x1024 .bf16) (y : Vec Ideal S1x512x512 .bf16) (w : Vec Ideal S1x512x1024 .bf16) (n : Fin 512) (d : Fin 1024) :
    (k0_pay3 g y w (ix2 n d) : EReal) = gate (g (ix3 0 n d)) * ∑ k : Fin 512, y (ix3 0 n k) * w (ix3 0 k d) := pay2_apply g y w n d
theorem pay5_apply (g : Vec Ideal S1x512x1024 .bf16) (y : Vec Ideal S1x512x512 .bf16) (w : Vec Ideal S1x512x1024 .bf16) (n : Fin 512) (d : Fin 1024) :
    (k0_pay5 g y w (ix2 n d) : EReal) = gate (g (ix3 0 n d)) * ∑ k : Fin 512, y (ix3 0 n k) * w (ix3 0 k d) := pay2_apply g y w n d
theorem pay4_apply (a b : FVec Ideal S512x1024 .f32) (g : Vec Ideal S1x512x1024 .bf16) (y : Vec Ideal S1x512x512 .bf16) (w : Vec Ideal S1x512x1024 .bf16) (n : Fin 512) (d : Fin 1024) :
    (k0_pay4 a b g y w (ix2 n d) : EReal) = a (ix2 n d) + b (ix2 n d) + gate (g (ix3 0 n d)) * ∑ k : Fin 512, y (ix3 0 n k) * w (ix3 0 k d) := by
  pointwise [k0_pay4]
  rfl
theorem pay1_apply (a b : FVec Ideal S512x1024 .f32) (wo : Vec Ideal S1024x1024 .bf16) (x : Vec Ideal S1x512x1024 .f32) (g bb : Vec Ideal S1x1024 .f32) (n : Fin 512) (d : Fin 1024) :
    (k0_pay1 a b wo x g bb (ix3 0 n d) : EReal)
      = norm (fun d => Ideal.ofBits .f32 0x3FB504F3#32 * x (ix3 0 n d) + ∑ k : Fin 1024, (a (ix2 n k) + b (ix2 n k)) * wo (ix2 k d)) (fun d => g (ix2 0 d)) (fun d => bb (ix2 0 d)) d := by
  pointwise [k0_pay1]
  rfl

variable (m : (ℓ : Loc nD τ sig) → Buf (Elt Ideal) ℓ)

/-- The arguments: the branches, -/
def yA (c : Dev nD) (q : Fin 4) : (⟨3, ![2, 16384, 512]⟩ : Shape).Idx → EReal := match q with
  | 0 => m (c, Proc.tc.devRef main_arg0)
  | 1 => m (c, Proc.tc.devRef main_arg1)
  | 2 => m (c, Proc.tc.devRef main_arg2)
  | 3 => m (c, Proc.tc.devRef main_arg3)
/-- and the others. -/
def pA (c : Dev nD) : (⟨3, ![2, 16384, 9216]⟩ : Shape).Idx → EReal := m (c, Proc.tc.devRef main_arg4)
def xA (c : Dev nD) : (⟨3, ![2, 16384, 1024]⟩ : Shape).Idx → EReal := m (c, Proc.tc.devRef main_arg5)
def bA (c : Dev nD) : (⟨3, ![4, 512, 1024]⟩ : Shape).Idx → EReal := m (c, Proc.tc.devRef main_arg6)
def oA (c : Dev nD) : (⟨2, ![1024, 1024]⟩ : Shape).Idx → EReal := m (c, Proc.tc.devRef main_arg7)
def lgA (c : Dev nD) : (⟨1, ![1024]⟩ : Shape).Idx → EReal := m (c, Proc.tc.devRef main_arg8)
def lbA (c : Dev nD) : (⟨1, ![1024]⟩ : Shape).Idx → EReal := m (c, Proc.tc.devRef main_arg9)

/-- The blocks' places at a point. -/
theorem idx (t : Fin cfg0.N) :
    win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0]
    ∧ win0_6.index t = ![0, 0, 0] ∧ win0_7.index t = ![0, 0] ∧ win0_8.index t = ![0, 0] ∧ win0_9.index t = ![0, 0]
    ∧ win0_10.index t = ![(grid0.coords t 0).val, (grid0.coords t 1).val, 0] := by
  revert t; decide +kernel

/-- A point's batch and tile. -/
def pb (t : Fin cfg0.N) : Fin 2 := grid0.coords t 0
def pi (t : Fin cfg0.N) : Fin 32 := grid0.coords t 1
/-- A token of a tile. -/
def tok (i : Fin 32) (y : Fin 512) : Fin 16384 := ⟨i.val * 512 + y.val, by omega⟩

theorem blk0 (c : Dev nD) (t : Fin cfg0.N) (y k : Fin 512) : (iblk m c 0 t (ix3 0 y k) : EReal) = yA m c 0 (ix3 (pb t) (tok (pi t) y) k) := by
  have e : (iblk m c 0 t (ix3 0 y k) : EReal) = (V m c main_v0 : (⟨3, ![2, 16384, 512]⟩ : Shape).Idx → EReal) (ix3 (pb t) (tok (pi t) y) k) := by
    unfold pb pi tok
    blk_ext [iblk, idx t]
  rw [e]; unfold V yA
  after_reads_at
theorem blk1 (c : Dev nD) (t : Fin cfg0.N) (y k : Fin 512) : (iblk m c 1 t (ix3 0 y k) : EReal) = yA m c 1 (ix3 (pb t) (tok (pi t) y) k) := by
  have e : (iblk m c 1 t (ix3 0 y k) : EReal) = (V m c main_v1 : (⟨3, ![2, 16384, 512]⟩ : Shape).Idx → EReal) (ix3 (pb t) (tok (pi t) y) k) := by
    unfold pb pi tok
    blk_ext [iblk, idx t]
  rw [e]; unfold V yA
  after_reads_at
theorem blk2 (c : Dev nD) (t : Fin cfg0.N) (y k : Fin 512) : (iblk m c 2 t (ix3 0 y k) : EReal) = yA m c 2 (ix3 (pb t) (tok (pi t) y) k) := by
  have e : (iblk m c 2 t (ix3 0 y k) : EReal) = (V m c main_v2 : (⟨3, ![2, 16384, 512]⟩ : Shape).Idx → EReal) (ix3 (pb t) (tok (pi t) y) k) := by
    unfold pb pi tok
    blk_ext [iblk, idx t]
  rw [e]; unfold V yA
  after_reads_at
theorem blk3 (c : Dev nD) (t : Fin cfg0.N) (y k : Fin 512) : (iblk m c 3 t (ix3 0 y k) : EReal) = yA m c 3 (ix3 (pb t) (tok (pi t) y) k) := by
  have e : (iblk m c 3 t (ix3 0 y k) : EReal) = (V m c main_v3 : (⟨3, ![2, 16384, 512]⟩ : Shape).Idx → EReal) (ix3 (pb t) (tok (pi t) y) k) := by
    unfold pb pi tok
    blk_ext [iblk, idx t]
  rw [e]; unfold V yA
  after_reads_at
theorem blk4 (c : Dev nD) (t : Fin cfg0.N) (y : Fin 512) (d : Fin 4096) : (X0_4 m c t (ix3 0 y d : S1x512x4096.Idx) : EReal) = pA m c (ix3 (pb t) (tok (pi t) y) ⟨d.val, by omega⟩) := by
  have e : (X0_4 m c t (ix3 0 y d : S1x512x4096.Idx) : EReal) = (V m c main_v4 : (⟨3, ![2, 16384, 9216]⟩ : Shape).Idx → EReal) (ix3 (pb t) (tok (pi t) y) ⟨d.val, by omega⟩) := by
    unfold X0_4 Pipeline.Window.fill
    rw [dif_pos (moved0_4 t _)]
    unfold pb pi tok
    blk_ext [iblk, idx t]
  rw [e]; unfold V pA
  after_reads_at
theorem blk5 (c : Dev nD) (t : Fin cfg0.N) (y : Fin 512) (d : Fin 1024) : (iblk m c 5 t (ix3 0 y d) : EReal) = xA m c (ix3 (pb t) (tok (pi t) y) d) := by
  rw [show xA m c = V m c main_arg5 from (V_main_arg5 m c).symm]
  unfold pb pi tok
  blk_ext [iblk, idx t]
theorem blk6 (c : Dev nD) (t : Fin cfg0.N) (q : Fin 4) (k : Fin 512) (d : Fin 1024) : (iblk m c 6 t (ix3 q k d) : EReal) = bA m c (ix3 q k d) := by
  have e : (iblk m c 6 t (ix3 q k d) : EReal) = (V m c main_v5 : (⟨3, ![4, 512, 1024]⟩ : Shape).Idx → EReal) (ix3 q k d) := by
    blk_ext [iblk, idx t]
  rw [e]; unfold V bA
  after_reads_at
theorem blk7 (c : Dev nD) (t : Fin cfg0.N) (k d : Fin 1024) : (iblk m c 7 t (ix2 k d) : EReal) = oA m c (ix2 k d) := by
  have e : (iblk m c 7 t (ix2 k d) : EReal) = (V m c main_v6 : (⟨2, ![1024, 1024]⟩ : Shape).Idx → EReal) (ix2 k d) := by
    blk_ext [iblk, idx t]
  rw [e]; unfold V oA
  after_reads_at
theorem blk8 (c : Dev nD) (t : Fin cfg0.N) (d : Fin 1024) : (iblk m c 8 t (ix2 0 d) : EReal) = lgA m c (ix1 d) := by
  have e : (iblk m c 8 t (ix2 0 d) : EReal) = (V m c main_v7 : (⟨2, ![1, 1024]⟩ : Shape).Idx → EReal) (ix2 0 d) := by
    blk_ext [iblk, idx t]
  rw [e]; unfold V lgA
  after_reads_at
theorem blk9 (c : Dev nD) (t : Fin cfg0.N) (d : Fin 1024) : (iblk m c 9 t (ix2 0 d) : EReal) = lbA m c (ix1 d) := by
  have e : (iblk m c 9 t (ix2 0 d) : EReal) = (V m c main_v8 : (⟨2, ![1, 1024]⟩ : Shape).Idx → EReal) (ix2 0 d) := by
    blk_ext [iblk, idx t]
  rw [e]; unfold V lbA
  after_reads_at

section
variable (y : Fin 4 → (⟨3, ![2, 16384, 512]⟩ : Shape).Idx → EReal) (p : (⟨3, ![2, 16384, 9216]⟩ : Shape).Idx → EReal) (x : (⟨3, ![2, 16384, 1024]⟩ : Shape).Idx → EReal)
  (w : (⟨3, ![4, 512, 1024]⟩ : Shape).Idx → EReal) (o : (⟨2, ![1024, 1024]⟩ : Shape).Idx → EReal) (lg lb : (⟨1, ![1024]⟩ : Shape).Idx → EReal) (b : Fin 2) (n : Fin 16384)

/-- A gated branch, -/
def branch (q : Fin 4) (d : Fin 1024) : EReal := gate (p (ix3 b n ⟨q.val * 1024 + d.val, by omega⟩)) * ∑ k : Fin 512, y q (ix3 b n k) * w (ix3 q k d)
/-- their sum -/
def branches (d : Fin 1024) : EReal := branch y p w b n 0 d + branch y p w b n 1 d + branch y p w b n 2 d + branch y p w b n 3 d
/-- and the merge's element. -/
def merged (d : Fin 1024) : EReal :=
  norm (fun d => Ideal.ofBits .f32 0x3FB504F3#32 * x (ix3 b n d) + ∑ k : Fin 1024, branches y p w b n k * o (ix2 k d)) (fun d => lg (ix1 d)) (fun d => lb (ix1 d)) d
end

/-- The whole result. -/
def G (c : Dev nD) : S2x16384x1024.Idx → EReal := fun z =>
  merged (yA m c) (pA m c) (xA m c) (bA m c) (oA m c) (lgA m c) (lbA m c) (z 0) (z 1) (z 2)

/-- The result's array after the run. -/
theorem result (c : Dev nD) : (dats m 0 c).arrAt 10 cfg0.N = G m c := by
  refine (dats m 0 c).arrAt_eq_of_covers 10 _ (by decide +kernel) fun t hf y => ?_
  blk_simp
  rw [after0_10]
  unfold outsAt0
  rw [out_eq]
  obtain ⟨y1, y2, rfl⟩ : ∃ (y1 : Fin 512) (y2 : Fin 1024), y = (ix3 0 y1 y2 : S1x512x1024.Idx) := by
    refine ⟨y 1, y 2, ?_⟩
    funext a
    apply Fin.ext
    match a with
    | ⟨0, _⟩ => exact Nat.lt_one_iff.1 (y 0).isLt
    | ⟨1, _⟩ => rfl
    | ⟨2, _⟩ => rfl
  have e : (win0_10.blk t).view.emb (ix3 0 y1 y2 : S1x512x1024.Idx)
      = (ix3 (pb t) (tok (pi t) y1) y2 : S2x16384x1024.Idx) := by
    unfold pb pi tok
    blk_ext [idx t]
  rw [e]
  unfold body
  refine (pay1_apply _ _ _ _ _ _ y1 y2).trans ?_
  simp only [pay2_apply, pay3_apply, pay4_apply, pay5_apply, gb_apply, wb_apply, blk0, blk1, blk2, blk3, blk4, blk5, blk6, blk7, blk8, blk9]
  rfl

end Cert.Kernel4Ideal.Val
-- ==== Proof.MrgRef.lean ====
/-
  What the merge's reference leaves.
-/
module

public import proofs.«01_k».proof.Proof.MrgResult
public import proofs.«01_k».proof.Proof.Gen.Reference4Ideal.Read

@[expose] public section

set_option maxRecDepth 16384

noncomputable section

namespace Cert.Reference4Ideal.Val

open Cert.Reference4Ideal Cert.Reference4Ideal.Read
open Cert.Kernel4Ideal.Val (gate branch branches merged)
open Cert.Route (norm mean)
open Idealize.ShloMosaic Idealize.ShloMosaic.TcCoe Idealize.ShloMosaic.Tactic

variable (x0 x1 x2 x3 : (⟨S2x16384x512, .f32⟩ : BufTy).Contents (Elt Ideal)) (x4 : (⟨S2x16384x9216, .f32⟩ : BufTy).Contents (Elt Ideal)) (x5 : (⟨S2x16384x1024, .f32⟩ : BufTy).Contents (Elt Ideal))
  (x6 : (⟨S4x512x1024, .f32⟩ : BufTy).Contents (Elt Ideal)) (x7 : (⟨S1024x1024, .f32⟩ : BufTy).Contents (Elt Ideal)) (x8 x9 : (⟨S1024, .f32⟩ : BufTy).Contents (Elt Ideal))

/-- The branches by their number. -/
def ys (q : Fin 4) : (⟨3, ![2, 16384, 512]⟩ : Shape).Idx → EReal := match q with
  | 0 => x0
  | 1 => x1
  | 2 => x2
  | 3 => x3

/-- The gates. -/
theorem v6_apply (b : Fin 2) (n : Fin 16384) (d : Fin 4096) : (val_main_v6 (F := Ideal) x4 (ix3 b n d) : EReal) = gate (x4 (ix3 b n ⟨d.val, by omega⟩)) := by
  pointwise [val_main_v0, val_main_v1, val_main_v2, val_main_v3, val_main_v4, val_main_v5, val_main_v6, val_main_cst, val_main_cst_0]
  unfold gate
  rw [zero_sub]
theorem v7_apply (b : Fin 2) (n : Fin 16384) (q : Fin 4) (d : Fin 1024) : (val_main_v7 (F := Ideal) x4 (ix4 b n q d) : EReal) = gate (x4 (ix3 b n ⟨q.val * 1024 + d.val, by omega⟩)) := by
  rw [show val_main_v7 (F := Ideal) x4 (ix4 b n q d) = val_main_v6 (F := Ideal) x4 (ix3 b n ⟨q.val * 1024 + d.val, by omega⟩) from ?_, v6_apply]
  pointwise [val_main_v7]

/-- The gated branches' sum. -/
theorem v34_apply (b : Fin 2) (n : Fin 16384) (d : Fin 1024) : (val_main_v34 (F := Ideal) x0 x1 x2 x3 x4 x6 (ix3 b n d) : EReal) = branches (ys x0 x1 x2 x3) x4 x6 b n d := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34]
  simp only [v7_apply]
  rfl

theorem v38_apply (b : Fin 2) (n : Fin 16384) (d : Fin 1024) : (val_main_v38 (F := Ideal) x0 x1 x2 x3 x4 x5 x6 x7 (ix3 b n d) : EReal)
    = Ideal.ofBits .f32 0x3FB504F3#32 * x5 (ix3 b n d) + ∑ k : Fin 1024, branches (ys x0 x1 x2 x3) x4 x6 b n k * x7 (ix2 k d) := by
  pointwise [val_main_v35, val_main_v36, val_main_v37, val_main_v38, val_main_cst_1]
  simp only [v34_apply]

theorem v62_apply (b : Fin 2) (n : Fin 16384) (d : Fin 1024) : (val_main_v62 (F := Ideal) x0 x1 x2 x3 x4 x5 x6 x7 x8 x9 (ix3 b n d) : EReal)
    = merged (ys x0 x1 x2 x3) x4 x5 x6 x7 x8 x9 b n d := by
  pointwise [val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_cst_2, val_main_cst_3, val_main_cst_4, val_main_cst_5, val_main_cst_6]
  simp only [v38_apply]
  rfl

end Cert.Reference4Ideal.Val
-- ==== Proof.lean ====
/-
  The claim, assembled: the frames from the kernel's run (one run at any float values, read at the machine's words and
  at the extended reals) and the reference's, and the equation of the two results from each result's value as a
  function of its arguments; for each of the four calls.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.ReferenceIdeal
public import proofs.«01_k».proof.Proof.Gen.Pre_finite_qk
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_routing
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Result
public import proofs.«01_k».proof.Proof.RefVal
public import proofs.«01_k».proof.Proof.Pre
public import proofs.«01_k».proof.Proof.MoeResult
public import proofs.«01_k».proof.Proof.MoeRef
public import proofs.«01_k».proof.Proof.MoePre
public import proofs.«01_k».proof.Proof.PrjResult
public import proofs.«01_k».proof.Proof.PrjRef
public import proofs.«01_k».proof.Proof.MrgResult
public import proofs.«01_k».proof.Proof.MrgRef
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Spec

/-- The two prints of the program are one text; their body tables agree label by label. -/
theorem bodies_eq : (Cert.Kernel.defs₀ (F := Bits) :
    Defs Cert.KernelIdeal.nD Cert.KernelIdeal.τ Cert.KernelIdeal.sig (Elt Bits) Cert.KernelIdeal.Λ₀) =
      Cert.KernelIdeal.defs₀ := by
  unfold Cert.Kernel.defs₀ Cert.KernelIdeal.defs₀
  congr 1
  funext l a
  match l, a with
  | 0, (t, s) => rfl

theorem defs_eq : (Cert.Kernel.defs (F := Bits) :
    Defs Cert.KernelIdeal.nD Cert.KernelIdeal.τ Cert.KernelIdeal.sig (Elt Bits)
      (Pipeline.Sig Cert.KernelIdeal.Λ₀ (Fin 1) fun p => (Cert.KernelIdeal.pcfgs (F := Bits) p).Adm)) =
      Cert.KernelIdeal.defs := by
  unfold Cert.Kernel.defs Cert.KernelIdeal.defs
  exact congrArg (Pipeline.defs (Cert.KernelIdeal.pcfgs (F := Bits))) bodies_eq

/-- So the run of the one, read at the machine's words, is the run of the other. -/
theorem frame_kernel : Cert.quiescent_Kernel := fun m ρ _ => by
  have h := Cert.KernelIdeal.Val.frame (F := Bits) m ρ
  rw [← defs_eq] at h
  exact h

theorem frame_ideal : Cert.quiescent_KernelIdeal := fun m ρ _ => Cert.KernelIdeal.Val.frame m ρ

/-- The reference has no semaphores at all. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem results_equal : Cert.algebraic_KernelIdeal_ReferenceIdeal_pre_finite_qk := by
  intro m g m' g' hpre hagree
  have hf := fun c => Cert.Pre_finite_qk.Val.finite _ _ _ (hpre c)
  have hq : ∀ c, Fin4 (Cert.KernelIdeal.Val.qA m c) := fun c => (hf c).1
  have hk : ∀ c, Fin4 (Cert.KernelIdeal.Val.kA m c) := fun c => (hf c).2
  have href : ∀ c, Cert.ReferenceIdeal.Value.res_main_v25 m' c = Cert.KernelIdeal.Val.G m c := by
    intro c
    rw [Cert.ReferenceIdeal.Read.val_main_v25_eq, (hagree c).1, (hagree c).2.1, (hagree c).2.2]
    funext x
    obtain ⟨b, i, l, rfl⟩ : ∃ (b : Fin 2) (i : Fin 16384) (l : Fin 512), x = ix3 b i l := ⟨x 0, x 1, x 2, eq_ix3 x⟩
    exact Cert.ReferenceIdeal.Val.val_apply _ _ (hq c) (hk c) _ b i l
  refine ⟨fun c => Cert.KernelIdeal.Val.G m c, ?_, ?_⟩
  · run_from (Cert.KernelIdeal.Val.run_main m g)
    exacts [Cert.KernelIdeal.Val.result m hq hk c, Cert.KernelIdeal.Gen.V_main_arg0 m c, Cert.KernelIdeal.Gen.V_main_arg1 m c,
      Cert.KernelIdeal.Gen.V_main_arg2 m c]
  · exact (θ_run Cert.ReferenceIdeal.defs _ _).mono (fun r h c => ⟨(h c).1.trans (href c), (h c).2⟩)
      (Cert.ReferenceIdeal.Value.run m' g')

/-! The experts' call, in the same way. -/

theorem bodies_eq2 : (Cert.Kernel2.defs₀ (F := Bits) :
    Defs Cert.Kernel2Ideal.nD Cert.Kernel2Ideal.τ Cert.Kernel2Ideal.sig (Elt Bits) Cert.Kernel2Ideal.Λ₀) =
      Cert.Kernel2Ideal.defs₀ := by
  unfold Cert.Kernel2.defs₀ Cert.Kernel2Ideal.defs₀
  congr 1
  funext l a
  match l, a with
  | 0, (t, s) => rfl

theorem defs_eq2 : (Cert.Kernel2.defs (F := Bits) :
    Defs Cert.Kernel2Ideal.nD Cert.Kernel2Ideal.τ Cert.Kernel2Ideal.sig (Elt Bits)
      (Pipeline.Sig Cert.Kernel2Ideal.Λ₀ (Fin 1) fun p => (Cert.Kernel2Ideal.pcfgs (F := Bits) p).Adm)) =
      Cert.Kernel2Ideal.defs := by
  unfold Cert.Kernel2.defs Cert.Kernel2Ideal.defs
  exact congrArg (Pipeline.defs (Cert.Kernel2Ideal.pcfgs (F := Bits))) bodies_eq2

theorem frame_kernel2 : Cert.quiescent_Kernel2 := fun m ρ _ => by
  have h := Cert.Kernel2Ideal.Val.frame (F := Bits) m ρ
  rw [← defs_eq2] at h
  exact h

theorem frame_ideal2 : Cert.quiescent_Kernel2Ideal := fun m ρ _ => Cert.Kernel2Ideal.Val.frame m ρ

theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem results_equal2 : Cert.algebraic_Kernel2Ideal_Reference2Ideal_pre_finite_routing := by
  intro m g m' g' hpre hagree
  have hf := fun c => Cert.Pre_finite_routing.Val.finite _ _ _ _ _ _ _ _ (hpre c)
  have hr : ∀ c, Cert.Route.Finite (Cert.Kernel2Ideal.Val.rA m c) := fun c => (hf c).1
  have hb : ∀ c, ∀ e : Fin 16, ⊥ < Cert.Kernel2Ideal.Val.bA m c (ix1 e) := fun c => (hf c).2
  have href : ∀ c : Dev Cert.Kernel2Ideal.nD, Cert.Reference2Ideal.Read.val_main_v72 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7)) =
      Cert.Kernel2Ideal.Val.G m c := by
    intro c
    obtain ⟨h0, h1, h2, h3, h4, h5, h6, h7⟩ := hagree c
    rw [h0, h1, h2, h3, h4, h5, h6, h7]
    funext x
    obtain ⟨b, n, d, rfl⟩ : ∃ (b : Fin 2) (n : Fin 16384) (d : Fin 1024), x = ix3 b n d := ⟨x 0, x 1, x 2, eq_ix3 x⟩
    exact Cert.Reference2Ideal.Read.v72_at _ _ _ _ _ _ _ _ b n d
  refine ⟨fun c => Cert.Kernel2Ideal.Val.G m c, ?_, ?_⟩
  · run_from (Cert.Kernel2Ideal.Val.run_main m g)
    exact Cert.Kernel2Ideal.Val.result m hr hb c
  · exact (θ_run Cert.Reference2Ideal.defs _ _).mono (fun r h c => ⟨(h c).1.trans ((Cert.Reference2Ideal.Read.val_main_v72_eq _).trans (href c)), (h c).2⟩)
      (Cert.Reference2Ideal.Value.run m' g')

/-! The input projection's call, with its two results. -/

theorem bodies_eq3 : (Cert.Kernel3.defs₀ (F := Bits) :
    Defs Cert.Kernel3Ideal.nD Cert.Kernel3Ideal.τ Cert.Kernel3Ideal.sig (Elt Bits) Cert.Kernel3Ideal.Λ₀) =
      Cert.Kernel3Ideal.defs₀ := by
  unfold Cert.Kernel3.defs₀ Cert.Kernel3Ideal.defs₀
  congr 1
  funext l a
  match l, a with
  | 0, (t, s) => rfl

theorem defs_eq3 : (Cert.Kernel3.defs (F := Bits) :
    Defs Cert.Kernel3Ideal.nD Cert.Kernel3Ideal.τ Cert.Kernel3Ideal.sig (Elt Bits)
      (Pipeline.Sig Cert.Kernel3Ideal.Λ₀ (Fin 1) fun p => (Cert.Kernel3Ideal.pcfgs (F := Bits) p).Adm)) =
      Cert.Kernel3Ideal.defs := by
  unfold Cert.Kernel3.defs Cert.Kernel3Ideal.defs
  exact congrArg (Pipeline.defs (Cert.Kernel3Ideal.pcfgs (F := Bits))) bodies_eq3

theorem frame_kernel3 : Cert.quiescent_Kernel3 := fun m ρ _ => by
  have h := Cert.Kernel3Ideal.Val.frame (F := Bits) m ρ
  rw [← defs_eq3] at h
  exact h

theorem frame_ideal3 : Cert.quiescent_Kernel3Ideal := fun m ρ _ => Cert.Kernel3Ideal.Val.frame m ρ

theorem frame_reference3 : Cert.quiescent_Reference3Ideal := fun m ρ _ =>
  (θ_run Cert.Reference3Ideal.defs _ _).mono
    (fun r h => ⟨fun c => (h c).2.2, sem_eq_zero_of_no_sems (by decide) r.2⟩) (Cert.Reference3Ideal.Value.run m ρ)

theorem results_equal3 : Cert.algebraic_Kernel3Ideal_Reference3Ideal := by
  intro m g m' g' _ hagree
  have h16 : ∀ c : Dev Cert.Kernel3Ideal.nD, Cert.Reference3Ideal.Read.val_main_v21 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) =
      Cert.Kernel3Ideal.Val.G16 m c := by
    intro c
    obtain ⟨h0, h1, h2⟩ := hagree c
    rw [h0, h1, h2]
    funext x
    obtain ⟨b, n, d, rfl⟩ : ∃ (b : Fin 2) (n : Fin 16384) (d : Fin 9216), x = ix3 b n d := ⟨x 0, x 1, x 2, eq_ix3 x⟩
    exact Cert.Reference3Ideal.Val.v21_apply _ _ _ b n d
  have h32 : ∀ c : Dev Cert.Kernel3Ideal.nD, Cert.Reference3Ideal.Read.val_main_v20 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) =
      Cert.Kernel3Ideal.Val.G32 m c := by
    intro c
    obtain ⟨h0, h1, h2⟩ := hagree c
    rw [h0, h1, h2]
    funext x
    obtain ⟨b, n, d, rfl⟩ : ∃ (b : Fin 2) (n : Fin 16384) (d : Fin 768), x = ix3 b n d := ⟨x 0, x 1, x 2, eq_ix3 x⟩
    exact Cert.Reference3Ideal.Val.v20_apply _ _ _ b n d
  refine ⟨fun c => Cert.Kernel3Ideal.Val.G16 m c, fun c => Cert.Kernel3Ideal.Val.G32 m c, ?_, ?_⟩
  · run_from (Cert.Kernel3Ideal.Val.run_main m g)
    exacts [Cert.Kernel3Ideal.Val.result16 m c, Cert.Kernel3Ideal.Val.result32 m c, Cert.Kernel3Ideal.Gen.V_main_arg1 m c,
      Cert.Kernel3Ideal.Gen.V_main_arg2 m c]
  · exact (θ_run Cert.Reference3Ideal.defs _ _).mono (fun r h c =>
      ⟨(h c).1.trans ((Cert.Reference3Ideal.Read.val_main_v21_eq _ _ _).trans (h16 c)),
        (h c).2.1.trans ((Cert.Reference3Ideal.Read.val_main_v20_eq m' c).trans (h32 c)), (h c).2.2⟩)
      (Cert.Reference3Ideal.Value.run m' g')

/-! The merge's call. -/

theorem bodies_eq4 : (Cert.Kernel4.defs₀ (F := Bits) :
    Defs Cert.Kernel4Ideal.nD Cert.Kernel4Ideal.τ Cert.Kernel4Ideal.sig (Elt Bits) Cert.Kernel4Ideal.Λ₀) =
      Cert.Kernel4Ideal.defs₀ := by
  unfold Cert.Kernel4.defs₀ Cert.Kernel4Ideal.defs₀
  congr 1
  funext l a
  match l, a with
  | 0, (t, s) => rfl

theorem defs_eq4 : (Cert.Kernel4.defs (F := Bits) :
    Defs Cert.Kernel4Ideal.nD Cert.Kernel4Ideal.τ Cert.Kernel4Ideal.sig (Elt Bits)
      (Pipeline.Sig Cert.Kernel4Ideal.Λ₀ (Fin 1) fun p => (Cert.Kernel4Ideal.pcfgs (F := Bits) p).Adm)) =
      Cert.Kernel4Ideal.defs := by
  unfold Cert.Kernel4.defs Cert.Kernel4Ideal.defs
  exact congrArg (Pipeline.defs (Cert.Kernel4Ideal.pcfgs (F := Bits))) bodies_eq4

theorem frame_kernel4 : Cert.quiescent_Kernel4 := fun m ρ _ => by
  have h := Cert.Kernel4Ideal.Gen.frame (F := Bits) m ρ
  rw [← defs_eq4] at h
  exact h

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem results_equal4 : Cert.algebraic_Kernel4Ideal_Reference4Ideal := by
  intro m g m' g' _ hagree
  have href : ∀ c : Dev Cert.Kernel4Ideal.nD, Cert.Reference4Ideal.Read.val_main_v62 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9)) =
      Cert.Kernel4Ideal.Val.G m c := by
    intro c
    obtain ⟨h0, h1, h2, h3, h4, h5, h6, h7, h8, h9⟩ := hagree c
    rw [h0, h1, h2, h3, h4, h5, h6, h7, h8, h9]
    funext x
    obtain ⟨b, n, d, rfl⟩ : ∃ (b : Fin 2) (n : Fin 16384) (d : Fin 1024), x = ix3 b n d := ⟨x 0, x 1, x 2, eq_ix3 x⟩
    have hy : Cert.Reference4Ideal.Val.ys (Cert.Kernel4Ideal.Val.yA m c 0) (Cert.Kernel4Ideal.Val.yA m c 1)
        (Cert.Kernel4Ideal.Val.yA m c 2) (Cert.Kernel4Ideal.Val.yA m c 3) = Cert.Kernel4Ideal.Val.yA m c := by
      funext q
      match q with
      | 0 => rfl
      | 1 => rfl
      | 2 => rfl
      | 3 => rfl
    refine (Cert.Reference4Ideal.Val.v62_apply _ _ _ _ _ _ _ _ _ _ b n d).trans ?_
    exact congrArg (fun y => Cert.Kernel4Ideal.Val.merged y (Cert.Kernel4Ideal.Val.pA m c) (Cert.Kernel4Ideal.Val.xA m c)
      (Cert.Kernel4Ideal.Val.bA m c) (Cert.Kernel4Ideal.Val.oA m c) (Cert.Kernel4Ideal.Val.lgA m c)
      (Cert.Kernel4Ideal.Val.lbA m c) b n d) hy
  refine ⟨fun c => Cert.Kernel4Ideal.Val.G m c, ?_, ?_⟩
  · exact (θ_run Cert.Kernel4Ideal.defs _ _).mono (fun r h c =>
      ⟨(h c).1.trans (Cert.Kernel4Ideal.Val.result m c), (h c).2⟩) (Cert.Kernel4Ideal.Value.run_blocks m g)
  · exact (θ_run Cert.Reference4Ideal.defs _ _).mono (fun r h c =>
      ⟨(h c).1.trans ((Cert.Reference4Ideal.Read.val_main_v62_eq m' c).trans (href c)), (h c).2⟩)
      (Cert.Reference4Ideal.Value.run m' g')

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_qk.Gen.facts, Cert.Pre_finite_routing.Gen.facts,
  frame_kernel, frame_ideal, fun m ρ _ => frame_ideal m ρ trivial, frame_reference, fun m ρ _ => frame_reference m ρ trivial,
  frame_kernel2, frame_ideal2, fun m ρ _ => frame_ideal2 m ρ trivial, frame_reference2,
  fun m ρ _ => frame_reference2 m ρ trivial,
  frame_kernel3, frame_ideal3, frame_reference3, frame_kernel4, frame_ideal4, frame_reference4,
  trivial, results_equal, trivial, results_equal2, trivial, results_equal3, trivial, results_equal4⟩

end Cert.Proof

end
